-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_TextQ (m : (ℓ : Loc Cert.TextQ.nD Cert.TextQ.τ Cert.TextQ.sig) → Buf (Elt Bits) ℓ) : Prop :=
  True

def Pre_TextQIdeal (m : (ℓ : Loc Cert.TextQIdeal.nD Cert.TextQIdeal.τ Cert.TextQIdeal.sig) → Buf (Elt Ideal) ℓ) : Prop :=
  True

def Pre_TextQReferenceIdeal (m : (ℓ : Loc Cert.TextQReferenceIdeal.nD Cert.TextQReferenceIdeal.τ Cert.TextQReferenceIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjReferenceIdeal (m : (ℓ : Loc Cert.OProjReferenceIdeal.nD Cert.OProjReferenceIdeal.τ Cert.OProjReferenceIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_TextQ [hTextQ : Cert.TextQ.Facts] : Prop :=
  ∀ (m : (ℓ : Loc Cert.TextQ.nD Cert.TextQ.τ Cert.TextQ.sig) → Buf (Elt Bits) ℓ) (g : Dev Cert.TextQ.nD → PrngReg), Pre_TextQ m →
    θ_run (Cert.TextQ.defs (F := Bits)) (onTc (τ := Cert.TextQ.τ) (Cert.TextQ.main (F := Bits))) ⟨m, fun _ => 0, g⟩ (fun r => (∀ c : Dev Cert.TextQ.nD,
      r.2.mem ((c.tc : Thread Cert.TextQ.nD Cert.TextQ.τ).loc Cert.TextQ.main_arg0) = m ((c.tc : Thread Cert.TextQ.nD Cert.TextQ.τ).loc Cert.TextQ.main_arg0)
      ∧ r.2.mem ((c.tc : Thread Cert.TextQ.nD Cert.TextQ.τ).loc Cert.TextQ.main_arg1) = m ((c.tc : Thread Cert.TextQ.nD Cert.TextQ.τ).loc Cert.TextQ.main_arg1)
      ∧ r.2.mem ((c.tc : Thread Cert.TextQ.nD Cert.TextQ.τ).loc Cert.TextQ.main_arg2) = m ((c.tc : Thread Cert.TextQ.nD Cert.TextQ.τ).loc Cert.TextQ.main_arg2)
      ∧ r.2.mem ((c.tc : Thread Cert.TextQ.nD Cert.TextQ.τ).loc Cert.TextQ.main_arg3) = m ((c.tc : Thread Cert.TextQ.nD Cert.TextQ.τ).loc Cert.TextQ.main_arg3)
      ∧ r.2.mem ((c.tc : Thread Cert.TextQ.nD Cert.TextQ.τ).loc Cert.TextQ.main_arg4) = m ((c.tc : Thread Cert.TextQ.nD Cert.TextQ.τ).loc Cert.TextQ.main_arg4))
      ∧ r.2.sem = fun _ => 0)

def quiescent_TextQIdeal [hTextQIdeal : Cert.TextQIdeal.Facts] : Prop :=
  ∀ (m : (ℓ : Loc Cert.TextQIdeal.nD Cert.TextQIdeal.τ Cert.TextQIdeal.sig) → Buf (Elt Ideal) ℓ) (g : Dev Cert.TextQIdeal.nD → PrngReg), Pre_TextQIdeal m →
    θ_run (Cert.TextQIdeal.defs (F := Ideal)) (onTc (τ := Cert.TextQIdeal.τ) (Cert.TextQIdeal.main (F := Ideal))) ⟨m, fun _ => 0, g⟩ (fun r => (∀ c : Dev Cert.TextQIdeal.nD,
      r.2.mem ((c.tc : Thread Cert.TextQIdeal.nD Cert.TextQIdeal.τ).loc Cert.TextQIdeal.main_arg0) = m ((c.tc : Thread Cert.TextQIdeal.nD Cert.TextQIdeal.τ).loc Cert.TextQIdeal.main_arg0)
      ∧ r.2.mem ((c.tc : Thread Cert.TextQIdeal.nD Cert.TextQIdeal.τ).loc Cert.TextQIdeal.main_arg1) = m ((c.tc : Thread Cert.TextQIdeal.nD Cert.TextQIdeal.τ).loc Cert.TextQIdeal.main_arg1)
      ∧ r.2.mem ((c.tc : Thread Cert.TextQIdeal.nD Cert.TextQIdeal.τ).loc Cert.TextQIdeal.main_arg2) = m ((c.tc : Thread Cert.TextQIdeal.nD Cert.TextQIdeal.τ).loc Cert.TextQIdeal.main_arg2)
      ∧ r.2.mem ((c.tc : Thread Cert.TextQIdeal.nD Cert.TextQIdeal.τ).loc Cert.TextQIdeal.main_arg3) = m ((c.tc : Thread Cert.TextQIdeal.nD Cert.TextQIdeal.τ).loc Cert.TextQIdeal.main_arg3)
      ∧ r.2.mem ((c.tc : Thread Cert.TextQIdeal.nD Cert.TextQIdeal.τ).loc Cert.TextQIdeal.main_arg4) = m ((c.tc : Thread Cert.TextQIdeal.nD Cert.TextQIdeal.τ).loc Cert.TextQIdeal.main_arg4))
      ∧ r.2.sem = fun _ => 0)

def quiescent_TextQReferenceIdeal [hTextQReferenceIdeal : Cert.TextQReferenceIdeal.Facts] : Prop :=
  ∀ (m : (ℓ : Loc Cert.TextQReferenceIdeal.nD Cert.TextQReferenceIdeal.τ Cert.TextQReferenceIdeal.sig) → Buf (Elt Ideal) ℓ) (g : Dev Cert.TextQReferenceIdeal.nD → PrngReg), Pre_TextQReferenceIdeal m →
    θ_run (Cert.TextQReferenceIdeal.defs (F := Ideal)) (onTc (τ := Cert.TextQReferenceIdeal.τ) (Cert.TextQReferenceIdeal.main (F := Ideal))) ⟨m, fun _ => 0, g⟩ (fun r => (∀ c : Dev Cert.TextQReferenceIdeal.nD,
      r.2.mem ((c.tc : Thread Cert.TextQReferenceIdeal.nD Cert.TextQReferenceIdeal.τ).loc Cert.TextQReferenceIdeal.main_arg0) = m ((c.tc : Thread Cert.TextQReferenceIdeal.nD Cert.TextQReferenceIdeal.τ).loc Cert.TextQReferenceIdeal.main_arg0)
      ∧ r.2.mem ((c.tc : Thread Cert.TextQReferenceIdeal.nD Cert.TextQReferenceIdeal.τ).loc Cert.TextQReferenceIdeal.main_arg1) = m ((c.tc : Thread Cert.TextQReferenceIdeal.nD Cert.TextQReferenceIdeal.τ).loc Cert.TextQReferenceIdeal.main_arg1)
      ∧ r.2.mem ((c.tc : Thread Cert.TextQReferenceIdeal.nD Cert.TextQReferenceIdeal.τ).loc Cert.TextQReferenceIdeal.main_arg2) = m ((c.tc : Thread Cert.TextQReferenceIdeal.nD Cert.TextQReferenceIdeal.τ).loc Cert.TextQReferenceIdeal.main_arg2)
      ∧ r.2.mem ((c.tc : Thread Cert.TextQReferenceIdeal.nD Cert.TextQReferenceIdeal.τ).loc Cert.TextQReferenceIdeal.main_arg3) = m ((c.tc : Thread Cert.TextQReferenceIdeal.nD Cert.TextQReferenceIdeal.τ).loc Cert.TextQReferenceIdeal.main_arg3)
      ∧ r.2.mem ((c.tc : Thread Cert.TextQReferenceIdeal.nD Cert.TextQReferenceIdeal.τ).loc Cert.TextQReferenceIdeal.main_arg4) = m ((c.tc : Thread Cert.TextQReferenceIdeal.nD Cert.TextQReferenceIdeal.τ).loc Cert.TextQReferenceIdeal.main_arg4))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6)
      ∧ r.2.mem ((c.tc : Thread Cert.OProj.nD Cert.OProj.τ).loc Cert.OProj.main_arg7) = m ((c.tc : Thread Cert.OProj.nD Cert.OProj.τ).loc Cert.OProj.main_arg7)
      ∧ r.2.mem ((c.tc : Thread Cert.OProj.nD Cert.OProj.τ).loc Cert.OProj.main_arg8) = m ((c.tc : Thread Cert.OProj.nD Cert.OProj.τ).loc Cert.OProj.main_arg8))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
      ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7)
      ∧ r.2.mem ((c.tc : Thread Cert.OProjIdeal.nD Cert.OProjIdeal.τ).loc Cert.OProjIdeal.main_arg8) = m ((c.tc : Thread Cert.OProjIdeal.nD Cert.OProjIdeal.τ).loc Cert.OProjIdeal.main_arg8))
      ∧ r.2.sem = fun _ => 0)

def quiescent_OProjReferenceIdeal [hOProjReferenceIdeal : Cert.OProjReferenceIdeal.Facts] : Prop :=
  ∀ (m : (ℓ : Loc Cert.OProjReferenceIdeal.nD Cert.OProjReferenceIdeal.τ Cert.OProjReferenceIdeal.sig) → Buf (Elt Ideal) ℓ) (g : Dev Cert.OProjReferenceIdeal.nD → PrngReg), Pre_OProjReferenceIdeal m →
    θ_run (Cert.OProjReferenceIdeal.defs (F := Ideal)) (onTc (τ := Cert.OProjReferenceIdeal.τ) (Cert.OProjReferenceIdeal.main (F := Ideal))) ⟨m, fun _ => 0, g⟩ (fun r => (∀ c : Dev Cert.OProjReferenceIdeal.nD,
      r.2.mem ((c.tc : Thread Cert.OProjReferenceIdeal.nD Cert.OProjReferenceIdeal.τ).loc Cert.OProjReferenceIdeal.main_arg0) = m ((c.tc : Thread Cert.OProjReferenceIdeal.nD Cert.OProjReferenceIdeal.τ).loc Cert.OProjReferenceIdeal.main_arg0)
      ∧ r.2.mem ((c.tc : Thread Cert.OProjReferenceIdeal.nD Cert.OProjReferenceIdeal.τ).loc Cert.OProjReferenceIdeal.main_arg1) = m ((c.tc : Thread Cert.OProjReferenceIdeal.nD Cert.OProjReferenceIdeal.τ).loc Cert.OProjReferenceIdeal.main_arg1)
      ∧ r.2.mem ((c.tc : Thread Cert.OProjReferenceIdeal.nD Cert.OProjReferenceIdeal.τ).loc Cert.OProjReferenceIdeal.main_arg2) = m ((c.tc : Thread Cert.OProjReferenceIdeal.nD Cert.OProjReferenceIdeal.τ).loc Cert.OProjReferenceIdeal.main_arg2)
      ∧ r.2.mem ((c.tc : Thread Cert.OProjReferenceIdeal.nD Cert.OProjReferenceIdeal.τ).loc Cert.OProjReferenceIdeal.main_arg3) = m ((c.tc : Thread Cert.OProjReferenceIdeal.nD Cert.OProjReferenceIdeal.τ).loc Cert.OProjReferenceIdeal.main_arg3)
      ∧ r.2.mem ((c.tc : Thread Cert.OProjReferenceIdeal.nD Cert.OProjReferenceIdeal.τ).loc Cert.OProjReferenceIdeal.main_arg4) = m ((c.tc : Thread Cert.OProjReferenceIdeal.nD Cert.OProjReferenceIdeal.τ).loc Cert.OProjReferenceIdeal.main_arg4)
      ∧ r.2.mem ((c.tc : Thread Cert.OProjReferenceIdeal.nD Cert.OProjReferenceIdeal.τ).loc Cert.OProjReferenceIdeal.main_arg5) = m ((c.tc : Thread Cert.OProjReferenceIdeal.nD Cert.OProjReferenceIdeal.τ).loc Cert.OProjReferenceIdeal.main_arg5)
      ∧ r.2.mem ((c.tc : Thread Cert.OProjReferenceIdeal.nD Cert.OProjReferenceIdeal.τ).loc Cert.OProjReferenceIdeal.main_arg6) = m ((c.tc : Thread Cert.OProjReferenceIdeal.nD Cert.OProjReferenceIdeal.τ).loc Cert.OProjReferenceIdeal.main_arg6)
      ∧ r.2.mem ((c.tc : Thread Cert.OProjReferenceIdeal.nD Cert.OProjReferenceIdeal.τ).loc Cert.OProjReferenceIdeal.main_arg7) = m ((c.tc : Thread Cert.OProjReferenceIdeal.nD Cert.OProjReferenceIdeal.τ).loc Cert.OProjReferenceIdeal.main_arg7)
      ∧ r.2.mem ((c.tc : Thread Cert.OProjReferenceIdeal.nD Cert.OProjReferenceIdeal.τ).loc Cert.OProjReferenceIdeal.main_arg8) = m ((c.tc : Thread Cert.OProjReferenceIdeal.nD Cert.OProjReferenceIdeal.τ).loc Cert.OProjReferenceIdeal.main_arg8))
      ∧ r.2.sem = fun _ => 0)

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v3_0) = v0 c
          ∧ r.2.mem ((c.tc : Thread Cert.GateUpReferenceIdeal.nD Cert.GateUpReferenceIdeal.τ).loc Cert.GateUpReferenceIdeal.main_v3_1) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_TextQ_TextQIdeal : Prop :=
  True

def algebraic_TextQIdeal_TextQReferenceIdeal [hTextQIdeal : Cert.TextQIdeal.Facts] [hTextQReferenceIdeal : Cert.TextQReferenceIdeal.Facts] : Prop :=
  ∀ (m : (ℓ : Loc Cert.TextQIdeal.nD Cert.TextQIdeal.τ Cert.TextQIdeal.sig) → Buf (Elt Ideal) ℓ) (g : Dev Cert.TextQIdeal.nD → PrngReg)
    (m' : (ℓ : Loc Cert.TextQReferenceIdeal.nD Cert.TextQReferenceIdeal.τ Cert.TextQReferenceIdeal.sig) → Buf (Elt Ideal) ℓ) (g' : Dev Cert.TextQReferenceIdeal.nD → PrngReg), Pre_TextQIdeal m →
    (∀ c : Dev Cert.TextQIdeal.nD,
      m' ((c.tc : Thread Cert.TextQReferenceIdeal.nD Cert.TextQReferenceIdeal.τ).loc Cert.TextQReferenceIdeal.main_arg0) = m ((c.tc : Thread Cert.TextQIdeal.nD Cert.TextQIdeal.τ).loc Cert.TextQIdeal.main_arg0)
      ∧ m' ((c.tc : Thread Cert.TextQReferenceIdeal.nD Cert.TextQReferenceIdeal.τ).loc Cert.TextQReferenceIdeal.main_arg1) = m ((c.tc : Thread Cert.TextQIdeal.nD Cert.TextQIdeal.τ).loc Cert.TextQIdeal.main_arg1)
      ∧ m' ((c.tc : Thread Cert.TextQReferenceIdeal.nD Cert.TextQReferenceIdeal.τ).loc Cert.TextQReferenceIdeal.main_arg2) = m ((c.tc : Thread Cert.TextQIdeal.nD Cert.TextQIdeal.τ).loc Cert.TextQIdeal.main_arg2)
      ∧ m' ((c.tc : Thread Cert.TextQReferenceIdeal.nD Cert.TextQReferenceIdeal.τ).loc Cert.TextQReferenceIdeal.main_arg3) = m ((c.tc : Thread Cert.TextQIdeal.nD Cert.TextQIdeal.τ).loc Cert.TextQIdeal.main_arg3)
      ∧ m' ((c.tc : Thread Cert.TextQReferenceIdeal.nD Cert.TextQReferenceIdeal.τ).loc Cert.TextQReferenceIdeal.main_arg4) = m ((c.tc : Thread Cert.TextQIdeal.nD Cert.TextQIdeal.τ).loc Cert.TextQIdeal.main_arg4)) →
    ∃ (v0 : (c : Dev Cert.TextQIdeal.nD) → Buf (Elt Ideal) ((c.tc : Thread Cert.TextQIdeal.nD Cert.TextQIdeal.τ).loc Cert.TextQIdeal.main_v4_0)) (v1 : (c : Dev Cert.TextQIdeal.nD) → Buf (Elt Ideal) ((c.tc : Thread Cert.TextQIdeal.nD Cert.TextQIdeal.τ).loc Cert.TextQIdeal.main_v4_1)) (v2 : (c : Dev Cert.TextQIdeal.nD) → Buf (Elt Ideal) ((c.tc : Thread Cert.TextQIdeal.nD Cert.TextQIdeal.τ).loc Cert.TextQIdeal.main_v4_2)),
      θ_run (Cert.TextQIdeal.defs (F := Ideal)) (onTc (τ := Cert.TextQIdeal.τ) (Cert.TextQIdeal.main (F := Ideal))) ⟨m, fun _ => 0, g⟩ (fun r => ∀ c : Dev Cert.TextQIdeal.nD,
          r.2.mem ((c.tc : Thread Cert.TextQIdeal.nD Cert.TextQIdeal.τ).loc Cert.TextQIdeal.main_v4_0) = v0 c
          ∧ r.2.mem ((c.tc : Thread Cert.TextQIdeal.nD Cert.TextQIdeal.τ).loc Cert.TextQIdeal.main_v4_1) = v1 c
          ∧ r.2.mem ((c.tc : Thread Cert.TextQIdeal.nD Cert.TextQIdeal.τ).loc Cert.TextQIdeal.main_v4_2) = v2 c
          ∧ r.2.mem ((c.tc : Thread Cert.TextQIdeal.nD Cert.TextQIdeal.τ).loc Cert.TextQIdeal.main_arg0) = m ((c.tc : Thread Cert.TextQIdeal.nD Cert.TextQIdeal.τ).loc Cert.TextQIdeal.main_arg0)
          ∧ r.2.mem ((c.tc : Thread Cert.TextQIdeal.nD Cert.TextQIdeal.τ).loc Cert.TextQIdeal.main_arg1) = m ((c.tc : Thread Cert.TextQIdeal.nD Cert.TextQIdeal.τ).loc Cert.TextQIdeal.main_arg1)
          ∧ r.2.mem ((c.tc : Thread Cert.TextQIdeal.nD Cert.TextQIdeal.τ).loc Cert.TextQIdeal.main_arg2) = m ((c.tc : Thread Cert.TextQIdeal.nD Cert.TextQIdeal.τ).loc Cert.TextQIdeal.main_arg2)
          ∧ r.2.mem ((c.tc : Thread Cert.TextQIdeal.nD Cert.TextQIdeal.τ).loc Cert.TextQIdeal.main_arg3) = m ((c.tc : Thread Cert.TextQIdeal.nD Cert.TextQIdeal.τ).loc Cert.TextQIdeal.main_arg3)
          ∧ r.2.mem ((c.tc : Thread Cert.TextQIdeal.nD Cert.TextQIdeal.τ).loc Cert.TextQIdeal.main_arg4) = m ((c.tc : Thread Cert.TextQIdeal.nD Cert.TextQIdeal.τ).loc Cert.TextQIdeal.main_arg4))
      ∧ θ_run (Cert.TextQReferenceIdeal.defs (F := Ideal)) (onTc (τ := Cert.TextQReferenceIdeal.τ) (Cert.TextQReferenceIdeal.main (F := Ideal))) ⟨m', fun _ => 0, g'⟩ (fun r => ∀ c : Dev Cert.TextQReferenceIdeal.nD,
          r.2.mem ((c.tc : Thread Cert.TextQReferenceIdeal.nD Cert.TextQReferenceIdeal.τ).loc Cert.TextQReferenceIdeal.main_v4_0) = v0 c
          ∧ r.2.mem ((c.tc : Thread Cert.TextQReferenceIdeal.nD Cert.TextQReferenceIdeal.τ).loc Cert.TextQReferenceIdeal.main_v4_1) = v1 c
          ∧ r.2.mem ((c.tc : Thread Cert.TextQReferenceIdeal.nD Cert.TextQReferenceIdeal.τ).loc Cert.TextQReferenceIdeal.main_v4_2) = v2 c
          ∧ r.2.mem ((c.tc : Thread Cert.TextQReferenceIdeal.nD Cert.TextQReferenceIdeal.τ).loc Cert.TextQReferenceIdeal.main_arg0) = m' ((c.tc : Thread Cert.TextQReferenceIdeal.nD Cert.TextQReferenceIdeal.τ).loc Cert.TextQReferenceIdeal.main_arg0)
          ∧ r.2.mem ((c.tc : Thread Cert.TextQReferenceIdeal.nD Cert.TextQReferenceIdeal.τ).loc Cert.TextQReferenceIdeal.main_arg1) = m' ((c.tc : Thread Cert.TextQReferenceIdeal.nD Cert.TextQReferenceIdeal.τ).loc Cert.TextQReferenceIdeal.main_arg1)
          ∧ r.2.mem ((c.tc : Thread Cert.TextQReferenceIdeal.nD Cert.TextQReferenceIdeal.τ).loc Cert.TextQReferenceIdeal.main_arg2) = m' ((c.tc : Thread Cert.TextQReferenceIdeal.nD Cert.TextQReferenceIdeal.τ).loc Cert.TextQReferenceIdeal.main_arg2)
          ∧ r.2.mem ((c.tc : Thread Cert.TextQReferenceIdeal.nD Cert.TextQReferenceIdeal.τ).loc Cert.TextQReferenceIdeal.main_arg3) = m' ((c.tc : Thread Cert.TextQReferenceIdeal.nD Cert.TextQReferenceIdeal.τ).loc Cert.TextQReferenceIdeal.main_arg3)
          ∧ r.2.mem ((c.tc : Thread Cert.TextQReferenceIdeal.nD Cert.TextQReferenceIdeal.τ).loc Cert.TextQReferenceIdeal.main_arg4) = m' ((c.tc : Thread Cert.TextQReferenceIdeal.nD Cert.TextQReferenceIdeal.τ).loc Cert.TextQReferenceIdeal.main_arg4))

def preserves_OProj_OProjIdeal : Prop :=
  True

def algebraic_OProjIdeal_OProjReferenceIdeal [hOProjIdeal : Cert.OProjIdeal.Facts] [hOProjReferenceIdeal : Cert.OProjReferenceIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjReferenceIdeal.nD Cert.OProjReferenceIdeal.τ Cert.OProjReferenceIdeal.sig) → Buf (Elt Ideal) ℓ) (g' : Dev Cert.OProjReferenceIdeal.nD → PrngReg), Pre_OProjIdeal m →
    (∀ c : Dev Cert.OProjIdeal.nD,
      m' ((c.tc : Thread Cert.OProjReferenceIdeal.nD Cert.OProjReferenceIdeal.τ).loc Cert.OProjReferenceIdeal.main_arg0) = m ((c.tc : Thread Cert.OProjIdeal.nD Cert.OProjIdeal.τ).loc Cert.OProjIdeal.main_arg0)
      ∧ m' ((c.tc : Thread Cert.OProjReferenceIdeal.nD Cert.OProjReferenceIdeal.τ).loc Cert.OProjReferenceIdeal.main_arg1) = m ((c.tc : Thread Cert.OProjIdeal.nD Cert.OProjIdeal.τ).loc Cert.OProjIdeal.main_arg1)
      ∧ m' ((c.tc : Thread Cert.OProjReferenceIdeal.nD Cert.OProjReferenceIdeal.τ).loc Cert.OProjReferenceIdeal.main_arg2) = m ((c.tc : Thread Cert.OProjIdeal.nD Cert.OProjIdeal.τ).loc Cert.OProjIdeal.main_arg2)
      ∧ m' ((c.tc : Thread Cert.OProjReferenceIdeal.nD Cert.OProjReferenceIdeal.τ).loc Cert.OProjReferenceIdeal.main_arg3) = m ((c.tc : Thread Cert.OProjIdeal.nD Cert.OProjIdeal.τ).loc Cert.OProjIdeal.main_arg3)
      ∧ m' ((c.tc : Thread Cert.OProjReferenceIdeal.nD Cert.OProjReferenceIdeal.τ).loc Cert.OProjReferenceIdeal.main_arg4) = m ((c.tc : Thread Cert.OProjIdeal.nD Cert.OProjIdeal.τ).loc Cert.OProjIdeal.main_arg4)
      ∧ m' ((c.tc : Thread Cert.OProjReferenceIdeal.nD Cert.OProjReferenceIdeal.τ).loc Cert.OProjReferenceIdeal.main_arg5) = m ((c.tc : Thread Cert.OProjIdeal.nD Cert.OProjIdeal.τ).loc Cert.OProjIdeal.main_arg5)
      ∧ m' ((c.tc : Thread Cert.OProjReferenceIdeal.nD Cert.OProjReferenceIdeal.τ).loc Cert.OProjReferenceIdeal.main_arg6) = m ((c.tc : Thread Cert.OProjIdeal.nD Cert.OProjIdeal.τ).loc Cert.OProjIdeal.main_arg6)
      ∧ m' ((c.tc : Thread Cert.OProjReferenceIdeal.nD Cert.OProjReferenceIdeal.τ).loc Cert.OProjReferenceIdeal.main_arg7) = m ((c.tc : Thread Cert.OProjIdeal.nD Cert.OProjIdeal.τ).loc Cert.OProjIdeal.main_arg7)
      ∧ m' ((c.tc : Thread Cert.OProjReferenceIdeal.nD Cert.OProjReferenceIdeal.τ).loc Cert.OProjReferenceIdeal.main_arg8) = m ((c.tc : Thread Cert.OProjIdeal.nD Cert.OProjIdeal.τ).loc Cert.OProjIdeal.main_arg8)) →
    ∃ (v0 : (c : Dev Cert.OProjIdeal.nD) → Buf (Elt Ideal) ((c.tc : Thread Cert.OProjIdeal.nD Cert.OProjIdeal.τ).loc Cert.OProjIdeal.main_v12_0)) (v1 : (c : Dev Cert.OProjIdeal.nD) → Buf (Elt Ideal) ((c.tc : Thread Cert.OProjIdeal.nD Cert.OProjIdeal.τ).loc Cert.OProjIdeal.main_v12_1)) (v2 : (c : Dev Cert.OProjIdeal.nD) → Buf (Elt Ideal) ((c.tc : Thread Cert.OProjIdeal.nD Cert.OProjIdeal.τ).loc Cert.OProjIdeal.main_v12_2)) (v3 : (c : Dev Cert.OProjIdeal.nD) → Buf (Elt Ideal) ((c.tc : Thread Cert.OProjIdeal.nD Cert.OProjIdeal.τ).loc Cert.OProjIdeal.main_v12_3)) (v4 : (c : Dev Cert.OProjIdeal.nD) → Buf (Elt Ideal) ((c.tc : Thread Cert.OProjIdeal.nD Cert.OProjIdeal.τ).loc Cert.OProjIdeal.main_v12_4)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v12_0) = v0 c
          ∧ r.2.mem ((c.tc : Thread Cert.OProjIdeal.nD Cert.OProjIdeal.τ).loc Cert.OProjIdeal.main_v12_1) = v1 c
          ∧ r.2.mem ((c.tc : Thread Cert.OProjIdeal.nD Cert.OProjIdeal.τ).loc Cert.OProjIdeal.main_v12_2) = v2 c
          ∧ r.2.mem ((c.tc : Thread Cert.OProjIdeal.nD Cert.OProjIdeal.τ).loc Cert.OProjIdeal.main_v12_3) = v3 c
          ∧ r.2.mem ((c.tc : Thread Cert.OProjIdeal.nD Cert.OProjIdeal.τ).loc Cert.OProjIdeal.main_v12_4) = v4 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
          ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7)
          ∧ r.2.mem ((c.tc : Thread Cert.OProjIdeal.nD Cert.OProjIdeal.τ).loc Cert.OProjIdeal.main_arg8) = m ((c.tc : Thread Cert.OProjIdeal.nD Cert.OProjIdeal.τ).loc Cert.OProjIdeal.main_arg8))
      ∧ θ_run (Cert.OProjReferenceIdeal.defs (F := Ideal)) (onTc (τ := Cert.OProjReferenceIdeal.τ) (Cert.OProjReferenceIdeal.main (F := Ideal))) ⟨m', fun _ => 0, g'⟩ (fun r => ∀ c : Dev Cert.OProjReferenceIdeal.nD,
          r.2.mem ((c.tc : Thread Cert.OProjReferenceIdeal.nD Cert.OProjReferenceIdeal.τ).loc Cert.OProjReferenceIdeal.main_v9_0) = v0 c
          ∧ r.2.mem ((c.tc : Thread Cert.OProjReferenceIdeal.nD Cert.OProjReferenceIdeal.τ).loc Cert.OProjReferenceIdeal.main_v9_1) = v1 c
          ∧ r.2.mem ((c.tc : Thread Cert.OProjReferenceIdeal.nD Cert.OProjReferenceIdeal.τ).loc Cert.OProjReferenceIdeal.main_v9_2) = v2 c
          ∧ r.2.mem ((c.tc : Thread Cert.OProjReferenceIdeal.nD Cert.OProjReferenceIdeal.τ).loc Cert.OProjReferenceIdeal.main_v9_3) = v3 c
          ∧ r.2.mem ((c.tc : Thread Cert.OProjReferenceIdeal.nD Cert.OProjReferenceIdeal.τ).loc Cert.OProjReferenceIdeal.main_v9_4) = v4 c
          ∧ r.2.mem ((c.tc : Thread Cert.OProjReferenceIdeal.nD Cert.OProjReferenceIdeal.τ).loc Cert.OProjReferenceIdeal.main_arg0) = m' ((c.tc : Thread Cert.OProjReferenceIdeal.nD Cert.OProjReferenceIdeal.τ).loc Cert.OProjReferenceIdeal.main_arg0)
          ∧ r.2.mem ((c.tc : Thread Cert.OProjReferenceIdeal.nD Cert.OProjReferenceIdeal.τ).loc Cert.OProjReferenceIdeal.main_arg1) = m' ((c.tc : Thread Cert.OProjReferenceIdeal.nD Cert.OProjReferenceIdeal.τ).loc Cert.OProjReferenceIdeal.main_arg1)
          ∧ r.2.mem ((c.tc : Thread Cert.OProjReferenceIdeal.nD Cert.OProjReferenceIdeal.τ).loc Cert.OProjReferenceIdeal.main_arg2) = m' ((c.tc : Thread Cert.OProjReferenceIdeal.nD Cert.OProjReferenceIdeal.τ).loc Cert.OProjReferenceIdeal.main_arg2)
          ∧ r.2.mem ((c.tc : Thread Cert.OProjReferenceIdeal.nD Cert.OProjReferenceIdeal.τ).loc Cert.OProjReferenceIdeal.main_arg3) = m' ((c.tc : Thread Cert.OProjReferenceIdeal.nD Cert.OProjReferenceIdeal.τ).loc Cert.OProjReferenceIdeal.main_arg3)
          ∧ r.2.mem ((c.tc : Thread Cert.OProjReferenceIdeal.nD Cert.OProjReferenceIdeal.τ).loc Cert.OProjReferenceIdeal.main_arg4) = m' ((c.tc : Thread Cert.OProjReferenceIdeal.nD Cert.OProjReferenceIdeal.τ).loc Cert.OProjReferenceIdeal.main_arg4)
          ∧ r.2.mem ((c.tc : Thread Cert.OProjReferenceIdeal.nD Cert.OProjReferenceIdeal.τ).loc Cert.OProjReferenceIdeal.main_arg5) = m' ((c.tc : Thread Cert.OProjReferenceIdeal.nD Cert.OProjReferenceIdeal.τ).loc Cert.OProjReferenceIdeal.main_arg5)
          ∧ r.2.mem ((c.tc : Thread Cert.OProjReferenceIdeal.nD Cert.OProjReferenceIdeal.τ).loc Cert.OProjReferenceIdeal.main_arg6) = m' ((c.tc : Thread Cert.OProjReferenceIdeal.nD Cert.OProjReferenceIdeal.τ).loc Cert.OProjReferenceIdeal.main_arg6)
          ∧ r.2.mem ((c.tc : Thread Cert.OProjReferenceIdeal.nD Cert.OProjReferenceIdeal.τ).loc Cert.OProjReferenceIdeal.main_arg7) = m' ((c.tc : Thread Cert.OProjReferenceIdeal.nD Cert.OProjReferenceIdeal.τ).loc Cert.OProjReferenceIdeal.main_arg7)
          ∧ r.2.mem ((c.tc : Thread Cert.OProjReferenceIdeal.nD Cert.OProjReferenceIdeal.τ).loc Cert.OProjReferenceIdeal.main_arg8) = m' ((c.tc : Thread Cert.OProjReferenceIdeal.nD Cert.OProjReferenceIdeal.τ).loc Cert.OProjReferenceIdeal.main_arg8))

def Claim : Prop :=
  ∃ (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hTextQ : Cert.TextQ.Facts) (hTextQIdeal : Cert.TextQIdeal.Facts) (hTextQReferenceIdeal : Cert.TextQReferenceIdeal.Facts) (hOProj : Cert.OProj.Facts) (hOProjIdeal : Cert.OProjIdeal.Facts) (hOProjReferenceIdeal : Cert.OProjReferenceIdeal.Facts),
    quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Down (hDown := hDown)
    ∧ quiescent_DownIdeal (hDownIdeal := hDownIdeal)
    ∧ quiescent_DownReferenceIdeal (hDownReferenceIdeal := hDownReferenceIdeal)
    ∧ quiescent_TextQ (hTextQ := hTextQ)
    ∧ quiescent_TextQIdeal (hTextQIdeal := hTextQIdeal)
    ∧ quiescent_TextQReferenceIdeal (hTextQReferenceIdeal := hTextQReferenceIdeal)
    ∧ quiescent_OProj (hOProj := hOProj)
    ∧ quiescent_OProjIdeal (hOProjIdeal := hOProjIdeal)
    ∧ quiescent_OProjReferenceIdeal (hOProjReferenceIdeal := hOProjReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Down_DownIdeal
    ∧ algebraic_DownIdeal_DownReferenceIdeal (hDownIdeal := hDownIdeal) (hDownReferenceIdeal := hDownReferenceIdeal)
    ∧ preserves_TextQ_TextQIdeal
    ∧ algebraic_TextQIdeal_TextQReferenceIdeal (hTextQIdeal := hTextQIdeal) (hTextQReferenceIdeal := hTextQReferenceIdeal)
    ∧ preserves_OProj_OProjIdeal
    ∧ algebraic_OProjIdeal_OProjReferenceIdeal (hOProjIdeal := hOProjIdeal) (hOProjReferenceIdeal := hOProjReferenceIdeal)
-- ==== GateUp.lean ====
abbrev S1536x4096 : Shape := ⟨2, ![1536, 4096]⟩
abbrev S3x512 : Shape := ⟨2, ![3, 512]⟩
abbrev S4096x3584 : Shape := ⟨2, ![4096, 3584]⟩
abbrev S3584 : Shape := ⟨1, ![3584]⟩
abbrev S6x1x256 : Shape := ⟨3, ![6, 1, 256]⟩
abbrev S1x3584 : Shape := ⟨2, ![1, 3584]⟩
abbrev S1536x3584 : Shape := ⟨2, ![1536, 3584]⟩
abbrev S256x4096 : Shape := ⟨2, ![256, 4096]⟩
abbrev S1x1x256 : Shape := ⟨3, ![1, 1, 256]⟩
abbrev S256x3584 : Shape := ⟨2, ![256, 3584]⟩
abbrev S1x1x128 : Shape := ⟨3, ![1, 1, 128]⟩
abbrev S1x128 : Shape := ⟨2, ![1, 128]⟩
abbrev S128x128 : Shape := ⟨2, ![128, 128]⟩
abbrev S128x1 : Shape := ⟨2, ![128, 1]⟩
abbrev S256x1 : Shape := ⟨2, ![256, 1]⟩
abbrev S256 : Shape := ⟨1, ![256]⟩
abbrev S1x256 : Shape := ⟨2, ![1, 256]⟩

abbrev nBuf : Space → Nat
  | .hbm => 11
  | .vmem => 11
  | .smem => 0
  | _ => 0

abbrev bufTy : (tb : Table) → Fin (tcTables nBuf tb) → BufTy
  | .hbm, ⟨0, _⟩ => ⟨S1536x4096, .fp8e4m3⟩
  | .hbm, ⟨1, _⟩ => ⟨S3x512, .f32⟩
  | .hbm, ⟨2, _⟩ => ⟨S4096x3584, .fp8e4m3⟩
  | .hbm, ⟨3, _⟩ => ⟨S4096x3584, .fp8e4m3⟩
  | .hbm, ⟨4, _⟩ => ⟨S3584, .f32⟩
  | .hbm, ⟨5, _⟩ => ⟨S3584, .f32⟩
  | .hbm, ⟨6, _⟩ => ⟨S6x1x256, .f32⟩
  | .hbm, ⟨7, _⟩ => ⟨S1x3584, .f32⟩
  | .hbm, ⟨8, _⟩ => ⟨S1x3584, .f32⟩
  | .hbm, ⟨9, _⟩ => ⟨S1536x3584, .fp8e4m3⟩
  | .hbm, ⟨10, _⟩ => ⟨S3x512, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S1x1x256, .f32⟩
  | .local _ .vmem, ⟨3, _⟩ => ⟨S1x1x256, .f32⟩
  | .local _ .vmem, ⟨4, _⟩ => ⟨S4096x3584, .fp8e4m3⟩
  | .local _ .vmem, ⟨5, _⟩ => ⟨S4096x3584, .fp8e4m3⟩
  | .local _ .vmem, ⟨6, _⟩ => ⟨S1x3584, .f32⟩
  | .local _ .vmem, ⟨7, _⟩ => ⟨S1x3584, .f32⟩
  | .local _ .vmem, ⟨8, _⟩ => ⟨S256x3584, .fp8e4m3⟩
  | .local _ .vmem, ⟨9, _⟩ => ⟨S256x3584, .fp8e4m3⟩
  | .local _ .vmem, ⟨10, _⟩ => ⟨S3x512, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c2_i32 : BitVec 32 := 2#32
  let c0_i32 : BitVec 32 := 0#32
  let v50 : BitVec 1 := Scalar.cmpi .eq c2_i32 c0_i32
  let c1_i32 : BitVec 32 := 1#32
  let v51 : BitVec 32 := Scalar.select v50 c1_i32 c2_i32
  let v52 : BitVec 32 := Scalar.remsi arg0 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let c256_i32 : BitVec 32 := 256#32
  let v60 : BitVec 32 := Scalar.muli v59 c256_i32
  v60
def k0_off1 (i : grid0.Coords) : Fin 2 → Nat :=
  let arg0 : BitVec 32 := BitVec.ofNat 32 (i 0).val
  let c0_i32_27 : BitVec 32 := 0#32
  let v74 : BitVec 1 := Scalar.cmpi .sgt arg0 c0_i32_27
  let v75 : BitVec 32 := Scalar.extui v74
  let c0_i32_28 : BitVec 32 := 0#32
  let v76 : BitVec 1 := Scalar.cmpi .slt arg0 c0_i32_28
  let v77 : BitVec 32 := Scalar.extui v76
  let v78 : BitVec 32 := Scalar.subi v75 v77
  let c2_i32_26 : BitVec 32 := 2#32
  let c0_i32_29 : BitVec 32 := 0#32
  let v79 : BitVec 1 := Scalar.cmpi .sgt c2_i32_26 c0_i32_29
  let v80 : BitVec 32 := Scalar.extui v79
  let c0_i32_30 : BitVec 32 := 0#32
  let v81 : BitVec 1 := Scalar.cmpi .slt c2_i32_26 c0_i32_30
  let v82 : BitVec 32 := Scalar.extui v81
  let v83 : BitVec 32 := Scalar.subi v80 v82
  let v84 : BitVec 1 := Scalar.cmpi .ne v78 v83
  let v85 : BitVec 32 := Scalar.remsi arg0 c2_i32_26
  let c0_i32_31 : BitVec 32 := 0#32
  let v86 : BitVec 1 := Scalar.cmpi .ne v85 c0_i32_31
  let v87 : BitVec 1 := Scalar.andi v84 v86
  let v73 : BitVec 32 := Scalar.divsi arg0 c2_i32_26
  let c1_i32_32 : BitVec 32 := 1#32
  let v88 : BitVec 32 := Scalar.subi v73 c1_i32_32
  let v89 : BitVec 32 := Scalar.select v87 v88 v73
  let v90 : Index := Scalar.indexCast v89
  let c2_i32 : BitVec 32 := 2#32
  let c0_i32 : BitVec 32 := 0#32
  let v50 : BitVec 1 := Scalar.cmpi .eq c2_i32 c0_i32
  let c1_i32 : BitVec 32 := 1#32
  let v51 : BitVec 32 := Scalar.select v50 c1_i32 c2_i32
  let v52 : BitVec 32 := Scalar.remsi arg0 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let c256_i32 : BitVec 32 := 256#32
  let v60 : BitVec 32 := Scalar.muli v59 c256_i32
  let v61 : BitVec 32 := v60
  let v91 : Index := Scalar.indexCast v61
  ![v90.toNat, v91.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpReferenceIdeal.lean ====
abbrev S1536x4096 : Shape := ⟨2, ![1536, 4096]⟩
abbrev S3x512 : Shape := ⟨2, ![3, 512]⟩
abbrev S4096x3584 : Shape := ⟨2, ![4096, 3584]⟩
abbrev S3584 : Shape := ⟨1, ![3584]⟩
abbrev S1536x1 : Shape := ⟨2, ![1536, 1]⟩
abbrev S1x3584 : Shape := ⟨2, ![1, 3584]⟩
abbrev S1536x3584 : Shape := ⟨2, ![1536, 3584]⟩
abbrev S3x512x3584 : Shape := ⟨3, ![3, 512, 3584]⟩
abbrev S3x512x1 : Shape := ⟨3, ![3, 512, 1]⟩

abbrev nBuf : Space → Nat
  | .hbm => 11
  | .vmem => 8
  | .smem => 0
  | _ => 0

abbrev bufTy : (tb : Table) → Fin (tcTables nBuf tb) → BufTy
  | .hbm, ⟨0, _⟩ => ⟨S1536x4096, .fp8e4m3⟩
  | .hbm, ⟨1, _⟩ => ⟨S3x512, .f32⟩
  | .hbm, ⟨2, _⟩ => ⟨S4096x3584, .fp8e4m3⟩
  | .hbm, ⟨3, _⟩ => ⟨S4096x3584, .fp8e4m3⟩
  | .hbm, ⟨4, _⟩ => ⟨S3584, .f32⟩
  | .hbm, ⟨5, _⟩ => ⟨S3584, .f32⟩
  | .hbm, ⟨6, _⟩ => ⟨S1536x1, .f32⟩
  | .hbm, ⟨7, _⟩ => ⟨S1x3584, .f32⟩
  | .hbm, ⟨8, _⟩ => ⟨S1x3584, .f32⟩
  | .hbm, ⟨9, _⟩ => ⟨S1536x3584, .fp8e4m3⟩
  | .hbm, ⟨10, _⟩ => ⟨S3x512, .f32⟩
  | .local _ .vmem, ⟨0, _⟩ => ⟨S1536x4096, .fp8e4m3⟩
  | .local _ .vmem, ⟨1, _⟩ => ⟨S1536x1, .f32⟩
  | .local _ .vmem, ⟨2, _⟩ => ⟨S4096x3584, .fp8e4m3⟩
  | .local _ .vmem, ⟨3, _⟩ => ⟨S4096x3584, .fp8e4m3⟩
  | .local _ .vmem, ⟨4, _⟩ => ⟨S1x3584, .f32⟩
  | .local _ .vmem, ⟨5, _⟩ => ⟨S1x3584, .f32⟩
  | .local _ .vmem, ⟨6, _⟩ => ⟨S1536x3584, .fp8e4m3⟩
  | .local _ .vmem, ⟨7, _⟩ => ⟨S3x512, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S1536x3584 : Shape := ⟨2, ![1536, 3584]⟩
abbrev S3x512 : Shape := ⟨2, ![3, 512]⟩
abbrev S1536x4096 : Shape := ⟨2, ![1536, 4096]⟩
abbrev S3584x4096 : Shape := ⟨2, ![3584, 4096]⟩
abbrev S4096 : Shape := ⟨1, ![4096]⟩
abbrev S1 : Shape := ⟨1, ![1]⟩
abbrev S6x1x256 : Shape := ⟨3, ![6, 1, 256]⟩
abbrev S1x4096 : Shape := ⟨2, ![1, 4096]⟩
abbrev S1x1 : Shape := ⟨2, ![1, 1]⟩
abbrev S256x3584 : Shape := ⟨2, ![256, 3584]⟩
abbrev S1x1x256 : Shape := ⟨3, ![1, 1, 256]⟩
abbrev S256x4096 : Shape := ⟨2, ![256, 4096]⟩
abbrev S1x1x128 : Shape := ⟨3, ![1, 1, 128]⟩
abbrev S1x128 : Shape := ⟨2, ![1, 128]⟩
abbrev S128x128 : Shape := ⟨2, ![128, 128]⟩
abbrev S128x1 : Shape := ⟨2, ![128, 1]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S1536x3584, .fp8e4m3⟩
  | .hbm, ⟨1, _⟩ => ⟨S3x512, .f32⟩
  | .hbm, ⟨2, _⟩ => ⟨S1536x4096, .f32⟩
  | .hbm, ⟨3, _⟩ => ⟨S3584x4096, .fp8e4m3⟩
  | .hbm, ⟨4, _⟩ => ⟨S4096, .f32⟩
  | .hbm, ⟨5, _⟩ => ⟨S1, .f32⟩
  | .hbm, ⟨6, _⟩ => ⟨S6x1x256, .f32⟩
  | .hbm, ⟨7, _⟩ => ⟨S1x4096, .f32⟩
  | .hbm, ⟨8, _⟩ => ⟨S1, .f32⟩
  | .hbm, ⟨9, _⟩ => ⟨S1x1, .f32⟩
  | .hbm, ⟨10, _⟩ => ⟨S1536x4096, .bf16⟩
  | .local _ .vmem, ⟨0, _⟩ => ⟨S256x3584, .fp8e4m3⟩
  | .local _ .vmem, ⟨1, _⟩ => ⟨S256x3584, .fp8e4m3⟩
  | .local _ .vmem, ⟨2, _⟩ => ⟨S1x1x256, .f32⟩
  | .local _ .vmem, ⟨3, _⟩ => ⟨S1x1x256, .f32⟩
  | .local _ .vmem, ⟨4, _⟩ => ⟨S256x4096, .f32⟩
  | .local _ .vmem, ⟨5, _⟩ => ⟨S256x4096, .f32⟩
  | .local _ .vmem, ⟨6, _⟩ => ⟨S3584x4096, .fp8e4m3⟩
  | .local _ .vmem, ⟨7, _⟩ => ⟨S1x4096, .f32⟩
  | .local _ .vmem, ⟨8, _⟩ => ⟨S1x1, .f32⟩
  | .local _ .vmem, ⟨9, _⟩ => ⟨S256x4096, .bf16⟩
  | .local _ .vmem, ⟨10, _⟩ => ⟨S256x4096, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownReferenceIdeal.lean ====
abbrev S1536x3584 : Shape := ⟨2, ![1536, 3584]⟩
abbrev S3x512 : Shape := ⟨2, ![3, 512]⟩
abbrev S1536x4096 : Shape := ⟨2, ![1536, 4096]⟩
abbrev S3584x4096 : Shape := ⟨2, ![3584, 4096]⟩
abbrev S4096 : Shape := ⟨1, ![4096]⟩
abbrev S1 : Shape := ⟨1, ![1]⟩
abbrev S1x1 : Shape := ⟨2, ![1, 1]⟩
abbrev S1536x1 : Shape := ⟨2, ![1536, 1]⟩
abbrev S1x4096 : Shape := ⟨2, ![1, 4096]⟩

abbrev nBuf : Space → Nat
  | .hbm => 11
  | .vmem => 7
  | .smem => 0
  | _ => 0

abbrev bufTy : (tb : Table) → Fin (tcTables nBuf tb) → BufTy
  | .hbm, ⟨0, _⟩ => ⟨S1536x3584, .fp8e4m3⟩
  | .hbm, ⟨1, _⟩ => ⟨S3x512, .f32⟩
  | .hbm, ⟨2, _⟩ => ⟨S1536x4096, .f32⟩
  | .hbm, ⟨3, _⟩ => ⟨S3584x4096, .fp8e4m3⟩
  | .hbm, ⟨4, _⟩ => ⟨S4096, .f32⟩
  | .hbm, ⟨5, _⟩ => ⟨S1, .f32⟩
  | .hbm, ⟨6, _⟩ => ⟨S1, .f32⟩
  | .hbm, ⟨7, _⟩ => ⟨S1x1, .f32⟩
  | .hbm, ⟨8, _⟩ => ⟨S1536x1, .f32⟩
  | .hbm, ⟨9, _⟩ => ⟨S1x4096, .f32⟩
  | .hbm, ⟨10, _⟩ => ⟨S1536x4096, .bf16⟩
  | .local _ .vmem, ⟨0, _⟩ => ⟨S1536x3584, .fp8e4m3⟩
  | .local _ .vmem, ⟨1, _⟩ => ⟨S1536x1, .f32⟩
  | .local _ .vmem, ⟨2, _⟩ => ⟨S1536x4096, .f32⟩
  | .local _ .vmem, ⟨3, _⟩ => ⟨S3584x4096, .fp8e4m3⟩
  | .local _ .vmem, ⟨4, _⟩ => ⟨S1x4096, .f32⟩
  | .local _ .vmem, ⟨5, _⟩ => ⟨S1x1, .f32⟩
  | .local _ .vmem, ⟨6, _⟩ => ⟨S1536x4096, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== TextQ.lean ====
abbrev S3x512x4096 : Shape := ⟨3, ![3, 512, 4096]⟩
abbrev S4096 : Shape := ⟨1, ![4096]⟩
abbrev S4096x1024 : Shape := ⟨2, ![4096, 1024]⟩
abbrev S1024 : Shape := ⟨1, ![1024]⟩
abbrev S128 : Shape := ⟨1, ![128]⟩
abbrev S1536x4096 : Shape := ⟨2, ![1536, 4096]⟩
abbrev S1x4096 : Shape := ⟨2, ![1, 4096]⟩
abbrev S1x1024 : Shape := ⟨2, ![1, 1024]⟩
abbrev S1x128 : Shape := ⟨2, ![1, 128]⟩
abbrev S3x512 : Shape := ⟨2, ![3, 512]⟩
abbrev S1536x1024 : Shape := ⟨2, ![1536, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S1x256 : Shape := ⟨2, ![1, 256]⟩
abbrev S256x128 : Shape := ⟨2, ![256, 128]⟩

abbrev nBuf : Space → Nat
  | .hbm => 12
  | .vmem => 11
  | .smem => 0
  | _ => 0

abbrev bufTy : (tb : Table) → Fin (tcTables nBuf tb) → BufTy
  | .hbm, ⟨0, _⟩ => ⟨S3x512x4096, .bf16⟩
  | .hbm, ⟨1, _⟩ => ⟨S4096, .f32⟩
  | .hbm, ⟨2, _⟩ => ⟨S4096x1024, .fp8e4m3⟩
  | .hbm, ⟨3, _⟩ => ⟨S1024, .f32⟩
  | .hbm, ⟨4, _⟩ => ⟨S128, .f32⟩
  | .hbm, ⟨5, _⟩ => ⟨S1536x4096, .bf16⟩
  | .hbm, ⟨6, _⟩ => ⟨S1x4096, .f32⟩
  | .hbm, ⟨7, _⟩ => ⟨S1x1024, .f32⟩
  | .hbm, ⟨8, _⟩ => ⟨S1x128, .f32⟩
  | .hbm, ⟨9, _⟩ => ⟨S1536x4096, .fp8e4m3⟩
  | .hbm, ⟨10, _⟩ => ⟨S3x512, .f32⟩
  | .hbm, ⟨11, _⟩ => ⟨S1536x1024, .bf16⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x1024, .fp8e4m3⟩
  | .local _ .vmem, ⟨4, _⟩ => ⟨S1x1024, .f32⟩
  | .local _ .vmem, ⟨5, _⟩ => ⟨S1x128, .f32⟩
  | .local _ .vmem, ⟨6, _⟩ => ⟨S256x4096, .fp8e4m3⟩
  | .local _ .vmem, ⟨7, _⟩ => ⟨S256x4096, .fp8e4m3⟩
  | .local _ .vmem, ⟨8, _⟩ => ⟨S3x512, .f32⟩
  | .local _ .vmem, ⟨9, _⟩ => ⟨S256x1024, .bf16⟩
  | .local _ .vmem, ⟨10, _⟩ => ⟨S256x1024, .bf16⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c2_i32 : BitVec 32 := 2#32
  let c0_i32 : BitVec 32 := 0#32
  let v34 : BitVec 1 := Scalar.cmpi .eq c2_i32 c0_i32
  let c1_i32 : BitVec 32 := 1#32
  let v35 : BitVec 32 := Scalar.select v34 c1_i32 c2_i32
  let v36 : BitVec 32 := Scalar.remsi arg0 v35
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let c0_i32_13 : BitVec 32 := 0#32
  let v37 : BitVec 1 := Scalar.cmpi .ne v36 c0_i32_13
  let v41 : BitVec 1 := Scalar.andi v40 v37
  let v42 : BitVec 32 := Scalar.addi v36 v35
  let v43 : BitVec 32 := Scalar.select v41 v42 v36
  let c256_i32 : BitVec 32 := 256#32
  let v44 : BitVec 32 := Scalar.muli v43 c256_i32
  v44
def k0_off1 (i : grid0.Coords) : Fin 2 → Nat :=
  let arg0 : BitVec 32 := BitVec.ofNat 32 (i 0).val
  let c0_i32_17 : BitVec 32 := 0#32
  let v58 : BitVec 1 := Scalar.cmpi .sgt arg0 c0_i32_17
  let v59 : BitVec 32 := Scalar.extui v58
  let c0_i32_18 : BitVec 32 := 0#32
  let v60 : BitVec 1 := Scalar.cmpi .slt arg0 c0_i32_18
  let v61 : BitVec 32 := Scalar.extui v60
  let v62 : BitVec 32 := Scalar.subi v59 v61
  let c2_i32_16 : BitVec 32 := 2#32
  let c0_i32_19 : BitVec 32 := 0#32
  let v63 : BitVec 1 := Scalar.cmpi .sgt c2_i32_16 c0_i32_19
  let v64 : BitVec 32 := Scalar.extui v63
  let c0_i32_20 : BitVec 32 := 0#32
  let v65 : BitVec 1 := Scalar.cmpi .slt c2_i32_16 c0_i32_20
  let v66 : BitVec 32 := Scalar.extui v65
  let v67 : BitVec 32 := Scalar.subi v64 v66
  let v68 : BitVec 1 := Scalar.cmpi .ne v62 v67
  let v69 : BitVec 32 := Scalar.remsi arg0 c2_i32_16
  let c0_i32_21 : BitVec 32 := 0#32
  let v70 : BitVec 1 := Scalar.cmpi .ne v69 c0_i32_21
  let v71 : BitVec 1 := Scalar.andi v68 v70
  let v57 : BitVec 32 := Scalar.divsi arg0 c2_i32_16
  let c1_i32_22 : BitVec 32 := 1#32
  let v72 : BitVec 32 := Scalar.subi v57 c1_i32_22
  let v73 : BitVec 32 := Scalar.select v71 v72 v57
  let v74 : Index := Scalar.indexCast v73
  let c2_i32 : BitVec 32 := 2#32
  let c0_i32 : BitVec 32 := 0#32
  let v34 : BitVec 1 := Scalar.cmpi .eq c2_i32 c0_i32
  let c1_i32 : BitVec 32 := 1#32
  let v35 : BitVec 32 := Scalar.select v34 c1_i32 c2_i32
  let v36 : BitVec 32 := Scalar.remsi arg0 v35
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let c0_i32_13 : BitVec 32 := 0#32
  let v37 : BitVec 1 := Scalar.cmpi .ne v36 c0_i32_13
  let v41 : BitVec 1 := Scalar.andi v40 v37
  let v42 : BitVec 32 := Scalar.addi v36 v35
  let v43 : BitVec 32 := Scalar.select v41 v42 v36
  let c256_i32 : BitVec 32 := 256#32
  let v44 : BitVec 32 := Scalar.muli v43 c256_i32
  let v45 : BitVec 32 := v44
  let v75 : Index := Scalar.indexCast v45
  ![v74.toNat, v75.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TextQReferenceIdeal.lean ====
abbrev S3x512x4096 : Shape := ⟨3, ![3, 512, 4096]⟩
abbrev S4096 : Shape := ⟨1, ![4096]⟩
abbrev S4096x1024 : Shape := ⟨2, ![4096, 1024]⟩
abbrev S1024 : Shape := ⟨1, ![1024]⟩
abbrev S128 : Shape := ⟨1, ![128]⟩
abbrev S1536x4096 : Shape := ⟨2, ![1536, 4096]⟩
abbrev S1x4096 : Shape := ⟨2, ![1, 4096]⟩
abbrev S1x1x1024 : Shape := ⟨3, ![1, 1, 1024]⟩
abbrev S1x1x128 : Shape := ⟨3, ![1, 1, 128]⟩
abbrev S3x512 : Shape := ⟨2, ![3, 512]⟩
abbrev S1536x1024 : Shape := ⟨2, ![1536, 1024]⟩
abbrev S1536 : Shape := ⟨1, ![1536]⟩
abbrev S1536x1 : Shape := ⟨2, ![1536, 1]⟩
abbrev S3x512x1 : Shape := ⟨3, ![3, 512, 1]⟩
abbrev S3x512x1024 : Shape := ⟨3, ![3, 512, 1024]⟩
abbrev S1536x8x128 : Shape := ⟨3, ![1536, 8, 128]⟩
abbrev S1536x8 : Shape := ⟨2, ![1536, 8]⟩
abbrev S1536x8x1 : Shape := ⟨3, ![1536, 8, 1]⟩

abbrev nBuf : Space → Nat
  | .hbm => 12
  | .vmem => 8
  | .smem => 0
  | _ => 0

abbrev bufTy : (tb : Table) → Fin (tcTables nBuf tb) → BufTy
  | .hbm, ⟨0, _⟩ => ⟨S3x512x4096, .bf16⟩
  | .hbm, ⟨1, _⟩ => ⟨S4096, .f32⟩
  | .hbm, ⟨2, _⟩ => ⟨S4096x1024, .fp8e4m3⟩
  | .hbm, ⟨3, _⟩ => ⟨S1024, .f32⟩
  | .hbm, ⟨4, _⟩ => ⟨S128, .f32⟩
  | .hbm, ⟨5, _⟩ => ⟨S1536x4096, .bf16⟩
  | .hbm, ⟨6, _⟩ => ⟨S1x4096, .f32⟩
  | .hbm, ⟨7, _⟩ => ⟨S1x1x1024, .f32⟩
  | .hbm, ⟨8, _⟩ => ⟨S1x1x128, .f32⟩
  | .hbm, ⟨9, _⟩ => ⟨S1536x4096, .fp8e4m3⟩
  | .hbm, ⟨10, _⟩ => ⟨S3x512, .f32⟩
  | .hbm, ⟨11, _⟩ => ⟨S1536x1024, .bf16⟩
  | .local _ .vmem, ⟨0, _⟩ => ⟨S1536x4096, .bf16⟩
  | .local _ .vmem, ⟨1, _⟩ => ⟨S1x4096, .f32⟩
  | .local _ .vmem, ⟨2, _⟩ => ⟨S4096x1024, .fp8e4m3⟩
  | .local _ .vmem, ⟨3, _⟩ => ⟨S1x1x1024, .f32⟩
  | .local _ .vmem, ⟨4, _⟩ => ⟨S1x1x128, .f32⟩
  | .local _ .vmem, ⟨5, _⟩ => ⟨S1536x4096, .fp8e4m3⟩
  | .local _ .vmem, ⟨6, _⟩ => ⟨S3x512, .f32⟩
  | .local _ .vmem, ⟨7, _⟩ => ⟨S1536x1024, .bf16⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== OProj.lean ====
abbrev S3x512x1024 : Shape := ⟨3, ![3, 512, 1024]⟩
abbrev S3x512x4096 : Shape := ⟨3, ![3, 512, 4096]⟩
abbrev S3 : Shape := ⟨1, ![3]⟩
abbrev S3x512 : Shape := ⟨2, ![3, 512]⟩
abbrev S1024x4096 : Shape := ⟨2, ![1024, 4096]⟩
abbrev S4096 : Shape := ⟨1, ![4096]⟩
abbrev S1 : Shape := ⟨1, ![1]⟩
abbrev S1536x4096 : Shape := ⟨2, ![1536, 4096]⟩
abbrev S3x1 : Shape := ⟨2, ![3, 1]⟩
abbrev S_ : Shape := ⟨0, ![]⟩
abbrev S6x1x256 : Shape := ⟨3, ![6, 1, 256]⟩
abbrev S1536x1024 : Shape := ⟨2, ![1536, 1024]⟩
abbrev S1x4096 : Shape := ⟨2, ![1, 4096]⟩
abbrev S1x1 : Shape := ⟨2, ![1, 1]⟩
abbrev S256x1024 : Shape := ⟨2, ![256, 1024]⟩
abbrev S256x4096 : Shape := ⟨2, ![256, 4096]⟩
abbrev S1x1x256 : Shape := ⟨3, ![1, 1, 256]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S1x128 : Shape := ⟨2, ![1, 128]⟩
abbrev S1x256 : Shape := ⟨2, ![1, 256]⟩
abbrev S1x1x128 : Shape := ⟨3, ![1, 1, 128]⟩

abbrev nBuf : Space → Nat
  | .hbm => 30
  | .vmem => 18
  | .smem => 0
  | _ => 0

abbrev bufTy : (tb : Table) → Fin (tcTables nBuf tb) → BufTy
  | .hbm, ⟨0, _⟩ => ⟨S3x512x1024, .f32⟩
  | .hbm, ⟨1, _⟩ => ⟨S3x512x4096, .bf16⟩
  | .hbm, ⟨2, _⟩ => ⟨S3, .i32⟩
  | .hbm, ⟨3, _⟩ => ⟨S3x512, .i32⟩
  | .hbm, ⟨4, _⟩ => ⟨S3x512, .i32⟩
  | .hbm, ⟨5, _⟩ => ⟨S1024x4096, .fp8e4m3⟩
  | .hbm, ⟨6, _⟩ => ⟨S4096, .f32⟩
  | .hbm, ⟨7, _⟩ => ⟨S1, .f32⟩
  | .hbm, ⟨8, _⟩ => ⟨S4096, .f32⟩
  | .hbm, ⟨9, _⟩ => ⟨S1536x4096, .bf16⟩
  | .hbm, ⟨10, _⟩ => ⟨S3x1, .i32⟩
  | .hbm, ⟨11, _⟩ => ⟨S3x512, .i32⟩
  | .hbm, ⟨12, _⟩ => ⟨S3x512, .i32⟩
  | .hbm, ⟨13, _⟩ => ⟨S3x512, .i1⟩
  | .hbm, ⟨14, _⟩ => ⟨S_, .f32⟩
  | .hbm, ⟨15, _⟩ => ⟨S_, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S6x1x256, .f32⟩
  | .hbm, ⟨20, _⟩ => ⟨S1536x1024, .f32⟩
  | .hbm, ⟨21, _⟩ => ⟨S1x4096, .f32⟩
  | .hbm, ⟨22, _⟩ => ⟨S1, .f32⟩
  | .hbm, ⟨23, _⟩ => ⟨S1x1, .f32⟩
  | .hbm, ⟨24, _⟩ => ⟨S1x4096, .f32⟩
  | .hbm, ⟨25, _⟩ => ⟨S1536x1024, .fp8e4m3⟩
  | .hbm, ⟨26, _⟩ => ⟨S3x512, .f32⟩
  | .hbm, ⟨27, _⟩ => ⟨S1536x4096, .f32⟩
  | .hbm, ⟨28, _⟩ => ⟨S1536x4096, .fp8e4m3⟩
  | .hbm, ⟨29, _⟩ => ⟨S3x512, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .fp8e4m3⟩
  | .local _ .vmem, ⟨5, _⟩ => ⟨S1x4096, .f32⟩
  | .local _ .vmem, ⟨6, _⟩ => ⟨S1x1, .f32⟩
  | .local _ .vmem, ⟨7, _⟩ => ⟨S1x4096, .f32⟩
  | .local _ .vmem, ⟨8, _⟩ => ⟨S1x1x256, .f32⟩
  | .local _ .vmem, ⟨9, _⟩ => ⟨S1x1x256, .f32⟩
  | .local _ .vmem, ⟨10, _⟩ => ⟨S256x1024, .fp8e4m3⟩
  | .local _ .vmem, ⟨11, _⟩ => ⟨S256x1024, .fp8e4m3⟩
  | .local _ .vmem, ⟨12, _⟩ => ⟨S3x512, .f32⟩
  | .local _ .vmem, ⟨13, _⟩ => ⟨S256x4096, .f32⟩
  | .local _ .vmem, ⟨14, _⟩ => ⟨S256x4096, .f32⟩
  | .local _ .vmem, ⟨15, _⟩ => ⟨S256x4096, .fp8e4m3⟩
  | .local _ .vmem, ⟨16, _⟩ => ⟨S256x4096, .fp8e4m3⟩
  | .local _ .vmem, ⟨17, _⟩ => ⟨S3x512, .f32⟩
  | _, _ => ⟨S3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c2_i32 : BitVec 32 := 2#32
  let c0_i32 : BitVec 32 := 0#32
  let v19 : BitVec 1 := Scalar.cmpi .eq c2_i32 c0_i32
  let c1_i32 : BitVec 32 := 1#32
  let v20 : BitVec 32 := Scalar.select v19 c1_i32 c2_i32
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  v29
def k0_off1 (i : grid0.Coords) : Fin 2 → Nat :=
  let arg0 : BitVec 32 := BitVec.ofNat 32 (i 0).val
  let c0_i32_12 : BitVec 32 := 0#32
  let v43 : BitVec 1 := Scalar.cmpi .sgt arg0 c0_i32_12
  let v44 : BitVec 32 := Scalar.extui v43
  let c0_i32_13 : BitVec 32 := 0#32
  let v45 : BitVec 1 := Scalar.cmpi .slt arg0 c0_i32_13
  let v46 : BitVec 32 := Scalar.extui v45
  let v47 : BitVec 32 := Scalar.subi v44 v46
  let c2_i32_11 : BitVec 32 := 2#32
  let c0_i32_14 : BitVec 32 := 0#32
  let v48 : BitVec 1 := Scalar.cmpi .sgt c2_i32_11 c0_i32_14
  let v49 : BitVec 32 := Scalar.extui v48
  let c0_i32_15 : BitVec 32 := 0#32
  let v50 : BitVec 1 := Scalar.cmpi .slt c2_i32_11 c0_i32_15
  let v51 : BitVec 32 := Scalar.extui v50
  let v52 : BitVec 32 := Scalar.subi v49 v51
  let v53 : BitVec 1 := Scalar.cmpi .ne v47 v52
  let v54 : BitVec 32 := Scalar.remsi arg0 c2_i32_11
  let c0_i32_16 : BitVec 32 := 0#32
  let v55 : BitVec 1 := Scalar.cmpi .ne v54 c0_i32_16
  let v56 : BitVec 1 := Scalar.andi v53 v55
  let v42 : BitVec 32 := Scalar.divsi arg0 c2_i32_11
  let c1_i32_17 : BitVec 32 := 1#32
  let v57 : BitVec 32 := Scalar.subi v42 c1_i32_17
  let v58 : BitVec 32 := Scalar.select v56 v57 v42
  let v59 : Index := Scalar.indexCast v58
  let c2_i32 : BitVec 32 := 2#32
  let c0_i32 : BitVec 32 := 0#32
  let v19 : BitVec 1 := Scalar.cmpi .eq c2_i32 c0_i32
  let c1_i32 : BitVec 32 := 1#32
  let v20 : BitVec 32 := Scalar.select v19 c1_i32 c2_i32
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v30 : BitVec 32 := v29
  let v60 : Index := Scalar.indexCast v30
  ![v59.toNat, v60.toNat]
def k0_mult2 (i : grid0.Coords) : BitVec 32 :=
  let arg0 : BitVec 32 := BitVec.ofNat 32 (i 0).val
  let c2_i32_49 : BitVec 32 := 2#32
  let c0_i32_50 : BitVec 32 := 0#32
  let v129 : BitVec 1 := Scalar.cmpi .eq c2_i32_49 c0_i32_50
  let c1_i32_51 : BitVec 32 := 1#32
  let v130 : BitVec 32 := Scalar.select v129 c1_i32_51 c2_i32_49
  let v131 : BitVec 32 := Scalar.remsi arg0 v130
  let c0_i32_53 : BitVec 32 := 0#32
  let v133 : BitVec 1 := Scalar.cmpi .slt v131 c0_i32_53
  let c0_i32_54 : BitVec 32 := 0#32
  let v134 : BitVec 1 := Scalar.cmpi .slt v130 c0_i32_54
  let v135 : BitVec 1 := Scalar.xori v133 v134
  let c0_i32_52 : BitVec 32 := 0#32
  let v132 : BitVec 1 := Scalar.cmpi .ne v131 c0_i32_52
  let v136 : BitVec 1 := Scalar.andi v135 v132
  let v137 : BitVec 32 := Scalar.addi v131 v130
  let v138 : BitVec 32 := Scalar.select v136 v137 v131
  let c256_i32_55 : BitVec 32 := 256#32
  let v139 : BitVec 32 := Scalar.muli v138 c256_i32_55
  v139
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OProjReferenceIdeal.lean ====
abbrev S3x512x1024 : Shape := ⟨3, ![3, 512, 1024]⟩
abbrev S3x512x4096 : Shape := ⟨3, ![3, 512, 4096]⟩
abbrev S3 : Shape := ⟨1, ![3]⟩
abbrev S3x512 : Shape := ⟨2, ![3, 512]⟩
abbrev S1024x4096 : Shape := ⟨2, ![1024, 4096]⟩
abbrev S4096 : Shape := ⟨1, ![4096]⟩
abbrev S1 : Shape := ⟨1, ![1]⟩
abbrev S3x1 : Shape := ⟨2, ![3, 1]⟩
abbrev S3x512x1 : Shape := ⟨3, ![3, 512, 1]⟩
abbrev S1x1x4096 : Shape := ⟨3, ![1, 1, 4096]⟩
abbrev S1x1x1 : Shape := ⟨3, ![1, 1, 1]⟩
abbrev S1536x1024 : Shape := ⟨2, ![1536, 1024]⟩
abbrev S1536x4096 : Shape := ⟨2, ![1536, 4096]⟩

abbrev nBuf : Space → Nat
  | .hbm => 23
  | .vmem => 13
  | .smem => 0
  | _ => 0

abbrev bufTy : (tb : Table) → Fin (tcTables nBuf tb) → BufTy
  | .hbm, ⟨0, _⟩ => ⟨S3x512x1024, .f32⟩
  | .hbm, ⟨1, _⟩ => ⟨S3x512x4096, .bf16⟩
  | .hbm, ⟨2, _⟩ => ⟨S3, .i32⟩
  | .hbm, ⟨3, _⟩ => ⟨S3x512, .i32⟩
  | .hbm, ⟨4, _⟩ => ⟨S3x512, .i32⟩
  | .hbm, ⟨5, _⟩ => ⟨S1024x4096, .fp8e4m3⟩
  | .hbm, ⟨6, _⟩ => ⟨S4096, .f32⟩
  | .hbm, ⟨7, _⟩ => ⟨S1, .f32⟩
  | .hbm, ⟨8, _⟩ => ⟨S4096, .f32⟩
  | .hbm, ⟨9, _⟩ => ⟨S1, .f32⟩
  | .hbm, ⟨10, _⟩ => ⟨S3x1, .i32⟩
  | .hbm, ⟨11, _⟩ => ⟨S3x512, .i32⟩
  | .hbm, ⟨12, _⟩ => ⟨S3x512, .i32⟩
  | .hbm, ⟨13, _⟩ => ⟨S3x512x1, .i32⟩
  | .hbm, ⟨14, _⟩ => ⟨S3x512x1, .i32⟩
  | .hbm, ⟨15, _⟩ => ⟨S1x1x4096, .f32⟩
  | .hbm, ⟨16, _⟩ => ⟨S1x1x1, .f32⟩
  | .hbm, ⟨17, _⟩ => ⟨S1x1x4096, .f32⟩
  | .hbm, ⟨18, _⟩ => ⟨S1536x1024, .fp8e4m3⟩
  | .hbm, ⟨19, _⟩ => ⟨S3x512, .f32⟩
  | .hbm, ⟨20, _⟩ => ⟨S1536x4096, .f32⟩
  | .hbm, ⟨21, _⟩ => ⟨S1536x4096, .fp8e4m3⟩
  | .hbm, ⟨22, _⟩ => ⟨S3x512, .f32⟩
  | .local _ .vmem, ⟨0, _⟩ => ⟨S3x512x1024, .f32⟩
  | .local _ .vmem, ⟨1, _⟩ => ⟨S3x512x4096, .bf16⟩
  | .local _ .vmem, ⟨2, _⟩ => ⟨S3x512x1, .i32⟩
  | .local _ .vmem, ⟨3, _⟩ => ⟨S3x512x1, .i32⟩
  | .local _ .vmem, ⟨4, _⟩ => ⟨S1024x4096, .fp8e4m3⟩
  | .local _ .vmem, ⟨5, _⟩ => ⟨S1x1x4096, .f32⟩
  | .local _ .vmem, ⟨6, _⟩ => ⟨S1x1x1, .f32⟩
  | .local _ .vmem, ⟨7, _⟩ => ⟨S1x1x4096, .f32⟩
  | .local _ .vmem, ⟨8, _⟩ => ⟨S1536x1024, .fp8e4m3⟩
  | .local _ .vmem, ⟨9, _⟩ => ⟨S3x512, .f32⟩
  | .local _ .vmem, ⟨10, _⟩ => ⟨S1536x4096, .f32⟩
  | .local _ .vmem, ⟨11, _⟩ => ⟨S1536x4096, .fp8e4m3⟩
  | .local _ .vmem, ⟨12, _⟩ => ⟨S3x512, .f32⟩
  | _, _ => ⟨S3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.DownSpec.lean ====
/- Hand-written, untrusted: the down projection as one function of its argument arrays, over the extended reals, index by
   index. The kernel (`DownKernel.lean`) and the reference (`DownRef.lean`) are each shown to leave it in their result. -/
module

public import Idealize.ShloMosaic.Lib.Pointwise

@[expose] public section

noncomputable section

namespace Cert.Proof.DownSpec

open Idealize.ShloMosaic

/-- The result at row `r`, column `q`: the residual plus the gate's tanh times the product of the codes with the weights,
    scaled by the row's activation scale and the column's weight scale. -/
def G (a0 : Vec Ideal ⟨2, ![1536, 3584]⟩ .fp8e4m3) (a1 : Vec Ideal ⟨2, ![3, 512]⟩ .f32)
    (a2 : Vec Ideal ⟨2, ![1536, 4096]⟩ .f32) (a3 : Vec Ideal ⟨2, ![3584, 4096]⟩ .fp8e4m3)
    (a4 : Vec Ideal ⟨1, ![4096]⟩ .f32) (a5 : Vec Ideal ⟨1, ![1]⟩ .f32) : Vec Ideal ⟨2, ![1536, 4096]⟩ .bf16 := fun j =>
  show EReal from (a2 (ix2 (j 0) (j 1)) : EReal) + (Host.tanh (F := Ideal) (φ := .f32) a5 (ix1 0) : EReal)
    * ((∑ k : Fin 3584, (a0 (ix2 (j 0) k) : EReal) * (a3 (ix2 k (j 1)) : EReal))
      * (a1 (ix2 ⟨(j 0).val / 512, by have := (j 0).isLt; simp at this; omega⟩ ⟨(j 0).val % 512, by omega⟩) : EReal)
      * (a4 (ix1 (j 1)) : EReal))

end Cert.Proof.DownSpec

end
-- ==== Proof.DownRef.lean ====
/- Hand-written, untrusted: the RUN OF THE REFERENCE with its value. The reference is one kernel without a grid: its one
   block per array is the whole array, so the result is its one payload of the whole arrays (`final6`), read at an index
   as the down projection's formula (`payload_apply`). -/
module

public import proofs.«01_k».proof.Proof.Gen.DownReferenceIdeal.Value
public import proofs.«01_k».proof.Proof.DownSpec

@[expose] public section

noncomputable section

namespace Cert.Proof.DownRef

open Cert.DownReferenceIdeal Cert.DownReferenceIdeal.Gen Cert.DownReferenceIdeal.Value
open Idealize.ShloMosaic Idealize.ShloMosaic.TcCoe Idealize.SL.Sem

/-- The body's payload, the buffers it reads holding the arguments and the host's reshapes of them, is the formula. -/
theorem payload_apply (a0 : Vec Ideal S1536x3584 .fp8e4m3) (a1 : Vec Ideal S3x512 .f32) (a2 : Vec Ideal S1536x4096 .f32)
    (a3 : Vec Ideal S3584x4096 .fp8e4m3) (a4 : Vec Ideal S4096 .f32) (a5 : Vec Ideal S1 .f32) :
    k0_pay1 a0 (shapeCast S1536x1 a1 shapeCasts_S3x512_S1536x1) a3 (broadcastInDim S1x4096 ![1] bcast_S4096_S1x4096_1 a4) a2
      (broadcastInDim S1x1 ![1] bcast_S1_S1x1_1 (Host.tanh (F := Ideal) (φ := .f32) a5)) = DownSpec.G a0 a1 a2 a3 a4 a5 := by
  funext j
  idx_vars j
  pointwise [k0_pay1, DownSpec.G]

variable (m : (ℓ : Loc nD τ sig) → Buf (Elt Ideal) ℓ) (ρ : Dev nD → PrngReg)

/-- What the host's lines before the kernel leave in the three arrays they make. -/
theorem V_main_v1 (c : Dev nD) : V m c main_v1
    = (broadcastInDim S1x1 ![1] bcast_S1_S1x1_1 (Host.tanh (F := Ideal) (φ := .f32) (m ((c : Thread nD τ).loc main_arg5))) : Vec Ideal S1x1 .f32) := by
  show StableHlo.after hostOps0 _ (Proc.devRef .tc main_v1) = _
  after_results
  try rfl
theorem V_main_v2 (c : Dev nD) : V m c main_v2
    = (shapeCast S1536x1 (m ((c : Thread nD τ).loc main_arg1)) shapeCasts_S3x512_S1536x1 : Vec Ideal S1536x1 .f32) := by
  show StableHlo.after hostOps0 _ (Proc.devRef .tc main_v2) = _
  after_results
  try rfl
theorem V_main_v3 (c : Dev nD) : V m c main_v3
    = (broadcastInDim S1x4096 ![1] bcast_S4096_S1x4096_1 (m ((c : Thread nD τ).loc main_arg4)) : Vec Ideal S1x4096 .f32) := by
  show StableHlo.after hostOps0 _ (Proc.devRef .tc main_v3) = _
  after_results
  try rfl

theorem hz : (![0, 0] : Fin 2 → Nat) = fun _ => 0 := funext fun a => by fin_cases a <;> rfl

/-- The loads read the whole buffers and the one store writes the whole buffer. -/
theorem out_eq (x0 : Vec Ideal S1536x3584 .fp8e4m3) (x1 : Vec Ideal S1536x1 .f32) (x2 : Vec Ideal S1536x4096 .f32)
    (x3 : Vec Ideal S3584x4096 .fp8e4m3) (x4 : Vec Ideal S1x4096 .f32) (x5 : Vec Ideal S1x1 .f32) :
    out0_6 x0 x1 x2 x3 x4 x5 = k0_pay1 x0 x1 x3 x4 x2 x5 := by
  unfold out0_6
  rw [View.canon_unit_zero hz, View.ld_unit_zero hz, View.ld_unit_zero hz, View.ld_unit_zero hz, View.ld_unit_zero hz,
    View.ld_unit_zero hz, View.ld_unit_zero hz]

/-- At the one point every window's block is its whole array: an index of the block is the same index of the array. -/
theorem emb0 (t : Fin cfg0.N) (j : S1536x3584.Idx) : ((cfg0.win 0).blk t).view.emb j = j := by
  funext a; apply Fin.ext
  match a with
  | ⟨0, _⟩ => show 0 * 1536 + 1 * (j 0).val = (j 0).val; omega
  | ⟨1, _⟩ => show 0 * 3584 + 1 * (j 1).val = (j 1).val; omega
theorem emb1 (t : Fin cfg0.N) (j : S1536x1.Idx) : ((cfg0.win 1).blk t).view.emb j = j := by
  funext a; apply Fin.ext
  match a with
  | ⟨0, _⟩ => show 0 * 1536 + 1 * (j 0).val = (j 0).val; omega
  | ⟨1, _⟩ => show 0 * 1 + 1 * (j 1).val = (j 1).val; omega
theorem emb2 (t : Fin cfg0.N) (j : S1536x4096.Idx) : ((cfg0.win 2).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb3 (t : Fin cfg0.N) (j : S3584x4096.Idx) : ((cfg0.win 3).blk t).view.emb j = j := by
  funext a; apply Fin.ext
  match a with
  | ⟨0, _⟩ => show 0 * 3584 + 1 * (j 0).val = (j 0).val; omega
  | ⟨1, _⟩ => show 0 * 4096 + 1 * (j 1).val = (j 1).val; omega
theorem emb4 (t : Fin cfg0.N) (j : S1x4096.Idx) : ((cfg0.win 4).blk t).view.emb j = j := by
  funext a; apply Fin.ext
  match a with
  | ⟨0, _⟩ => show 0 * 1 + 1 * (j 0).val = (j 0).val; omega
  | ⟨1, _⟩ => show 0 * 4096 + 1 * (j 1).val = (j 1).val; omega
theorem emb5 (t : Fin cfg0.N) (j : S1x1.Idx) : ((cfg0.win 5).blk t).view.emb j = j := by
  funext a; apply Fin.ext
  match a with
  | ⟨0, _⟩ => show 0 * 1 + 1 * (j 0).val = (j 0).val; omega
  | ⟨1, _⟩ => show 0 * 1 + 1 * (j 1).val = (j 1).val; omega
theorem emb6 (t : Fin cfg0.N) (j : S1536x4096.Idx) : ((cfg0.win 6).blk t).view.emb j = j := by
  funext a; apply Fin.ext
  match a with
  | ⟨0, _⟩ => show 0 * 1536 + 1 * (j 0).val = (j 0).val; omega
  | ⟨1, _⟩ => show 0 * 4096 + 1 * (j 1).val = (j 1).val; omega

/-- So an input window's block is its array as the kernel finds it. -/
theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v2 := by
  funext j; show V m c main_v2 (((cfg0.win 1).blk t).view.emb j) = V m c main_v2 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_v3 := by
  funext j; show V m c main_v3 (((cfg0.win 4).blk t).view.emb j) = V m c main_v3 j; rw [emb4]
theorem iblk5_eq (c : Dev nD) (t : Fin cfg0.N) : iblk m c 5 t = V m c main_v1 := by
  funext j; show V m c main_v1 (((cfg0.win 5).blk t).view.emb j) = V m c main_v1 j; rw [emb5]

/-- Cutting the block out of `X` and reading `X` through the block give the same. -/
theorem cut6_eq (t : Fin cfg0.N) (X : Vec Ideal S1536x4096 .bf16) :
    (cfg0.win 6).cut (grid0.coords t) X = ((cfg0.win 6).blk t).view.read (Elt Ideal) X := by
  funext j
  show X j = X (((cfg0.win 6).blk t).view.emb j)
  rw [emb6]

/-- The result of device `c`'s run as the formula of its argument arrays. -/
abbrev R (c : Dev nD) : Vec Ideal S1536x4096 .bf16 := DownSpec.G (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- What the one point writes back is its block of the formula. -/
theorem flushed6_eq (c : Dev nD) (t : Fin cfg0.N) :
    (dats m 0 c).flushed 6 t = ((cfg0.win 6).blk t).view.read (Elt Ideal) (R m c) := by
  rw [flushed6, out_eq, iblk0_eq, iblk1_eq, iblk2_eq, iblk3_eq, iblk4_eq, iblk5_eq, V_main_v1, V_main_v2, V_main_v3,
    V_main_arg0, V_main_arg2, V_main_arg3, payload_apply]
  exact cut6_eq t _

/-- Every index of the result array is in the one block. -/
theorem covered6 (i : S1536x4096.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

/-- The result array after the run is the formula of the arguments as launched. -/
theorem final6 (c : Dev nD) : (dats m 0 c).arrAt 6 cfg0.N = R m c :=
  (dats m 0 c).arrAt_eq_of_cover 6 (R m c) (fun t _ => flushed6_eq m c t) covered6

end Cert.Proof.DownRef

end
-- ==== Proof.DownKernel.lean ====
/- Hand-written, untrusted: the RUN OF THE KERNEL with its value. Grid point `t` works on rows `256 t` to `256 t + 255`: the
   blocks it reads are those rows of the codes, of the scales and of the residual, and the whole weights (`iblk0_apply` to
   `iblk5_eq`); its payload at a row and a column is the down projection's formula at that row of the arrays
   (`payload_apply`); the six blocks cover the result (`covered6`), so the array after the run is the formula (`final6`). -/
module

public import proofs.«01_k».proof.Proof.Gen.DownIdeal.Value
public import proofs.«01_k».proof.Proof.DownSpec

@[expose] public section

noncomputable section

namespace Cert.Proof.DownKernel

open Cert.DownIdeal Cert.DownIdeal.Gen Cert.DownIdeal.Value
open Idealize.ShloMosaic Idealize.ShloMosaic.TcCoe Idealize.SL.Sem

theorem hz : (![0, 0] : Fin 2 → Nat) = fun _ => 0 := funext fun a => by fin_cases a <;> rfl

/-- The store writes the whole buffer, and every load but the two of the scales reads a whole buffer. -/
theorem out_eq (x0 : Vec Ideal S256x3584 .fp8e4m3) (x1 : Vec Ideal S1x1x256 .f32) (x2 : Vec Ideal S256x4096 .f32)
    (x3 : Vec Ideal S3584x4096 .fp8e4m3) (x4 : Vec Ideal S1x4096 .f32) (x5 : Vec Ideal S1x1 .f32) :
    out0_6 x0 x1 x2 x3 x4 x5 = k0_pay1 (View.ld x1 r0_0) (View.ld x1 r0_1) x0 x3 x4 x2 x5 := by
  unfold out0_6
  rw [View.canon_unit_zero hz, View.ld_unit_zero hz, View.ld_unit_zero hz, View.ld_unit_zero hz, View.ld_unit_zero hz,
    View.ld_unit_zero hz]

/-- The payload of the blocks at grid point `t`, at row `p` and column `q`, is the formula at row `256 t + p`. -/
theorem payload_apply (t : Nat) (ht : t < 6) (a0 : Vec Ideal S1536x3584 .fp8e4m3) (a1 : Vec Ideal S3x512 .f32)
    (a2 : Vec Ideal S1536x4096 .f32) (a3 : Vec Ideal S3584x4096 .fp8e4m3) (a4 : Vec Ideal S4096 .f32) (a5 : Vec Ideal S1 .f32)
    (x0 : Vec Ideal S256x3584 .fp8e4m3) (x1 : Vec Ideal S1x1x256 .f32) (x2 : Vec Ideal S256x4096 .f32)
    (h0 : ∀ (p : Fin 256) (k : Fin 3584), x0 (ix2 p k) = a0 (ix2 ⟨t * 256 + p.val, by omega⟩ k))
    (h1 : ∀ l : Fin 256, x1 (ix3 0 0 l) = a1 (ix2 ⟨(t * 256 + l.val) / 512, by omega⟩ ⟨(t * 256 + l.val) % 512, by omega⟩))
    (h2 : ∀ (p : Fin 256) (q : Fin 4096), x2 (ix2 p q) = a2 (ix2 ⟨t * 256 + p.val, by omega⟩ q))
    (p : Fin 256) (q : Fin 4096) :
    out0_6 x0 x1 x2 a3 (broadcastInDim S1x4096 ![1] bcast_S4096_S1x4096_1 a4)
        (broadcastInDim S1x1 ![1] bcast_S1_S1x1_1 (Host.tanh (F := Ideal) (φ := .f32) a5)) (ix2 p q)
      = DownSpec.G a0 a1 a2 a3 a4 a5 (ix2 ⟨t * 256 + p.val, by omega⟩ q) := by
  rw [out_eq]
  pointwise [k0_pay1, DownSpec.G, h0, h2]
  split
  · rw [h1]
  · rename_i hp
    have e : (⟨128 + (p.val - 128), by omega⟩ : Fin 256) = p := Fin.ext (by show 128 + (p.val - 128) = p.val; omega)
    rw [e, h1]

/-- The scales re-laid by block: block `t`, lane `l` is the scale of row `256 t + l`. -/
theorem scales_apply (a1 : Vec Ideal S3x512 .f32) (t : Fin 6) (l : Fin 256) :
    (shapeCast S6x1x256 a1 shapeCasts_S3x512_S6x1x256 : Vec Ideal S6x1x256 .f32) (ix3 t 0 l)
      = a1 (ix2 ⟨(t.val * 256 + l.val) / 512, by omega⟩ ⟨(t.val * 256 + l.val) % 512, by omega⟩) := by
  have e0 : t.val / 2 = (t.val * 256 + l.val) / 512 := by omega
  have e1 : t.val % 2 * 256 + l.val = (t.val * 256 + l.val) % 512 := by omega
  pointwise
  simp only [e0, e1]

variable (m : (ℓ : Loc nD τ sig) → Buf (Elt Ideal) ℓ) (ρ : Dev nD → PrngReg)

/-- What the host's lines before the kernel leave in the arrays the kernel reads. -/
theorem V_main_v0 (c : Dev nD) : V m c main_v0
    = (shapeCast S6x1x256 (m ((c : Thread nD τ).loc main_arg1)) shapeCasts_S3x512_S6x1x256 : Vec Ideal S6x1x256 .f32) := by
  show StableHlo.after hostOps0 _ (Proc.devRef .tc main_v0) = _
  after_results
  try rfl
theorem V_main_v1 (c : Dev nD) : V m c main_v1
    = (broadcastInDim S1x4096 ![1] bcast_S4096_S1x4096_1 (m ((c : Thread nD τ).loc main_arg4)) : Vec Ideal S1x4096 .f32) := by
  show StableHlo.after hostOps0 _ (Proc.devRef .tc main_v1) = _
  after_results
  try rfl
theorem V_main_v3 (c : Dev nD) : V m c main_v3
    = (broadcastInDim S1x1 ![1] bcast_S1_S1x1_1 (Host.tanh (F := Ideal) (φ := .f32) (m ((c : Thread nD τ).loc main_arg5))) : Vec Ideal S1x1 .f32) := by
  show StableHlo.after hostOps0 _ (Proc.devRef .tc main_v3) = _
  after_results
  try rfl

/-- Each window's block index at each grid point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem lt6 (t : Fin cfg0.N) : t.val < 6 := t.isLt

/-- A block of rows, read at a row and a column, is the array at the point's row and that column. -/
theorem iblk0_apply (c : Dev nD) (t : Fin cfg0.N) (p : Fin 256) (k : Fin 3584) :
    iblk m c 0 t (ix2 p k) = m ((c : Thread nD τ).loc main_arg0) (ix2 ⟨t.val * 256 + p.val, by have := lt6 t; omega⟩ k) := by
  obtain ⟨e0, e1⟩ := idx0 t
  rw [← V_main_arg0 m c]
  show V m c main_arg0 (((cfg0.win 0).blk t).view.emb (ix2 p k)) = _
  congr 1; funext a; apply Fin.ext
  match a with
  | ⟨0, _⟩ => show win0_0.index t (0 : Fin 2) * 256 + 1 * p.val = t.val * 256 + p.val; omega
  | ⟨1, _⟩ => show win0_0.index t (1 : Fin 2) * 3584 + 1 * k.val = k.val; omega
theorem iblk2_apply (c : Dev nD) (t : Fin cfg0.N) (p : Fin 256) (q : Fin 4096) :
    iblk m c 2 t (ix2 p q) = m ((c : Thread nD τ).loc main_arg2) (ix2 ⟨t.val * 256 + p.val, by have := lt6 t; omega⟩ q) := by
  obtain ⟨e0, e1⟩ := idx2 t
  rw [← V_main_arg2 m c]
  show V m c main_arg2 (((cfg0.win 2).blk t).view.emb (ix2 p q)) = _
  congr 1; funext a; apply Fin.ext
  match a with
  | ⟨0, _⟩ => show win0_2.index t (0 : Fin 2) * 256 + 1 * p.val = t.val * 256 + p.val; omega
  | ⟨1, _⟩ => show win0_2.index t (1 : Fin 2) * 4096 + 1 * q.val = q.val; omega

/-- The block of scales at grid point `t`, at lane `l`, is the scale of row `256 t + l`. -/
theorem iblk1_apply (c : Dev nD) (t : Fin cfg0.N) (l : Fin 256) :
    iblk m c 1 t (ix3 0 0 l) = m ((c : Thread nD τ).loc main_arg1)
      (ix2 ⟨(t.val * 256 + l.val) / 512, by have := lt6 t; omega⟩ ⟨(t.val * 256 + l.val) % 512, by omega⟩) := by
  obtain ⟨e0, e1, e2⟩ := idx1 t
  have hb : iblk m c 1 t (ix3 0 0 l) = V m c main_v0 (ix3 ⟨t.val, lt6 t⟩ 0 l) := by
    show V m c main_v0 (((cfg0.win 1).blk t).view.emb (ix3 0 0 l)) = _
    congr 1; funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 256 + 1 * l.val = l.val; omega
  rw [hb, V_main_v0, scales_apply]

/-- A window that every point reads whole: the weights, their scales and the gate. -/
theorem emb3 (t : Fin cfg0.N) (j : S3584x4096.Idx) : ((cfg0.win 3).blk t).view.emb j = j := by
  obtain ⟨e0, e1⟩ := idx3 t
  funext a; apply Fin.ext
  match a with
  | ⟨0, _⟩ => show win0_3.index t (0 : Fin 2) * 3584 + 1 * (j 0).val = (j 0).val; omega
  | ⟨1, _⟩ => show win0_3.index t (1 : Fin 2) * 4096 + 1 * (j 1).val = (j 1).val; omega
theorem emb4 (t : Fin cfg0.N) (j : S1x4096.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 4096 + 1 * (j 1).val = (j 1).val; omega
theorem emb5 (t : Fin cfg0.N) (j : S1x1.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1 + 1 * (j 1).val = (j 1).val; omega
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_v1 := by
  funext j; show V m c main_v1 (((cfg0.win 4).blk t).view.emb j) = V m c main_v1 j; rw [emb4]
theorem iblk5_eq (c : Dev nD) (t : Fin cfg0.N) : iblk m c 5 t = V m c main_v3 := by
  funext j; show V m c main_v3 (((cfg0.win 5).blk t).view.emb j) = V m c main_v3 j; rw [emb5]

/-- Where the result's block at point `t` puts row `p` and column `q`. -/
theorem emb6 (t : Fin cfg0.N) (p : Fin 256) (q : Fin 4096) :
    ((cfg0.win 6).blk t).view.emb (ix2 p q) = (ix2 ⟨t.val * 256 + p.val, by have := lt6 t; omega⟩ q : S1536x4096.Idx) := by
  obtain ⟨e0, e1⟩ := idx6 t
  funext a; apply Fin.ext
  match a with
  | ⟨0, _⟩ => show win0_6.index t (0 : Fin 2) * 256 + 1 * p.val = t.val * 256 + p.val; omega
  | ⟨1, _⟩ => show win0_6.index t (1 : Fin 2) * 4096 + 1 * q.val = q.val; omega

/-- The result of device `c`'s run as the formula of its argument arrays. -/
abbrev R (c : Dev nD) : Vec Ideal S1536x4096 .bf16 := DownSpec.G (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- What point `t` writes back is its block of the formula. -/
theorem flushed6_eq (c : Dev nD) (t : Fin cfg0.N) :
    (dats m 0 c).flushed 6 t = ((cfg0.win 6).blk t).view.read (Elt Ideal) (R m c) := by
  rw [flushed6, iblk3_eq, iblk4_eq, iblk5_eq, V_main_v1, V_main_v3, V_main_arg3]
  funext j
  obtain ⟨p, q, rfl⟩ : ∃ (p : Fin 256) (q : Fin 4096), j = ix2 p q := ⟨j 0, j 1, eq_ix2 j⟩
  refine (payload_apply t.val (lt6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0 t) (iblk m c 1 t) (iblk m c 2 t) (iblk0_apply m c t) (iblk1_apply m c t)
    (iblk2_apply m c t) p q).trans ?_
  show _ = R m c (((cfg0.win 6).blk t).view.emb (ix2 p q))
  rw [emb6]

/-- Every index of the result array is in the block of the point of its row. -/
theorem covered6 (i : S1536x4096.Idx) :
    ∃ t : Fin cfg0.N, (cfg0.win 6).flush t = true ∧ i ∈ ((cfg0.win 6).blk t).view.set := by
  obtain ⟨r, q, rfl⟩ : ∃ (r : Fin 1536) (q : Fin 4096), i = ix2 r q := ⟨i 0, i 1, eq_ix2 i⟩
  have hr := r.isLt
  refine ⟨(⟨r.val / 256, by show r.val / 256 < 6; omega⟩ : Fin cfg0.N), flush0_6 _, ?_⟩
  have h := ((cfg0.win 6).blk (⟨r.val / 256, by show r.val / 256 < 6; omega⟩ : Fin cfg0.N)).view.emb_mem_set
    (ix2 (⟨r.val % 256, by omega⟩ : Fin 256) q)
  rw [emb6] at h
  have e : (⟨r.val / 256 * 256 + r.val % 256, by omega⟩ : Fin 1536) = r := Fin.ext (by show r.val / 256 * 256 + r.val % 256 = r.val; omega)
  simp only [e] at h
  exact h

/-- The result array after the run is the formula of the arguments as launched. -/
theorem final6 (c : Dev nD) : (dats m 0 c).arrAt 6 cfg0.N = R m c :=
  (dats m 0 c).arrAt_eq_of_cover 6 (R m c) (fun t _ => flushed6_eq m c t) covered6

end Cert.Proof.DownKernel

end
-- ==== Proof.GateUpSpec.lean ====
/- Hand-written, untrusted: the gated pair of projections and its quantisation as functions of the argument arrays, over
   the extended reals, index by index. The kernel (`GateUpKernel.lean`) and the reference (`GateUpRef.lean`) are each
   shown to leave them in their two results. -/
module

public import Idealize.ShloMosaic.Lib.Pointwise

@[expose] public section

noncomputable section

namespace Cert.Proof.GateUpSpec

open Idealize.ShloMosaic

/-- The codes of row `r` times column `q` of the weights, scaled by the row's activation scale and the column's weight scale. -/
def proj (a0 : Vec Ideal ⟨2, ![1536, 4096]⟩ .fp8e4m3) (a1 : Vec Ideal ⟨2, ![3, 512]⟩ .f32)
    (w : Vec Ideal ⟨2, ![4096, 3584]⟩ .fp8e4m3) (s : Vec Ideal ⟨1, ![3584]⟩ .f32) (r : Fin 1536) (q : Fin 3584) : EReal :=
  (∑ k : Fin 4096, (a0 (ix2 r k) : EReal) * (w (ix2 k q) : EReal))
    * (a1 (ix2 ⟨r.val / 512, by omega⟩ ⟨r.val % 512, by omega⟩) : EReal) * (s (ix1 q) : EReal)

/-- The activation at row `r`, column `q`: the gate times its logistic times the up projection. -/
def act (a0 : Vec Ideal ⟨2, ![1536, 4096]⟩ .fp8e4m3) (a1 : Vec Ideal ⟨2, ![3, 512]⟩ .f32)
    (a2 a3 : Vec Ideal ⟨2, ![4096, 3584]⟩ .fp8e4m3) (a4 a5 : Vec Ideal ⟨1, ![3584]⟩ .f32) (r : Fin 1536) (q : Fin 3584) : EReal :=
  proj a0 a1 a2 a4 r q * Ideal.logistic (proj a0 a1 a2 a4 r q) * proj a0 a1 a3 a5 r q

/-- The largest absolute value of a row. -/
def rowMax (f : Fin 3584 → EReal) : EReal :=
  Finset.univ.fold max (Ideal.ofBits .f32 0xFF800000#32) fun q : Fin 3584 => FloatOps.absf (F := Ideal) (φ := .f32) (f q)

/-- The scale of a row: its largest absolute value over 448, or one for a zero row. -/
def scale (f : Fin 3584 → EReal) : EReal :=
  if rowMax f = 0 then 1 else Ideal.div (rowMax f) (Ideal.ofBits .f32 0x43E00000#32)

/-- The code of a row at column `q`: the value over the row's scale, cut to the range of the format. -/
def code (f : Fin 3584 → EReal) (q : Fin 3584) : EReal :=
  min (Ideal.ofBits .f32 0x43E00000#32) (max (Ideal.ofBits .f32 0xC3E00000#32) (Ideal.div (f q) (scale f)))

/-- The codes. -/
def C (a0 : Vec Ideal ⟨2, ![1536, 4096]⟩ .fp8e4m3) (a1 : Vec Ideal ⟨2, ![3, 512]⟩ .f32)
    (a2 a3 : Vec Ideal ⟨2, ![4096, 3584]⟩ .fp8e4m3) (a4 a5 : Vec Ideal ⟨1, ![3584]⟩ .f32) : Vec Ideal ⟨2, ![1536, 3584]⟩ .fp8e4m3 :=
  fun j => show EReal from code (act a0 a1 a2 a3 a4 a5 (j 0)) (j 1)

/-- The scales: position `(a, b)` is the scale of row `512 a + b`. -/
def S (a0 : Vec Ideal ⟨2, ![1536, 4096]⟩ .fp8e4m3) (a1 : Vec Ideal ⟨2, ![3, 512]⟩ .f32)
    (a2 a3 : Vec Ideal ⟨2, ![4096, 3584]⟩ .fp8e4m3) (a4 a5 : Vec Ideal ⟨1, ![3584]⟩ .f32) : Vec Ideal ⟨2, ![3, 512]⟩ .f32 :=
  fun j => show EReal from scale (act a0 a1 a2 a3 a4 a5 ⟨(j 0).val * 512 + (j 1).val, by
    have h0 := (j 0).isLt; have h1 := (j 1).isLt; simp at h0 h1; omega⟩)

end Cert.Proof.GateUpSpec

end
-- ==== Proof.GateUpRef.lean ====
/- Hand-written, untrusted: the RUN OF THE REFERENCE with its values. The reference is one kernel without a grid: its one
   block per array is the whole array, so each result is a payload of the whole arrays (`final6`, `final7`), read at an
   index as the formula of the specification (`codes_eq`, `scales_eq`). -/
module

public import proofs.«01_k».proof.Proof.Gen.GateUpReferenceIdeal.Value
public import proofs.«01_k».proof.Proof.GateUpSpec

@[expose] public section

noncomputable section

namespace Cert.Proof.GateUpRef

open Cert.GateUpReferenceIdeal Cert.GateUpReferenceIdeal.Gen Cert.GateUpReferenceIdeal.Value
open Idealize.ShloMosaic Idealize.ShloMosaic.TcCoe Idealize.SL.Sem

/-! ## The payloads, read at an index -/

/-- The activations. -/
theorem act_apply (a0 : Vec Ideal S1536x4096 .fp8e4m3) (a1 : Vec Ideal S3x512 .f32) (a2 a3 : Vec Ideal S4096x3584 .fp8e4m3)
    (a4 a5 : Vec Ideal S3584 .f32) (a : Fin 3) (b : Fin 512) (q : Fin 3584) :
    k0_pay2 a0 (shapeCast S1536x1 a1 shapeCasts_S3x512_S1536x1) a2 (broadcastInDim S1x3584 ![1] bcast_S3584_S1x3584_1 a4)
      a0 (shapeCast S1536x1 a1 shapeCasts_S3x512_S1536x1) a3 (broadcastInDim S1x3584 ![1] bcast_S3584_S1x3584_1 a5) (ix3 a b q)
    = GateUpSpec.act a0 a1 a2 a3 a4 a5 ⟨a.val * 512 + b.val, by omega⟩ q := by
  have e0 : (a.val * 512 + b.val) / 512 = a.val := by omega
  have e1 : (a.val * 512 + b.val) % 512 = b.val := by omega
  pointwise [k0_pay2, GateUpSpec.act, GateUpSpec.proj]
  try simp only [e0, e1]

/-- The largest absolute value over the last axis. -/
theorem max_apply (A : FVec Ideal S3x512x3584 .f32) (a : Fin 3) (b : Fin 512) :
    multiReduction .maximumf [2] S3x512 (absf A) 0xFF800000#32 reduces_S3x512x3584_S3x512 (.inl rfl) rfl (ix2 a b)
      = GateUpSpec.rowMax (fun q => A (ix3 a b q)) := by
  unfold GateUpSpec.rowMax
  pointwise

/-- The scale from the largest absolute value. -/
theorem select_apply (M : FVec Ideal S3x512 .f32) (a : Fin 3) (b : Fin 512) :
    (select (cmpf .oeq M (broadcast S3x512 (Scalar.ofBits .f32 0x00000000#32))) (broadcast S3x512 (Scalar.ofBits .f32 0x3F800000#32))
      (divf M (broadcast S3x512 (Scalar.ofBits .f32 0x43E00000#32))) : FVec Ideal S3x512 .f32) (ix2 a b)
      = if M (ix2 a b) = (0 : EReal) then (1 : EReal) else Ideal.div (M (ix2 a b)) (Ideal.ofBits .f32 0x43E00000#32) := by
  pointwise

/-- The scale of a row of activations. -/
theorem scale_apply (A : FVec Ideal S3x512x3584 .f32) (a : Fin 3) (b : Fin 512) :
    (select (cmpf .oeq (multiReduction .maximumf [2] S3x512 (absf A) 0xFF800000#32 reduces_S3x512x3584_S3x512 (.inl rfl) rfl)
        (broadcast S3x512 (Scalar.ofBits .f32 0x00000000#32))) (broadcast S3x512 (Scalar.ofBits .f32 0x3F800000#32))
      (divf (multiReduction .maximumf [2] S3x512 (absf A) 0xFF800000#32 reduces_S3x512x3584_S3x512 (.inl rfl) rfl)
        (broadcast S3x512 (Scalar.ofBits .f32 0x43E00000#32))) : FVec Ideal S3x512 .f32) (ix2 a b)
      = GateUpSpec.scale (fun q => A (ix3 a b q)) := by
  rw [select_apply, max_apply]; rfl

/-- The two payloads over the activations. -/
theorem pay3_eq (v0 : Vec Ideal S1536x4096 .fp8e4m3) (v1 : Vec Ideal S1536x1 .f32) (v3 : Vec Ideal S4096x3584 .fp8e4m3)
    (v4 : Vec Ideal S1x3584 .f32) (v11 : Vec Ideal S1536x4096 .fp8e4m3) (v12 : Vec Ideal S1536x1 .f32)
    (v14 : Vec Ideal S4096x3584 .fp8e4m3) (v15 : Vec Ideal S1x3584 .f32) :
    k0_pay3 v0 v1 v3 v4 v11 v12 v14 v15
      = select (cmpf .oeq (multiReduction .maximumf [2] S3x512 (absf (k0_pay2 v0 v1 v3 v4 v11 v12 v14 v15)) 0xFF800000#32 reduces_S3x512x3584_S3x512 (.inl rfl) rfl)
        (broadcast S3x512 (Scalar.ofBits .f32 0x00000000#32))) (broadcast S3x512 (Scalar.ofBits .f32 0x3F800000#32))
      (divf (multiReduction .maximumf [2] S3x512 (absf (k0_pay2 v0 v1 v3 v4 v11 v12 v14 v15)) 0xFF800000#32 reduces_S3x512x3584_S3x512 (.inl rfl) rfl)
        (broadcast S3x512 (Scalar.ofBits .f32 0x43E00000#32))) := rfl
theorem pay4_eq (v0 : Vec Ideal S1536x4096 .fp8e4m3) (v1 : Vec Ideal S1536x1 .f32) (v3 : Vec Ideal S4096x3584 .fp8e4m3)
    (v4 : Vec Ideal S1x3584 .f32) (v11 : Vec Ideal S1536x4096 .fp8e4m3) (v12 : Vec Ideal S1536x1 .f32)
    (v14 : Vec Ideal S4096x3584 .fp8e4m3) (v15 : Vec Ideal S1x3584 .f32) :
    k0_pay4 v0 v1 v3 v4 v11 v12 v14 v15
      = divf (k0_pay2 v0 v1 v3 v4 v11 v12 v14 v15) (broadcastTo S3x512x3584 (shapeCast S3x512x1 (k0_pay3 v0 v1 v3 v4 v11 v12 v14 v15) shapeCasts_S3x512_S3x512x1) broadcasts_S3x512x1_S3x512x3584) := rfl

/-- A value over its row's scale. -/
theorem div_apply (A : FVec Ideal S3x512x3584 .f32) (s : FVec Ideal S3x512 .f32) (a : Fin 3) (b : Fin 512) (q : Fin 3584) :
    (divf A (broadcastTo S3x512x3584 (shapeCast S3x512x1 s shapeCasts_S3x512_S3x512x1) broadcasts_S3x512x1_S3x512x3584)
      : FVec Ideal S3x512x3584 .f32) (ix3 a b q) = Ideal.div (A (ix3 a b q)) (s (ix2 a b)) := by
  pointwise

/-- The cut to the range of the format. -/
theorem clip_apply (D : FVec Ideal S3x512x3584 .f32) (r : Fin 1536) (q : Fin 3584) :
    k0_pay1 D (Scalar.ofBits .f32 0xC3E00000#32) (ix2 r q)
      = min (Ideal.ofBits .f32 0x43E00000#32) (max (Ideal.ofBits .f32 0xC3E00000#32)
          (D (ix3 ⟨r.val / 512, by omega⟩ ⟨r.val % 512, by omega⟩ q) : EReal)) := by
  pointwise [k0_pay1]

section
variable (a0 : Vec Ideal S1536x4096 .fp8e4m3) (a1 : Vec Ideal S3x512 .f32) (a2 a3 : Vec Ideal S4096x3584 .fp8e4m3)
    (a4 a5 : Vec Ideal S3584 .f32)

/-- The stored scales are the specification's. -/
theorem scales_at (a : Fin 3) (b : Fin 512) :
    k0_pay3 a0 (shapeCast S1536x1 a1 shapeCasts_S3x512_S1536x1) a2 (broadcastInDim S1x3584 ![1] bcast_S3584_S1x3584_1 a4)
      a0 (shapeCast S1536x1 a1 shapeCasts_S3x512_S1536x1) a3 (broadcastInDim S1x3584 ![1] bcast_S3584_S1x3584_1 a5) (ix2 a b)
    = GateUpSpec.scale (GateUpSpec.act a0 a1 a2 a3 a4 a5 ⟨a.val * 512 + b.val, by omega⟩) := by
  rw [pay3_eq, scale_apply]
  congr 1; funext q; exact act_apply a0 a1 a2 a3 a4 a5 a b q

theorem scales_eq :
    k0_pay3 a0 (shapeCast S1536x1 a1 shapeCasts_S3x512_S1536x1) a2 (broadcastInDim S1x3584 ![1] bcast_S3584_S1x3584_1 a4)
      a0 (shapeCast S1536x1 a1 shapeCasts_S3x512_S1536x1) a3 (broadcastInDim S1x3584 ![1] bcast_S3584_S1x3584_1 a5)
    = GateUpSpec.S a0 a1 a2 a3 a4 a5 := by
  funext j
  obtain ⟨a, b, rfl⟩ : ∃ (a : Fin 3) (b : Fin 512), j = ix2 a b := ⟨j 0, j 1, eq_ix2 j⟩
  exact scales_at a0 a1 a2 a3 a4 a5 a b

/-- The stored codes are the specification's. -/
theorem codes_eq :
    k0_pay1 (k0_pay4 a0 (shapeCast S1536x1 a1 shapeCasts_S3x512_S1536x1) a2 (broadcastInDim S1x3584 ![1] bcast_S3584_S1x3584_1 a4)
      a0 (shapeCast S1536x1 a1 shapeCasts_S3x512_S1536x1) a3 (broadcastInDim S1x3584 ![1] bcast_S3584_S1x3584_1 a5)) (Scalar.ofBits .f32 0xC3E00000#32)
    = GateUpSpec.C a0 a1 a2 a3 a4 a5 := by
  funext j
  obtain ⟨r, q, rfl⟩ : ∃ (r : Fin 1536) (q : Fin 3584), j = ix2 r q := ⟨j 0, j 1, eq_ix2 j⟩
  rw [clip_apply]
  have e : (⟨(r.val / 512) * 512 + r.val % 512, by omega⟩ : Fin 1536) = r := Fin.ext (by show (r.val / 512) * 512 + r.val % 512 = r.val; omega)
  have h1 := act_apply a0 a1 a2 a3 a4 a5 ⟨r.val / 512, by omega⟩ ⟨r.val % 512, by omega⟩ q
  have h2 := scales_at a0 a1 a2 a3 a4 a5 ⟨r.val / 512, by omega⟩ ⟨r.val % 512, by omega⟩
  simp only [e] at h1 h2
  rw [pay4_eq, div_apply, h1, h2]
  rfl
end

variable (m : (ℓ : Loc nD τ sig) → Buf (Elt Ideal) ℓ) (ρ : Dev nD → PrngReg)

/-! ## The arrays and the blocks -/

/-- What the host's lines before the kernel leave in the three arrays they make. -/
theorem V_main_v0 (c : Dev nD) : V m c main_v0
    = (shapeCast S1536x1 (m ((c : Thread nD τ).loc main_arg1)) shapeCasts_S3x512_S1536x1 : Vec Ideal S1536x1 .f32) := by
  show StableHlo.after hostOps0 _ (Proc.devRef .tc main_v0) = _
  after_results
  try rfl
theorem V_main_v1 (c : Dev nD) : V m c main_v1
    = (broadcastInDim S1x3584 ![1] bcast_S3584_S1x3584_1 (m ((c : Thread nD τ).loc main_arg4)) : Vec Ideal S1x3584 .f32) := by
  show StableHlo.after hostOps0 _ (Proc.devRef .tc main_v1) = _
  after_results
  try rfl
theorem V_main_v2 (c : Dev nD) : V m c main_v2
    = (broadcastInDim S1x3584 ![1] bcast_S3584_S1x3584_1 (m ((c : Thread nD τ).loc main_arg5)) : Vec Ideal S1x3584 .f32) := by
  show StableHlo.after hostOps0 _ (Proc.devRef .tc main_v2) = _
  after_results
  try rfl

theorem hz : (![0, 0] : Fin 2 → Nat) = fun _ => 0 := funext fun a => by fin_cases a <;> rfl

/-- The loads read the whole buffers and each store writes a whole buffer. -/
theorem out6_eq (x0 : Vec Ideal S1536x4096 .fp8e4m3) (x1 : Vec Ideal S1536x1 .f32) (x2 x3 : Vec Ideal S4096x3584 .fp8e4m3)
    (x4 x5 : Vec Ideal S1x3584 .f32) :
    out0_6 x0 x1 x2 x3 x4 x5 = k0_pay1 (k0_pay4 x0 x1 x2 x4 x0 x1 x3 x5) (Scalar.ofBits .f32 0xC3E00000#32) := by
  unfold out0_6
  rw [View.canon_unit_zero hz]
  rw [View.ld_unit_zero hz, View.ld_unit_zero hz, View.ld_unit_zero hz, View.ld_unit_zero hz, View.ld_unit_zero hz,
    View.ld_unit_zero hz]
theorem out7_eq (x0 : Vec Ideal S1536x4096 .fp8e4m3) (x1 : Vec Ideal S1536x1 .f32) (x2 x3 : Vec Ideal S4096x3584 .fp8e4m3)
    (x4 x5 : Vec Ideal S1x3584 .f32) :
    out0_7 x0 x1 x2 x3 x4 x5 = k0_pay3 x0 x1 x2 x4 x0 x1 x3 x5 := by
  unfold out0_7
  rw [View.canon_unit_zero hz]
  rw [View.ld_unit_zero hz, View.ld_unit_zero hz, View.ld_unit_zero hz, View.ld_unit_zero hz, View.ld_unit_zero hz,
    View.ld_unit_zero hz]

/-- At the one point every window's block is its whole array: an index of the block is the same index of the array. -/
theorem emb0 (t : Fin cfg0.N) (j : S1536x4096.Idx) : ((cfg0.win 0).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb1 (t : Fin cfg0.N) (j : S1536x1.Idx) : ((cfg0.win 1).blk t).view.emb j = j := by
  funext a; apply Fin.ext
  match a with
  | ⟨0, _⟩ => show 0 * 1536 + 1 * (j 0).val = (j 0).val; omega
  | ⟨1, _⟩ => show 0 * 1 + 1 * (j 1).val = (j 1).val; omega
theorem emb2 (t : Fin cfg0.N) (j : S4096x3584.Idx) : ((cfg0.win 2).blk t).view.emb j = j := by
  funext a; apply Fin.ext
  match a with
  | ⟨0, _⟩ => show 0 * 4096 + 1 * (j 0).val = (j 0).val; omega
  | ⟨1, _⟩ => show 0 * 3584 + 1 * (j 1).val = (j 1).val; omega
theorem emb3 (t : Fin cfg0.N) (j : S4096x3584.Idx) : ((cfg0.win 3).blk t).view.emb j = j := by
  funext a; apply Fin.ext
  match a with
  | ⟨0, _⟩ => show 0 * 4096 + 1 * (j 0).val = (j 0).val; omega
  | ⟨1, _⟩ => show 0 * 3584 + 1 * (j 1).val = (j 1).val; omega
theorem emb4 (t : Fin cfg0.N) (j : S1x3584.Idx) : ((cfg0.win 4).blk t).view.emb j = j := by
  funext a; apply Fin.ext
  match a with
  | ⟨0, _⟩ => show 0 * 1 + 1 * (j 0).val = (j 0).val; omega
  | ⟨1, _⟩ => show 0 * 3584 + 1 * (j 1).val = (j 1).val; omega
theorem emb5 (t : Fin cfg0.N) (j : S1x3584.Idx) : ((cfg0.win 5).blk t).view.emb j = j := by
  funext a; apply Fin.ext
  match a with
  | ⟨0, _⟩ => show 0 * 1 + 1 * (j 0).val = (j 0).val; omega
  | ⟨1, _⟩ => show 0 * 3584 + 1 * (j 1).val = (j 1).val; omega
theorem emb6 (t : Fin cfg0.N) (j : S1536x3584.Idx) : ((cfg0.win 6).blk t).view.emb j = j := by
  funext a; apply Fin.ext
  match a with
  | ⟨0, _⟩ => show 0 * 1536 + 1 * (j 0).val = (j 0).val; omega
  | ⟨1, _⟩ => show 0 * 3584 + 1 * (j 1).val = (j 1).val; omega
theorem emb7 (t : Fin cfg0.N) (j : S3x512.Idx) : ((cfg0.win 7).blk t).view.emb j = j := by
  funext a; apply Fin.ext
  match a with
  | ⟨0, _⟩ => show 0 * 3 + 1 * (j 0).val = (j 0).val; omega
  | ⟨1, _⟩ => show 0 * 512 + 1 * (j 1).val = (j 1).val; omega

/-- So an input window's block is its array as the kernel finds it. -/
theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v0 := by
  funext j; show V m c main_v0 (((cfg0.win 1).blk t).view.emb j) = V m c main_v0 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_v1 := by
  funext j; show V m c main_v1 (((cfg0.win 4).blk t).view.emb j) = V m c main_v1 j; rw [emb4]
theorem iblk5_eq (c : Dev nD) (t : Fin cfg0.N) : iblk m c 5 t = V m c main_v2 := by
  funext j; show V m c main_v2 (((cfg0.win 5).blk t).view.emb j) = V m c main_v2 j; rw [emb5]

/-- Cutting the block out of `X` and reading `X` through the block give the same. -/
theorem cut6_eq (t : Fin cfg0.N) (X : Vec Ideal S1536x3584 .fp8e4m3) :
    (cfg0.win 6).cut (grid0.coords t) X = ((cfg0.win 6).blk t).view.read (Elt Ideal) X := by
  funext j
  show X j = X (((cfg0.win 6).blk t).view.emb j)
  rw [emb6]
theorem cut7_eq (t : Fin cfg0.N) (X : Vec Ideal S3x512 .f32) :
    (cfg0.win 7).cut (grid0.coords t) X = ((cfg0.win 7).blk t).view.read (Elt Ideal) X := by
  funext j
  show X j = X (((cfg0.win 7).blk t).view.emb j)
  rw [emb7]

/-- The two results of device `c`'s run as the formulas of its argument arrays. -/
abbrev RC (c : Dev nD) : Vec Ideal S1536x3584 .fp8e4m3 := GateUpSpec.C (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
abbrev RS (c : Dev nD) : Vec Ideal S3x512 .f32 := GateUpSpec.S (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- What the one point writes back is its block of the formula. -/
theorem flushed6_eq (c : Dev nD) (t : Fin cfg0.N) :
    (dats m 0 c).flushed 6 t = ((cfg0.win 6).blk t).view.read (Elt Ideal) (RC m c) := by
  rw [flushed6, out6_eq, iblk0_eq, iblk1_eq, iblk2_eq, iblk3_eq, iblk4_eq, iblk5_eq, V_main_v0, V_main_v1, V_main_v2,
    V_main_arg0, V_main_arg2, V_main_arg3, codes_eq]
  exact cut6_eq t _
theorem flushed7_eq (c : Dev nD) (t : Fin cfg0.N) :
    (dats m 0 c).flushed 7 t = ((cfg0.win 7).blk t).view.read (Elt Ideal) (RS m c) := by
  rw [flushed7, out7_eq, iblk0_eq, iblk1_eq, iblk2_eq, iblk3_eq, iblk4_eq, iblk5_eq, V_main_v0, V_main_v1, V_main_v2,
    V_main_arg0, V_main_arg2, V_main_arg3, scales_eq]
  exact cut7_eq t _

/-- Every index of a result array is in the one block. -/
theorem covered6 (i : S1536x3584.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem covered7 (i : S3x512.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The result arrays after the run are the formulas of the arguments as launched. -/
theorem final6 (c : Dev nD) : (dats m 0 c).arrAt 6 cfg0.N = RC m c :=
  (dats m 0 c).arrAt_eq_of_cover 6 (RC m c) (fun t _ => flushed6_eq m c t) covered6
theorem final7 (c : Dev nD) : (dats m 0 c).arrAt 7 cfg0.N = RS m c :=
  (dats m 0 c).arrAt_eq_of_cover 7 (RS m c) (fun t _ => flushed7_eq m c t) covered7

end Cert.Proof.GateUpRef

end
-- ==== Proof.GateUpIdealRun.lean ====
/-
  The run of the gate-and-up kernel at any float instance: the body's triple, the proof data and the frame.

  Seven windows are exact: six inputs stay at their blocks and window 6 (the codes) ends at what the body
  stores whole. Window 7 is the array of scales, which stays in its buffer over the whole grid while each
  point stores one row piece at an offset depending on the point; of it the proof says, at each point, that
  every piece stored so far is still in place. At the last point that names every element.
-/
module

public import proofs.«01_k».proof.Proof.Gen.GateUpIdeal.Frame
public import proofs.«01_k».proof.Proof.Gen.GateUpIdeal.Skeleton
public import Idealize.ShloMosaic.Lib.Pipeline.DatRel
public import Idealize.ShloMosaic.Lib.Pipeline.Cells

@[expose] public section

set_option maxRecDepth 16384

noncomputable section

namespace Cert.Proof.GateUpIdealRun

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x1x256 := Rect.unit (s := S1x1x256) ![0, 0, 0] S1x1x128.size inb_S1x1x256_S1x1x128_0_0_0
abbrev r0_1 : Rect S1x1x256 := Rect.unit (s := S1x1x256) ![0, 0, 128] S1x1x128.size inb_S1x1x256_S1x1x128_0_0_128
abbrev r0_2 : Rect S256x4096 := Rect.unit (s := S256x4096) ![0, 0] S256x4096.size inb_S256x4096_S256x4096_0_0
abbrev r0_3 : Rect S4096x3584 := Rect.unit (s := S4096x3584) ![0, 0] S4096x3584.size inb_S4096x3584_S4096x3584_0_0
abbrev r0_4 : Rect S1x3584 := Rect.unit (s := S1x3584) ![0, 0] S1x3584.size inb_S1x3584_S1x3584_0_0
abbrev r0_5 : Rect S256x3584 := Rect.unit (s := S256x3584) ![0, 0] S256x3584.size inb_S256x3584_S256x3584_0_0
/-- Where the scales of a point go. -/
abbrev r7 (i : grid0.Coords) : Rect S3x512 := Rect.unit (s := S3x512) (k0_off1 i) S1x256.size (k0_off1_inb i)

/-! ## What the body stores -/

/-- The activations of a block of rows. -/
abbrev actB (x0 : Vec F S256x4096 .fp8e4m3) (x1 : Vec F S1x1x256 .f32) (x2 x3 : Vec F S4096x3584 .fp8e4m3) (x4 x5 : Vec F S1x3584 .f32) : FVec F S256x3584 .f32 :=
  k0_pay1 (View.ld x1 r0_0) (View.ld x1 r0_1) (View.ld x0 r0_2) (View.ld x2 r0_3) (View.ld x4 r0_4) (View.ld x3 r0_3) (View.ld x5 r0_4)
/-- Their largest absolute value, row by row. -/
abbrev maxB (x0 : Vec F S256x4096 .fp8e4m3) (x1 : Vec F S1x1x256 .f32) (x2 x3 : Vec F S4096x3584 .fp8e4m3) (x4 x5 : Vec F S1x3584 .f32) : FVec F S256x1 .f32 :=
  k0_pay2 (View.ld x1 r0_0) (View.ld x1 r0_1) (View.ld x0 r0_2) (View.ld x2 r0_3) (View.ld x4 r0_4) (View.ld x3 r0_3) (View.ld x5 r0_4)
/-- Which rows are zero. -/
abbrev zeroB (x0 : Vec F S256x4096 .fp8e4m3) (x1 : Vec F S1x1x256 .f32) (x2 x3 : Vec F S4096x3584 .fp8e4m3) (x4 x5 : Vec F S1x3584 .f32) : IVec S256x1 1 :=
  k0_pay3 (View.ld x1 r0_0) (View.ld x1 r0_1) (View.ld x0 r0_2) (View.ld x2 r0_3) (View.ld x4 r0_4) (View.ld x3 r0_3) (View.ld x5 r0_4)
/-- The codes of a block. -/
def codesB (x0 : Vec F S256x4096 .fp8e4m3) (x1 : Vec F S1x1x256 .f32) (x2 x3 : Vec F S4096x3584 .fp8e4m3) (x4 x5 : Vec F S1x3584 .f32) : FVec F S256x3584 .fp8e4m3 :=
  k0_pay5 (actB x0 x1 x2 x3 x4 x5) (maxB x0 x1 x2 x3 x4 x5) (zeroB x0 x1 x2 x3 x4 x5) (Scalar.ofBits .f32 0x43E00000#32)
/-- The row piece of scales of a block. -/
def scalesB (x0 : Vec F S256x4096 .fp8e4m3) (x1 : Vec F S1x1x256 .f32) (x2 x3 : Vec F S4096x3584 .fp8e4m3) (x4 x5 : Vec F S1x3584 .f32) : FVec F S1x256 .f32 :=
  k0_pay6 (maxB x0 x1 x2 x3 x4 x5) (zeroB x0 x1 x2 x3 x4 x5) (Scalar.ofBits .f32 0x43E00000#32)

/-- Window 6's staging buffer after the body, from the input windows' blocks. -/
def out0_6 (x0 : Vec F S256x4096 .fp8e4m3) (x1 : Vec F S1x1x256 .f32) (x2 x3 : Vec F S4096x3584 .fp8e4m3) (x4 x5 : Vec F S1x3584 .f32) : Vec F S256x3584 .fp8e4m3 :=
  View.canon [⟨r0_5, codesB x0 x1 x2 x3 x4 x5⟩]

/-- The one store covers the buffer. -/
theorem cover0_6 (p0 : Vec F S256x3584 .fp8e4m3) (y : S256x3584.Idx) :
    ∃ pc ∈ ([⟨r0_5, p0⟩] : List (View.Piece (Elt F) S256x3584 .fp8e4m3)), y ∈ pc.1.set :=
  View.cover_of_tiled [⟨r0_5, p0⟩] S256x3584.size (by rfl) y

/-- The scales' buffer found at `Y` and left at `X`: the piece at point `i` is `w`, the rest is as found. -/
def Put (i : grid0.Coords) (w : Vec F S1x256 .f32) (Y X : Vec F S3x512 .f32) : Prop :=
  (∀ x : (r7 i).shape.Idx, X ((r7 i).emb x) = w x) ∧ ∀ y, y ∉ (r7 i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨r7 i, w⟩])) := by
  constructor
  · intro x; rw [View.read_writes_cons_emb]
  · intro y hy
    have hy' : y ∉ Finset.univ.map (r7 i).emb := by rwa [Rect.map_emb_univ]
    rw [View.writes_cons, View.read_slice_write_of_not_mem (r7 i) _ _ _ hy']; rfl

/-! ## The body's triple -/

set_option maxHeartbeats 1000000 in
/-- The kernel body on whole staging buffers: inputs kept, the codes stored whole, the scales' piece stored. -/
theorem sound_kernel (c : Dev nD) (E : Set ℕ) (i : grid0.Coords) (arg1 : Memref sig .tc .vmem S256x4096 .fp8e4m3) (harg1 : arg1.IsWhole) (arg2 : Memref sig .tc .vmem S1x1x256 .f32) (harg2 : arg2.IsWhole) (arg3 : Memref sig .tc .vmem S4096x3584 .fp8e4m3) (harg3 : arg3.IsWhole) (arg4 : Memref sig .tc .vmem S4096x3584 .fp8e4m3) (harg4 : arg4.IsWhole) (arg5 : Memref sig .tc .vmem S1x3584 .f32) (harg5 : arg5.IsWhole) (arg6 : Memref sig .tc .vmem S1x3584 .f32) (harg6 : arg6.IsWhole) (arg7 : Memref sig .tc .vmem S256x3584 .fp8e4m3) (harg7 : arg7.IsWhole) (arg8 : Memref sig .tc .vmem S3x512 .f32) (harg8 : arg8.IsWhole)
    (x0 : Vec F S256x4096 .fp8e4m3) (x1 : Vec F S1x1x256 .f32) (x2 : Vec F S4096x3584 .fp8e4m3) (x3 : Vec F S4096x3584 .fp8e4m3) (x4 : Vec F S1x3584 .f32) (x5 : Vec F S1x3584 .f32) (Y : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ (∃ X, ⌜Put i (scalesB x0 x1 x2 x3 x4 x5) Y X⌝ ∗ owns (c : Thread nD τ) arg8 fullShare X)) -∗ K ⟨⟩))
      ⊢ wp frame (wpE (defs₀ (F := F)) Variants.none c none) E (cc0_gate_up i arg1 harg1 arg2 harg2 arg3 harg3 arg4 harg4 arg5 harg5 arg6 harg6 arg7 harg7 arg8 harg8) K := by
  simp only [cc0_gate_up_eq_skeleton]; unfold cc0_gate_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _
  isplitr
  swap
  · iexists _; isplitr
    swap; · iexact H7
    ipureintro; rfl
  ipureintro
  exact put_write i _ _ _

/-! ## The pipeline's proof data -/

/-- The proof data: the arrays as the region finds them, each input's buffer at its block, the codes' buffer at
    what the body stores; of the scales' buffer the entry here is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => fun _ => Scalar.ofBits .f32 0x00000000#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## What is known of the scales' buffer -/

/-- The row piece of scales stored at point `s`. -/
def rowAt (c : Dev nD) (s : Fin cfg0.N) : Vec F S1x256 .f32 :=
  scalesB (iblk m c 0 s) (iblk m c 1 s) (iblk m c 2 s) (iblk m c 3 s) (iblk m c 4 s) (iblk m c 5 s)

/-- After point `t` every piece stored so far is in place. -/
def Known (c : Dev nD) (t : Fin cfg0.N) (X : Vec F S3x512 .f32) : Prop :=
  ∀ s : Fin cfg0.N, s.val ≤ t.val → ∀ x : (r7 (grid0.coords s)).shape.Idx, X ((r7 (grid0.coords s)).emb x) = rowAt m c s x

/-- Only the scales' window is held to a predicate. -/
def fgt (w : Fin cfg0.W) : Bool := match w with
  | ⟨7, _⟩ => true
  | _ => false

/-- The predicate, window by window. -/
def Rl (c : Dev nD) (w : Fin cfg0.W) (t : Fin cfg0.N) : ((cfg0.win w).block.Idx → Elt F (cfg0.win w).elt) → Prop := match w with
  | ⟨7, _⟩ => fun X => Known m c t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (r7 (grid0.coords s)).shape.Idx) : (r7 (grid0.coords s)).emb x ∉ (r7 (grid0.coords t)).set := by
  intro hm
  obtain ⟨a, ha⟩ := off_sep s t h
  have h1 := Rect.mem_set_unit.mp hm a
  have h2 := Rect.mem_set_unit.mp (show (r7 (grid0.coords s)).emb x ∈ (r7 (grid0.coords s)).set from (r7 (grid0.coords s)).idx_mem x) a
  omega

theorem fetch7 : ∀ t : Fin cfg0.N, (cfg0.win 7).fetch t = false := by
  intro t; rfl

/-- The buffer found at point `t` has the earlier pieces in place; storing one more gives `Known` at `t`. -/
theorem known_step (c : Dev nD) (t : Fin cfg0.N) (Y X : Vec F S3x512 .f32)
    (hY : ((dats m 0 c).toRRel fgt (Rl m c)).Finds 7 t Y) (hX : Put (grid0.coords t) (rowAt m c t) Y X) : Known m c t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch7 t) ht Y).mp hY with hf | hl
    · exfalso
      have := (flush0_7 _).mp hf
      have htN : t.val < 6 := t.isLt
      simp only at this
      omega
    · have hk : Known m c _ Y := Dat.toRRel_leaves (dats m 0 c) (fgt := fgt) (Rl := Rl m c) (w := 7) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel fgt (Rl m c)).Finds 7 t Y⌝ ∗ owns (c : Thread nD τ) (st0_7 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, ⟨%X, %hX, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; isplitr
  · ipureintro; exact known_step m c t Y X hY hX
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨(Pipeline.RDat.FramePost.arr_in hh.1 c 0 rfl).trans ((A_eq' m c 0).trans (V_main_arg0 m c)),
      ((hh.1 c).2 main_arg1 (Pipeline.mem_restRefs_of main_arg1 (by decide) (by decide))).trans (V_main_arg1 m c),
      (Pipeline.RDat.FramePost.arr_in hh.1 c 2 rfl).trans ((A_eq' m c 2).trans (V_main_arg2 m c)),
      (Pipeline.RDat.FramePost.arr_in hh.1 c 3 rfl).trans ((A_eq' m c 3).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main_quiescent m ρ)

end Cert.Proof.GateUpIdealRun

end
-- ==== Proof.GateUpKernel.lean ====
/- Hand-written, untrusted: the RUN OF THE KERNEL with its values. Grid point `t` works on rows `256 t` to `256 t + 255`: the
   blocks it reads are those rows of the codes and of the scales, and the whole weights; what it stores in the codes'
   block and in its row piece of the scales is the specification at those rows (`codes_at`, `scales_at`). The six blocks
   of codes cover their array (`final6`); the six row pieces cover the array of scales (`scales_final`). -/
module

public import proofs.«01_k».proof.Proof.GateUpIdealRun
public import proofs.«01_k».proof.Proof.GateUpSpec

@[expose] public section

noncomputable section

namespace Cert.Proof.GateUpKernel

open Cert.GateUpIdeal Cert.GateUpIdeal.Gen Cert.Proof.GateUpIdealRun
open Idealize.ShloMosaic Idealize.ShloMosaic.TcCoe Idealize.SL.Sem
open Idealize.ShloMosaic.Pipeline (Dat RDat Cfg)

theorem hz : (![0, 0] : Fin 2 → Nat) = fun _ => 0 := funext fun a => by fin_cases a <;> rfl

/-! ## The payloads, read at an index -/

/-- Every load but the two of the scales reads a whole buffer. -/
theorem actB_eq (x0 : Vec Ideal S256x4096 .fp8e4m3) (x1 : Vec Ideal S1x1x256 .f32) (x2 x3 : Vec Ideal S4096x3584 .fp8e4m3)
    (x4 x5 : Vec Ideal S1x3584 .f32) :
    actB x0 x1 x2 x3 x4 x5 = k0_pay1 (View.ld x1 r0_0) (View.ld x1 r0_1) x0 x2 x4 x3 x5 := by
  unfold actB
  rw [View.ld_unit_zero hz, View.ld_unit_zero hz, View.ld_unit_zero hz, View.ld_unit_zero hz, View.ld_unit_zero hz]

/-- The activations of the blocks at grid point `t`, at row `p` and column `q`, are the formula at row `256 t + p`. -/
theorem act_apply (t : Nat) (ht : t < 6) (a0 : Vec Ideal S1536x4096 .fp8e4m3) (a1 : Vec Ideal S3x512 .f32)
    (a2 a3 : Vec Ideal S4096x3584 .fp8e4m3) (a4 a5 : Vec Ideal S3584 .f32)
    (x0 : Vec Ideal S256x4096 .fp8e4m3) (x1 : Vec Ideal S1x1x256 .f32)
    (h0 : ∀ (p : Fin 256) (k : Fin 4096), x0 (ix2 p k) = a0 (ix2 ⟨t * 256 + p.val, by omega⟩ k))
    (h1 : ∀ l : Fin 256, x1 (ix3 0 0 l) = a1 (ix2 ⟨(t * 256 + l.val) / 512, by omega⟩ ⟨(t * 256 + l.val) % 512, by omega⟩))
    (p : Fin 256) (q : Fin 3584) :
    actB x0 x1 a2 a3 (broadcastInDim S1x3584 ![1] bcast_S3584_S1x3584_1 a4) (broadcastInDim S1x3584 ![1] bcast_S3584_S1x3584_1 a5) (ix2 p q)
      = GateUpSpec.act a0 a1 a2 a3 a4 a5 ⟨t * 256 + p.val, by omega⟩ q := by
  rw [actB_eq]
  pointwise [k0_pay1, GateUpSpec.act, GateUpSpec.proj, h0]
  split
  · rw [h1]
  · rename_i hp
    have e : (⟨128 + (p.val - 128), by omega⟩ : Fin 256) = p := Fin.ext (by show 128 + (p.val - 128) = p.val; omega)
    rw [e, h1]

/-- The largest absolute value of a row. -/
theorem max_apply (A : FVec Ideal S256x3584 .f32) (p : Fin 256) :
    (shapeCast S256x1 (multiReduction .maximumf [1] S256 (absf A) 0xFF800000#32 reduces_S256x3584_S256 (.inl rfl) rfl) shapeCasts_S256_S256x1
      : FVec Ideal S256x1 .f32) (ix2 p 0) = GateUpSpec.rowMax (fun q => A (ix2 p q)) := by
  unfold GateUpSpec.rowMax
  pointwise
theorem pay2_eq (v0 v6 : Vec Ideal S1x1x128 .f32) (v13 : Vec Ideal S256x4096 .fp8e4m3) (v14 : Vec Ideal S4096x3584 .fp8e4m3)
    (v18 : Vec Ideal S1x3584 .f32) (v22 : Vec Ideal S4096x3584 .fp8e4m3) (v26 : Vec Ideal S1x3584 .f32) :
    k0_pay2 v0 v6 v13 v14 v18 v22 v26
      = shapeCast S256x1 (multiReduction .maximumf [1] S256 (absf (k0_pay1 v0 v6 v13 v14 v18 v22 v26)) 0xFF800000#32 reduces_S256x3584_S256 (.inl rfl) rfl) shapeCasts_S256_S256x1 := rfl
theorem pay3_eq (v0 v6 : Vec Ideal S1x1x128 .f32) (v13 : Vec Ideal S256x4096 .fp8e4m3) (v14 : Vec Ideal S4096x3584 .fp8e4m3)
    (v18 : Vec Ideal S1x3584 .f32) (v22 : Vec Ideal S4096x3584 .fp8e4m3) (v26 : Vec Ideal S1x3584 .f32) :
    k0_pay3 v0 v6 v13 v14 v18 v22 v26
      = cmpf .oeq (k0_pay2 v0 v6 v13 v14 v18 v22 v26) (broadcast S256x1 (Scalar.ofBits .f32 0x00000000#32)) := rfl

/-- The scale from the largest absolute value. -/
theorem pay4_apply (M : FVec Ideal S256x1 .f32) (p : Fin 256) :
    k0_pay4 M (cmpf .oeq M (broadcast S256x1 (Scalar.ofBits .f32 0x00000000#32))) (Scalar.ofBits .f32 0x43E00000#32) (ix2 p 0)
      = if M (ix2 p 0) = (0 : EReal) then (1 : EReal) else Ideal.div (M (ix2 p 0)) (Ideal.ofBits .f32 0x43E00000#32) := by
  pointwise [k0_pay4]
/-- The code from the value and the scale. -/
theorem pay5_apply (A : FVec Ideal S256x3584 .f32) (M : FVec Ideal S256x1 .f32) (Z : IVec S256x1 1) (p : Fin 256) (q : Fin 3584) :
    k0_pay5 A M Z (Scalar.ofBits .f32 0x43E00000#32) (ix2 p q)
      = min (Ideal.ofBits .f32 0x43E00000#32) (max (Ideal.ofBits .f32 0xC3E00000#32)
          (Ideal.div (A (ix2 p q)) (k0_pay4 M Z (Scalar.ofBits .f32 0x43E00000#32) (ix2 p 0)))) := by
  pointwise [k0_pay5]
/-- The column of scales laid out as a row. -/
theorem pay6_apply (M : FVec Ideal S256x1 .f32) (Z : IVec S256x1 1) (l : Fin 256) :
    k0_pay6 M Z (Scalar.ofBits .f32 0x43E00000#32) (ix2 0 l) = k0_pay4 M Z (Scalar.ofBits .f32 0x43E00000#32) (ix2 l 0) := by
  pointwise [k0_pay6]
  split
  · rfl
  have e : (⟨128 + (l.val - 128), by omega⟩ : Fin 256) = l := Fin.ext (by show 128 + (l.val - 128) = l.val; omega)
  rw [e]

section
variable (t : Nat) (ht : t < 6) (a0 : Vec Ideal S1536x4096 .fp8e4m3) (a1 : Vec Ideal S3x512 .f32)
    (a2 a3 : Vec Ideal S4096x3584 .fp8e4m3) (a4 a5 : Vec Ideal S3584 .f32)
    (x0 : Vec Ideal S256x4096 .fp8e4m3) (x1 : Vec Ideal S1x1x256 .f32)
    (h0 : ∀ (p : Fin 256) (k : Fin 4096), x0 (ix2 p k) = a0 (ix2 ⟨t * 256 + p.val, by omega⟩ k))
    (h1 : ∀ l : Fin 256, x1 (ix3 0 0 l) = a1 (ix2 ⟨(t * 256 + l.val) / 512, by omega⟩ ⟨(t * 256 + l.val) % 512, by omega⟩))

include h0 h1

/-- The scale of a row of the block. -/
theorem scale_at (p : Fin 256) :
    k0_pay4 (maxB x0 x1 a2 a3 (broadcastInDim S1x3584 ![1] bcast_S3584_S1x3584_1 a4) (broadcastInDim S1x3584 ![1] bcast_S3584_S1x3584_1 a5))
      (zeroB x0 x1 a2 a3 (broadcastInDim S1x3584 ![1] bcast_S3584_S1x3584_1 a4) (broadcastInDim S1x3584 ![1] bcast_S3584_S1x3584_1 a5))
      (Scalar.ofBits .f32 0x43E00000#32) (ix2 p 0)
      = GateUpSpec.scale (GateUpSpec.act a0 a1 a2 a3 a4 a5 ⟨t * 256 + p.val, by omega⟩) := by
  have hm : maxB x0 x1 a2 a3 (broadcastInDim S1x3584 ![1] bcast_S3584_S1x3584_1 a4) (broadcastInDim S1x3584 ![1] bcast_S3584_S1x3584_1 a5) (ix2 p 0)
      = GateUpSpec.rowMax (GateUpSpec.act a0 a1 a2 a3 a4 a5 ⟨t * 256 + p.val, by omega⟩) := by
    unfold maxB
    rw [pay2_eq, max_apply]
    congr 1; funext q
    exact act_apply t ht a0 a1 a2 a3 a4 a5 x0 x1 h0 h1 p q
  unfold zeroB
  rw [pay3_eq, pay4_apply, hm]; rfl

/-- The codes the point stores are the specification's. -/
theorem codes_at (p : Fin 256) (q : Fin 3584) :
    out0_6 x0 x1 a2 a3 (broadcastInDim S1x3584 ![1] bcast_S3584_S1x3584_1 a4) (broadcastInDim S1x3584 ![1] bcast_S3584_S1x3584_1 a5) (ix2 p q)
      = GateUpSpec.C a0 a1 a2 a3 a4 a5 (ix2 ⟨t * 256 + p.val, by omega⟩ q) := by
  unfold out0_6 codesB
  rw [View.canon_unit_zero hz, pay5_apply, scale_at t ht a0 a1 a2 a3 a4 a5 x0 x1 h0 h1,
    act_apply t ht a0 a1 a2 a3 a4 a5 x0 x1 h0 h1]
  rfl

/-- The row piece of scales the point stores is the specification's. -/
theorem scales_at (l : Fin 256) :
    scalesB x0 x1 a2 a3 (broadcastInDim S1x3584 ![1] bcast_S3584_S1x3584_1 a4) (broadcastInDim S1x3584 ![1] bcast_S3584_S1x3584_1 a5) (ix2 0 l)
      = GateUpSpec.scale (GateUpSpec.act a0 a1 a2 a3 a4 a5 ⟨t * 256 + l.val, by omega⟩) := by
  unfold scalesB
  rw [pay6_apply, scale_at t ht a0 a1 a2 a3 a4 a5 x0 x1 h0 h1]
end

/-- The scales re-laid by block: block `t`, lane `l` is the scale of row `256 t + l`. -/
theorem relay_apply (a1 : Vec Ideal S3x512 .f32) (t : Fin 6) (l : Fin 256) :
    (shapeCast S6x1x256 a1 shapeCasts_S3x512_S6x1x256 : Vec Ideal S6x1x256 .f32) (ix3 t 0 l)
      = a1 (ix2 ⟨(t.val * 256 + l.val) / 512, by omega⟩ ⟨(t.val * 256 + l.val) % 512, by omega⟩) := by
  have e0 : t.val / 2 = (t.val * 256 + l.val) / 512 := by omega
  have e1 : t.val % 2 * 256 + l.val = (t.val * 256 + l.val) % 512 := by omega
  pointwise
  simp only [e0, e1]

variable (m : (ℓ : Loc nD τ sig) → Buf (Elt Ideal) ℓ) (ρ : Dev nD → PrngReg)

/-! ## The arrays and the blocks -/

/-- What the host's lines before the kernel leave in the arrays the kernel reads. -/
theorem V_main_v0 (c : Dev nD) : V m c main_v0
    = (shapeCast S6x1x256 (m ((c : Thread nD τ).loc main_arg1)) shapeCasts_S3x512_S6x1x256 : Vec Ideal S6x1x256 .f32) := by
  show StableHlo.after hostOps0 _ (Proc.devRef .tc main_v0) = _
  after_results
  try rfl
theorem V_main_v1 (c : Dev nD) : V m c main_v1
    = (broadcastInDim S1x3584 ![1] bcast_S3584_S1x3584_1 (m ((c : Thread nD τ).loc main_arg4)) : Vec Ideal S1x3584 .f32) := by
  show StableHlo.after hostOps0 _ (Proc.devRef .tc main_v1) = _
  after_results
  try rfl
theorem V_main_v2 (c : Dev nD) : V m c main_v2
    = (broadcastInDim S1x3584 ![1] bcast_S3584_S1x3584_1 (m ((c : Thread nD τ).loc main_arg5)) : Vec Ideal S1x3584 .f32) := by
  show StableHlo.after hostOps0 _ (Proc.devRef .tc main_v2) = _
  after_results
  try rfl

/-- Each window's block index at each grid point. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem lt6 (t : Fin cfg0.N) : t.val < 6 := t.isLt

/-- The block of codes, read at a row and a column, is the array at the point's row and that column. -/
theorem iblk0_apply (c : Dev nD) (t : Fin cfg0.N) (p : Fin 256) (k : Fin 4096) :
    iblk m c 0 t (ix2 p k) = m ((c : Thread nD τ).loc main_arg0) (ix2 ⟨t.val * 256 + p.val, by have := lt6 t; omega⟩ k) := by
  obtain ⟨e0, e1⟩ := idx0 t
  rw [← V_main_arg0 m c]
  show V m c main_arg0 (((cfg0.win 0).blk t).view.emb (ix2 p k)) = _
  congr 1; funext a; apply Fin.ext
  match a with
  | ⟨0, _⟩ => show win0_0.index t (0 : Fin 2) * 256 + 1 * p.val = t.val * 256 + p.val; omega
  | ⟨1, _⟩ => show win0_0.index t (1 : Fin 2) * 4096 + 1 * k.val = k.val; omega

/-- The block of scales at grid point `t`, at lane `l`, is the scale of row `256 t + l`. -/
theorem iblk1_apply (c : Dev nD) (t : Fin cfg0.N) (l : Fin 256) :
    iblk m c 1 t (ix3 0 0 l) = m ((c : Thread nD τ).loc main_arg1)
      (ix2 ⟨(t.val * 256 + l.val) / 512, by have := lt6 t; omega⟩ ⟨(t.val * 256 + l.val) % 512, by omega⟩) := by
  obtain ⟨e0, e1, e2⟩ := idx1 t
  have hb : iblk m c 1 t (ix3 0 0 l) = V m c main_v0 (ix3 ⟨t.val, lt6 t⟩ 0 l) := by
    show V m c main_v0 (((cfg0.win 1).blk t).view.emb (ix3 0 0 l)) = _
    congr 1; funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 256 + 1 * l.val = l.val; omega
  rw [hb, V_main_v0, relay_apply]

/-- A window whose block is its whole array. -/
theorem emb2 (t : Fin cfg0.N) (j : S4096x3584.Idx) : ((cfg0.win 2).blk t).view.emb j = j := by
  obtain ⟨e0, e1⟩ := idx2 t
  funext a; apply Fin.ext
  match a with
  | ⟨0, _⟩ => show win0_2.index t (0 : Fin 2) * 4096 + 1 * (j 0).val = (j 0).val; omega
  | ⟨1, _⟩ => show win0_2.index t (1 : Fin 2) * 3584 + 1 * (j 1).val = (j 1).val; omega
theorem emb3 (t : Fin cfg0.N) (j : S4096x3584.Idx) : ((cfg0.win 3).blk t).view.emb j = j := by
  obtain ⟨e0, e1⟩ := idx3 t
  funext a; apply Fin.ext
  match a with
  | ⟨0, _⟩ => show win0_3.index t (0 : Fin 2) * 4096 + 1 * (j 0).val = (j 0).val; omega
  | ⟨1, _⟩ => show win0_3.index t (1 : Fin 2) * 3584 + 1 * (j 1).val = (j 1).val; omega
theorem emb4 (t : Fin cfg0.N) (j : S1x3584.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 3584 + 1 * (j 1).val = (j 1).val; omega
theorem emb5 (t : Fin cfg0.N) (j : S1x3584.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 3584 + 1 * (j 1).val = (j 1).val; omega
theorem emb7 (t : Fin cfg0.N) (j : S3x512.Idx) : ((cfg0.win 7).blk t).view.emb j = j := by
  obtain ⟨e0, e1⟩ := idx7 t
  funext a; apply Fin.ext
  match a with
  | ⟨0, _⟩ => show win0_7.index t (0 : Fin 2) * 3 + 1 * (j 0).val = (j 0).val; omega
  | ⟨1, _⟩ => show win0_7.index t (1 : Fin 2) * 512 + 1 * (j 1).val = (j 1).val; omega
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]
theorem iblk4_eq (c : Dev nD) (t : Fin cfg0.N) : iblk m c 4 t = V m c main_v1 := by
  funext j; show V m c main_v1 (((cfg0.win 4).blk t).view.emb j) = V m c main_v1 j; rw [emb4]
theorem iblk5_eq (c : Dev nD) (t : Fin cfg0.N) : iblk m c 5 t = V m c main_v2 := by
  funext j; show V m c main_v2 (((cfg0.win 5).blk t).view.emb j) = V m c main_v2 j; rw [emb5]

/-- Where the codes' block at point `t` puts row `p` and column `q`. -/
theorem emb6 (t : Fin cfg0.N) (p : Fin 256) (q : Fin 3584) :
    ((cfg0.win 6).blk t).view.emb (ix2 p q) = (ix2 ⟨t.val * 256 + p.val, by have := lt6 t; omega⟩ q : S1536x3584.Idx) := by
  obtain ⟨e0, e1⟩ := idx6 t
  funext a; apply Fin.ext
  match a with
  | ⟨0, _⟩ => show win0_6.index t (0 : Fin 2) * 256 + 1 * p.val = t.val * 256 + p.val; omega
  | ⟨1, _⟩ => show win0_6.index t (1 : Fin 2) * 3584 + 1 * q.val = q.val; omega

/-- The two results of device `c`'s run as the formulas of its argument arrays. -/
abbrev RC (c : Dev nD) : Vec Ideal S1536x3584 .fp8e4m3 := GateUpSpec.C (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
abbrev RS (c : Dev nD) : Vec Ideal S3x512 .f32 := GateUpSpec.S (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-! ## The codes -/

theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- What point `t` writes back is its block of the formula. -/
theorem flushed6_eq (c : Dev nD) (t : Fin cfg0.N) :
    (dats m 0 c).flushed 6 t = ((cfg0.win 6).blk t).view.read (Elt Ideal) (RC m c) := by
  rw [flushed6, iblk2_eq, iblk3_eq, iblk4_eq, iblk5_eq, V_main_v1, V_main_v2, V_main_arg2, V_main_arg3]
  funext j
  obtain ⟨p, q, rfl⟩ : ∃ (p : Fin 256) (q : Fin 3584), j = ix2 p q := ⟨j 0, j 1, eq_ix2 j⟩
  refine (codes_at t.val (lt6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0 t) (iblk m c 1 t) (iblk0_apply m c t) (iblk1_apply m c t) p q).trans ?_
  show _ = RC m c (((cfg0.win 6).blk t).view.emb (ix2 p q))
  rw [emb6]

/-- Every index of the array of codes is in the block of the point of its row. -/
theorem covered6 (i : S1536x3584.Idx) :
    ∃ t : Fin cfg0.N, (cfg0.win 6).flush t = true ∧ i ∈ ((cfg0.win 6).blk t).view.set := by
  obtain ⟨r, q, rfl⟩ : ∃ (r : Fin 1536) (q : Fin 3584), i = ix2 r q := ⟨i 0, i 1, eq_ix2 i⟩
  have hr := r.isLt
  refine ⟨(⟨r.val / 256, by show r.val / 256 < 6; omega⟩ : Fin cfg0.N), flush0_6 _, ?_⟩
  have h := ((cfg0.win 6).blk (⟨r.val / 256, by show r.val / 256 < 6; omega⟩ : Fin cfg0.N)).view.emb_mem_set
    (ix2 (⟨r.val % 256, by omega⟩ : Fin 256) q)
  rw [emb6] at h
  have e : (⟨r.val / 256 * 256 + r.val % 256, by omega⟩ : Fin 1536) = r := Fin.ext (by show r.val / 256 * 256 + r.val % 256 = r.val; omega)
  simp only [e] at h
  exact h

/-- The array of codes after the run is the formula of the arguments as launched. -/
theorem final6 (c : Dev nD) : (dats m 0 c).arrAt 6 cfg0.N = RC m c :=
  (dats m 0 c).arrAt_eq_of_cover 6 (RC m c) (fun t _ => flushed6_eq m c t) covered6

/-! ## The scales -/

/-- The row piece stored at a point is the specification's. -/
theorem rowAt_eq (c : Dev nD) (s : Fin cfg0.N) (l : Fin 256) :
    rowAt m c s (ix2 0 l) = GateUpSpec.scale (GateUpSpec.act (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) ⟨s.val * 256 + l.val, by have := lt6 s; omega⟩) := by
  unfold rowAt
  rw [iblk2_eq, iblk3_eq, iblk4_eq, iblk5_eq, V_main_v1, V_main_v2, V_main_arg2, V_main_arg3]
  exact scales_at s.val (lt6 s) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (iblk m c 0 s) (iblk m c 1 s) (iblk0_apply m c s) (iblk1_apply m c s) l

/-- Where the row piece of a point starts. -/
theorem off_eq : ∀ s : Fin cfg0.N, k0_off1 (grid0.coords s) (0 : Fin 2) = s.val / 2 ∧ k0_off1 (grid0.coords s) (1 : Fin 2) = s.val % 2 * 256 :=
  (by decide +kernel : ∀ t : Fin grid0.N, _)

/-- A buffer with every piece in place holds the specification's scales. -/
theorem known_last (c : Dev nD) (t : Fin cfg0.N) (ht : t.val = 5) (X : Vec Ideal S3x512 .f32) (h : Known m c t X) : X = RS m c := by
  funext j
  obtain ⟨a, b, rfl⟩ : ∃ (a : Fin 3) (b : Fin 512), j = ix2 a b := ⟨j 0, j 1, eq_ix2 j⟩
  have ha := a.isLt
  have hb := b.isLt
  let s : Fin cfg0.N := ⟨a.val * 2 + b.val / 256, by show a.val * 2 + b.val / 256 < 6; omega⟩
  have hs : s.val = a.val * 2 + b.val / 256 := rfl
  let l : Fin 256 := ⟨b.val % 256, by omega⟩
  have hl : l.val = b.val % 256 := rfl
  obtain ⟨e0, e1⟩ := off_eq s
  have hx := h s (by omega) (ix2 (0 : Fin 1) l)
  have he : (r7 (grid0.coords s)).emb (ix2 (0 : Fin 1) l) = (ix2 a b : S3x512.Idx) := by
    funext k; apply Fin.ext
    match k with
    | ⟨0, _⟩ => show k0_off1 (grid0.coords s) (0 : Fin 2) + 1 * 0 = a.val; omega
    | ⟨1, _⟩ => show k0_off1 (grid0.coords s) (1 : Fin 2) + 1 * l.val = b.val; omega
  rw [he, rowAt_eq m c s l] at hx
  rw [hx]
  have hr : (⟨s.val * 256 + l.val, by have := lt6 s; omega⟩ : Fin 1536) = ⟨a.val * 512 + b.val, by omega⟩ :=
    Fin.ext (by show s.val * 256 + l.val = a.val * 512 + b.val; omega)
  rw [hr]
  rfl

/-! ## The run -/

section
variable {nD' : Nat} {τ' : Topo} {sig' : RefSig} {Val : EltTy → Type} [∀ e, Nonempty (Val e)] {Λ' : Idealize.SL.Sem.Labels}
variable {U : Type} [Idealize.SL.RA.URA U] {cfg : Cfg sig' Λ'} {c : Dev nD'}

/-- Of a window held to no predicate the array after the run is the exact data's. -/
theorem arrAt_exact (dat : Dat τ' Val Unit ℕ U ℕ cfg c) (fgt : Fin cfg.W → Bool)
    (Rl : (w : Fin cfg.W) → Fin cfg.N → ((cfg.win w).block.Idx → Val (cfg.win w).elt) → Prop) (w : Fin cfg.W) (h : fgt w = false) (n : Nat)
    (F : Buf Val ((cfg.win w).arr.view.loc (c.tc : Thread nD' τ'))) (hF : (dat.toRRel fgt Rl).ArrAt w n F) : F = dat.arrAt w n :=
  (dat.toR_arrAt_iff w n F).mp ((dat.toR.override_arrAt (by simp only [h]) n F).mp hF)

/-- A window written back at the last point: the array is a write of what the body may leave there. -/
theorem arrAt_last (rd : RDat τ' Val Unit ℕ U ℕ cfg c) (w : Fin cfg.W) (u : Fin cfg.N) (hu : cfg.N = u.val + 1) (hf : (cfg.win w).flush u = true)
    (F : Buf Val ((cfg.win w).arr.view.loc (c.tc : Thread nD' τ'))) (hF : rd.ArrAt w cfg.N F) :
    ∃ G₀ X, rd.Leaves w u X ∧ F = ((cfg.win w).blk u).view.write Val G₀ ((cfg.win w).cut (cfg.grid.coords u) X) Finset.univ := by
  rw [show rd.ArrAt w cfg.N = rd.ArrAt w (u.val + 1) from congrArg (rd.ArrAt w) hu, rd.ArrAt_succ w u, if_pos hf] at hF
  obtain ⟨G₀, X, _, hL, e⟩ := hF
  exact ⟨G₀, X, hL, e⟩
end

/-- The last grid point. -/
abbrev tLast : Fin cfg0.N := ⟨5, by decide⟩

/-- The array of scales after the run is the formula of the arguments as launched. -/
theorem scales_final (c : Dev nD) (F : Vec Ideal S3x512 .f32) (hF : (rdats m c).ArrAt 7 cfg0.N F) : F = RS m c := by
  obtain ⟨G₀, X, hL, e⟩ := arrAt_last (rdats m c) 7 tLast (by decide) ((flush0_7 _).mpr (by decide)) F hF
  have hK : Known m c tLast X := Dat.toRRel_leaves (dats m 0 c) (fgt := fgt) (Rl := Rl m c) (w := 7) rfl hL
  have hX : (X : Vec Ideal S3x512 .f32) = RS m c := known_last m c tLast rfl X hK
  funext j
  have h1 : F (((cfg0.win 7).blk tLast).view.emb j) = (cfg0.win 7).cut (grid0.coords tLast) X j := by
    rw [e]; exact View.write_emb_of_mem _ _ (Finset.mem_univ _)
  rw [emb7] at h1
  rw [h1, ← hX]; rfl

/-- The run: both results at their formulas, the arguments unchanged. -/
theorem run_values : θ_run defs (onTc (τ := τ) (main (F := Ideal))) ⟨m, fun _ => 0, ρ⟩ (fun r => ∀ c : Dev nD,
      r.2.mem ((c.tc : Thread nD τ).loc main_v3_0) = RC m c
      ∧ r.2.mem ((c.tc : Thread nD τ).loc main_v3_1) = RS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hh c => ⟨(arrAt_exact (dats m 0 c) fgt (Rl m c) 6 rfl _ _ ((hh.1 c).1 6)).trans (final6 m c),
      scales_final m c _ ((hh.1 c).1 7),
      (Pipeline.RDat.FramePost.arr_in hh.1 c 0 rfl).trans ((A_eq' m c 0).trans (V_main_arg0 m c)),
      ((hh.1 c).2 main_arg1 (Pipeline.mem_restRefs_of main_arg1 (by decide) (by decide))).trans (V_main_arg1 m c),
      (Pipeline.RDat.FramePost.arr_in hh.1 c 2 rfl).trans ((A_eq' m c 2).trans (V_main_arg2 m c)),
      (Pipeline.RDat.FramePost.arr_in hh.1 c 3 rfl).trans ((A_eq' m c 3).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩) (run_main_quiescent m ρ)

end Cert.Proof.GateUpKernel

end
-- ==== Proof.GateUpRun.lean ====
/-
  The run of the gate-and-up kernel at any float instance: the body's triple, the proof data and the frame.

  Seven windows are exact: six inputs stay at their blocks and window 6 (the codes) ends at what the body
  stores whole. Window 7 is the array of scales, which stays in its buffer over the whole grid while each
  point stores one row piece at an offset depending on the point; of it the proof says, at each point, that
  every piece stored so far is still in place. At the last point that names every element.
-/
module

public import proofs.«01_k».proof.Proof.Gen.GateUp.Frame
public import proofs.«01_k».proof.Proof.Gen.GateUp.Skeleton
public import Idealize.ShloMosaic.Lib.Pipeline.DatRel
public import Idealize.ShloMosaic.Lib.Pipeline.Cells

@[expose] public section

set_option maxRecDepth 16384

noncomputable section

namespace Cert.Proof.GateUpRun

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x1x256 := Rect.unit (s := S1x1x256) ![0, 0, 0] S1x1x128.size inb_S1x1x256_S1x1x128_0_0_0
abbrev r0_1 : Rect S1x1x256 := Rect.unit (s := S1x1x256) ![0, 0, 128] S1x1x128.size inb_S1x1x256_S1x1x128_0_0_128
abbrev r0_2 : Rect S256x4096 := Rect.unit (s := S256x4096) ![0, 0] S256x4096.size inb_S256x4096_S256x4096_0_0
abbrev r0_3 : Rect S4096x3584 := Rect.unit (s := S4096x3584) ![0, 0] S4096x3584.size inb_S4096x3584_S4096x3584_0_0
abbrev r0_4 : Rect S1x3584 := Rect.unit (s := S1x3584) ![0, 0] S1x3584.size inb_S1x3584_S1x3584_0_0
abbrev r0_5 : Rect S256x3584 := Rect.unit (s := S256x3584) ![0, 0] S256x3584.size inb_S256x3584_S256x3584_0_0
/-- Where the scales of a point go. -/
abbrev r7 (i : grid0.Coords) : Rect S3x512 := Rect.unit (s := S3x512) (k0_off1 i) S1x256.size (k0_off1_inb i)

/-! ## What the body stores -/

/-- The activations of a block of rows. -/
abbrev actB (x0 : Vec F S256x4096 .fp8e4m3) (x1 : Vec F S1x1x256 .f32) (x2 x3 : Vec F S4096x3584 .fp8e4m3) (x4 x5 : Vec F S1x3584 .f32) : FVec F S256x3584 .f32 :=
  k0_pay1 (View.ld x1 r0_0) (View.ld x1 r0_1) (View.ld x0 r0_2) (View.ld x2 r0_3) (View.ld x4 r0_4) (View.ld x3 r0_3) (View.ld x5 r0_4)
/-- Their largest absolute value, row by row. -/
abbrev maxB (x0 : Vec F S256x4096 .fp8e4m3) (x1 : Vec F S1x1x256 .f32) (x2 x3 : Vec F S4096x3584 .fp8e4m3) (x4 x5 : Vec F S1x3584 .f32) : FVec F S256x1 .f32 :=
  k0_pay2 (View.ld x1 r0_0) (View.ld x1 r0_1) (View.ld x0 r0_2) (View.ld x2 r0_3) (View.ld x4 r0_4) (View.ld x3 r0_3) (View.ld x5 r0_4)
/-- Which rows are zero. -/
abbrev zeroB (x0 : Vec F S256x4096 .fp8e4m3) (x1 : Vec F S1x1x256 .f32) (x2 x3 : Vec F S4096x3584 .fp8e4m3) (x4 x5 : Vec F S1x3584 .f32) : IVec S256x1 1 :=
  k0_pay3 (View.ld x1 r0_0) (View.ld x1 r0_1) (View.ld x0 r0_2) (View.ld x2 r0_3) (View.ld x4 r0_4) (View.ld x3 r0_3) (View.ld x5 r0_4)
/-- The codes of a block. -/
def codesB (x0 : Vec F S256x4096 .fp8e4m3) (x1 : Vec F S1x1x256 .f32) (x2 x3 : Vec F S4096x3584 .fp8e4m3) (x4 x5 : Vec F S1x3584 .f32) : FVec F S256x3584 .fp8e4m3 :=
  k0_pay5 (actB x0 x1 x2 x3 x4 x5) (maxB x0 x1 x2 x3 x4 x5) (zeroB x0 x1 x2 x3 x4 x5) (Scalar.ofBits .f32 0x43E00000#32)
/-- The row piece of scales of a block. -/
def scalesB (x0 : Vec F S256x4096 .fp8e4m3) (x1 : Vec F S1x1x256 .f32) (x2 x3 : Vec F S4096x3584 .fp8e4m3) (x4 x5 : Vec F S1x3584 .f32) : FVec F S1x256 .f32 :=
  k0_pay6 (maxB x0 x1 x2 x3 x4 x5) (zeroB x0 x1 x2 x3 x4 x5) (Scalar.ofBits .f32 0x43E00000#32)

/-- Window 6's staging buffer after the body, from the input windows' blocks. -/
def out0_6 (x0 : Vec F S256x4096 .fp8e4m3) (x1 : Vec F S1x1x256 .f32) (x2 x3 : Vec F S4096x3584 .fp8e4m3) (x4 x5 : Vec F S1x3584 .f32) : Vec F S256x3584 .fp8e4m3 :=
  View.canon [⟨r0_5, codesB x0 x1 x2 x3 x4 x5⟩]

/-- The one store covers the buffer. -/
theorem cover0_6 (p0 : Vec F S256x3584 .fp8e4m3) (y : S256x3584.Idx) :
    ∃ pc ∈ ([⟨r0_5, p0⟩] : List (View.Piece (Elt F) S256x3584 .fp8e4m3)), y ∈ pc.1.set :=
  View.cover_of_tiled [⟨r0_5, p0⟩] S256x3584.size (by rfl) y

/-- The scales' buffer found at `Y` and left at `X`: the piece at point `i` is `w`, the rest is as found. -/
def Put (i : grid0.Coords) (w : Vec F S1x256 .f32) (Y X : Vec F S3x512 .f32) : Prop :=
  (∀ x : (r7 i).shape.Idx, X ((r7 i).emb x) = w x) ∧ ∀ y, y ∉ (r7 i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨r7 i, w⟩])) := by
  constructor
  · intro x; rw [View.read_writes_cons_emb]
  · intro y hy
    have hy' : y ∉ Finset.univ.map (r7 i).emb := by rwa [Rect.map_emb_univ]
    rw [View.writes_cons, View.read_slice_write_of_not_mem (r7 i) _ _ _ hy']; rfl

/-! ## The body's triple -/

set_option maxHeartbeats 1000000 in
/-- The kernel body on whole staging buffers: inputs kept, the codes stored whole, the scales' piece stored. -/
theorem sound_kernel (c : Dev nD) (E : Set ℕ) (i : grid0.Coords) (arg1 : Memref sig .tc .vmem S256x4096 .fp8e4m3) (harg1 : arg1.IsWhole) (arg2 : Memref sig .tc .vmem S1x1x256 .f32) (harg2 : arg2.IsWhole) (arg3 : Memref sig .tc .vmem S4096x3584 .fp8e4m3) (harg3 : arg3.IsWhole) (arg4 : Memref sig .tc .vmem S4096x3584 .fp8e4m3) (harg4 : arg4.IsWhole) (arg5 : Memref sig .tc .vmem S1x3584 .f32) (harg5 : arg5.IsWhole) (arg6 : Memref sig .tc .vmem S1x3584 .f32) (harg6 : arg6.IsWhole) (arg7 : Memref sig .tc .vmem S256x3584 .fp8e4m3) (harg7 : arg7.IsWhole) (arg8 : Memref sig .tc .vmem S3x512 .f32) (harg8 : arg8.IsWhole)
    (x0 : Vec F S256x4096 .fp8e4m3) (x1 : Vec F S1x1x256 .f32) (x2 : Vec F S4096x3584 .fp8e4m3) (x3 : Vec F S4096x3584 .fp8e4m3) (x4 : Vec F S1x3584 .f32) (x5 : Vec F S1x3584 .f32) (Y : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ (∃ X, ⌜Put i (scalesB x0 x1 x2 x3 x4 x5) Y X⌝ ∗ owns (c : Thread nD τ) arg8 fullShare X)) -∗ K ⟨⟩))
      ⊢ wp frame (wpE (defs₀ (F := F)) Variants.none c none) E (cc0_gate_up i arg1 harg1 arg2 harg2 arg3 harg3 arg4 harg4 arg5 harg5 arg6 harg6 arg7 harg7 arg8 harg8) K := by
  simp only [cc0_gate_up_eq_skeleton]; unfold cc0_gate_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _
  isplitr
  swap
  · iexists _; isplitr
    swap; · iexact H7
    ipureintro; rfl
  ipureintro
  exact put_write i _ _ _

/-! ## The pipeline's proof data -/

/-- The proof data: the arrays as the region finds them, each input's buffer at its block, the codes' buffer at
    what the body stores; of the scales' buffer the entry here is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => fun _ => Scalar.ofBits .f32 0x00000000#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## What is known of the scales' buffer -/

/-- The row piece of scales stored at point `s`. -/
def rowAt (c : Dev nD) (s : Fin cfg0.N) : Vec F S1x256 .f32 :=
  scalesB (iblk m c 0 s) (iblk m c 1 s) (iblk m c 2 s) (iblk m c 3 s) (iblk m c 4 s) (iblk m c 5 s)

/-- After point `t` every piece stored so far is in place. -/
def Known (c : Dev nD) (t : Fin cfg0.N) (X : Vec F S3x512 .f32) : Prop :=
  ∀ s : Fin cfg0.N, s.val ≤ t.val → ∀ x : (r7 (grid0.coords s)).shape.Idx, X ((r7 (grid0.coords s)).emb x) = rowAt m c s x

/-- Only the scales' window is held to a predicate. -/
def fgt (w : Fin cfg0.W) : Bool := match w with
  | ⟨7, _⟩ => true
  | _ => false

/-- The predicate, window by window. -/
def Rl (c : Dev nD) (w : Fin cfg0.W) (t : Fin cfg0.N) : ((cfg0.win w).block.Idx → Elt F (cfg0.win w).elt) → Prop := match w with
  | ⟨7, _⟩ => fun X => Known m c t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (r7 (grid0.coords s)).shape.Idx) : (r7 (grid0.coords s)).emb x ∉ (r7 (grid0.coords t)).set := by
  intro hm
  obtain ⟨a, ha⟩ := off_sep s t h
  have h1 := Rect.mem_set_unit.mp hm a
  have h2 := Rect.mem_set_unit.mp (show (r7 (grid0.coords s)).emb x ∈ (r7 (grid0.coords s)).set from (r7 (grid0.coords s)).idx_mem x) a
  omega

theorem fetch7 : ∀ t : Fin cfg0.N, (cfg0.win 7).fetch t = false := by
  intro t; rfl

/-- The buffer found at point `t` has the earlier pieces in place; storing one more gives `Known` at `t`. -/
theorem known_step (c : Dev nD) (t : Fin cfg0.N) (Y X : Vec F S3x512 .f32)
    (hY : ((dats m 0 c).toRRel fgt (Rl m c)).Finds 7 t Y) (hX : Put (grid0.coords t) (rowAt m c t) Y X) : Known m c t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch7 t) ht Y).mp hY with hf | hl
    · exfalso
      have := (flush0_7 _).mp hf
      have htN : t.val < 6 := t.isLt
      simp only at this
      omega
    · have hk : Known m c _ Y := Dat.toRRel_leaves (dats m 0 c) (fgt := fgt) (Rl := Rl m c) (w := 7) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel fgt (Rl m c)).Finds 7 t Y⌝ ∗ owns (c : Thread nD τ) (st0_7 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, ⟨%X, %hX, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; isplitr
  · ipureintro; exact known_step m c t Y X hY hX
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨(Pipeline.RDat.FramePost.arr_in hh.1 c 0 rfl).trans ((A_eq' m c 0).trans (V_main_arg0 m c)),
      ((hh.1 c).2 main_arg1 (Pipeline.mem_restRefs_of main_arg1 (by decide) (by decide))).trans (V_main_arg1 m c),
      (Pipeline.RDat.FramePost.arr_in hh.1 c 2 rfl).trans ((A_eq' m c 2).trans (V_main_arg2 m c)),
      (Pipeline.RDat.FramePost.arr_in hh.1 c 3 rfl).trans ((A_eq' m c 3).trans (V_main_arg3 m c)),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main_quiescent m ρ)

end Cert.Proof.GateUpRun

end
-- ==== Proof.TextQSpec.lean ====
/- Hand-written, untrusted: the first norm of the block, its quantisation and the query projection with the queries' norm,
   as functions of the argument arrays, over the extended reals, index by index. The kernel (`TextQKernel.lean`) and the
   reference (`TextQRef.lean`) are each shown to leave them in their three results. -/
module

public import Idealize.ShloMosaic.Lib.Pointwise

@[expose] public section

noncomputable section

namespace Cert.Proof.TextQSpec

open Idealize.ShloMosaic

/-- A vector over the root of its mean square plus 1e-5, times a weight; `w` is the length as a float. -/
def rms {n : Nat} (w : BitVec 32) (f g : Fin n → EReal) (k : Fin n) : EReal :=
  Ideal.div (f k) (Ideal.sqrt (Ideal.div (∑ x : Fin n, f x * f x) (Ideal.ofBits .f32 w) + Ideal.ofBits .f32 0x3727C5AC#32)) * g k

/-- The normed row `r` of the input. -/
def xn (a0 : Vec Ideal ⟨3, ![3, 512, 4096]⟩ .bf16) (a1 : Vec Ideal ⟨1, ![4096]⟩ .f32) (r : Fin 1536) : Fin 4096 → EReal :=
  rms 0x45800000#32 (fun k : Fin 4096 => a0 (ix3 ⟨r.val / 512, by omega⟩ ⟨r.val % 512, by omega⟩ k)) (fun k : Fin 4096 => a1 (ix1 k))

/-- The largest absolute value of a row. -/
def rowMax (f : Fin 4096 → EReal) : EReal :=
  Finset.univ.fold max (Ideal.ofBits .f32 0xFF800000#32) fun q : Fin 4096 => FloatOps.absf (F := Ideal) (φ := .f32) (f q)

/-- The scale of a row: its largest absolute value over 448, or one for a zero row. -/
def scale (f : Fin 4096 → EReal) : EReal :=
  if rowMax f = 0 then 1 else Ideal.div (rowMax f) (Ideal.ofBits .f32 0x43E00000#32)

/-- The code at a place of a row: the value over the row's scale, cut to the range of the format. -/
def code (f : Fin 4096 → EReal) (q : Fin 4096) : EReal :=
  min (Ideal.ofBits .f32 0x43E00000#32) (max (Ideal.ofBits .f32 0xC3E00000#32) (Ideal.div (f q) (scale f)))

section
variable (a0 : Vec Ideal ⟨3, ![3, 512, 4096]⟩ .bf16) (a1 : Vec Ideal ⟨1, ![4096]⟩ .f32)
    (a2 : Vec Ideal ⟨2, ![4096, 1024]⟩ .fp8e4m3) (a3 : Vec Ideal ⟨1, ![1024]⟩ .f32) (a4 : Vec Ideal ⟨1, ![128]⟩ .f32)

/-- The codes of row `r` times column `n` of the weights, scaled by the row's scale and the column's weight scale. -/
def proj (r : Fin 1536) (n : Fin 1024) : EReal :=
  (∑ k : Fin 4096, code (xn a0 a1 r) k * (a2 (ix2 k n) : EReal)) * scale (xn a0 a1 r) * (a3 (ix1 n) : EReal)

/-- Row `r` of the projection at head `h`. -/
def head (r : Fin 1536) (h : Fin 8) (d : Fin 128) : EReal := proj a0 a1 a2 a3 r ⟨h.val * 128 + d.val, by omega⟩

/-- The codes. -/
def C : Vec Ideal ⟨2, ![1536, 4096]⟩ .fp8e4m3 :=
  fun j => show EReal from code (xn a0 a1 (j 0)) (j 1)

/-- The scales: position `(a, b)` is the scale of row `512 a + b`. -/
def S : Vec Ideal ⟨2, ![3, 512]⟩ .f32 :=
  fun j => show EReal from scale (xn a0 a1 ⟨(j 0).val * 512 + (j 1).val, by
    have h0 := (j 0).isLt; have h1 := (j 1).isLt; simp at h0 h1; omega⟩)

/-- The queries: each head of each row normed. -/
def Q : Vec Ideal ⟨2, ![1536, 1024]⟩ .bf16 :=
  fun j => show EReal from rms 0x43000000#32 (head a0 a1 a2 a3 (j 0) ⟨(j 1).val / 128, by have h1 := (j 1).isLt; simp at h1; omega⟩)
    (fun d : Fin 128 => a4 (ix1 d)) ⟨(j 1).val % 128, by omega⟩
end

end Cert.Proof.TextQSpec

end
-- ==== Proof.TextQRef.lean ====
/- Hand-written, untrusted: the RUN OF THE REFERENCE with its values. The reference is one kernel without a grid: its one
   block per array is the whole array, so each result is a payload of the whole arrays (`final5`, `final6`, `final7`),
   read at an index as the formula of the specification (`codes_eq`, `scales_eq`, `queries_eq`). -/
module

public import proofs.«01_k».proof.Proof.Gen.TextQReferenceIdeal.Value
public import proofs.«01_k».proof.Proof.TextQSpec

@[expose] public section

noncomputable section

namespace Cert.Proof.TextQRef

open Cert.TextQReferenceIdeal Cert.TextQReferenceIdeal.Gen Cert.TextQReferenceIdeal.Value
open Idealize.ShloMosaic Idealize.ShloMosaic.TcCoe Idealize.SL.Sem

/-! ## The payloads, read at an index -/

/-- The normed input. -/
theorem xn_apply (a0 : Vec Ideal S3x512x4096 .bf16) (a1 : Vec Ideal S4096 .f32) (a : Fin 3) (b : Fin 512) (q : Fin 4096) :
    k0_pay2 (shapeCast S1536x4096 a0 shapeCasts_S3x512x4096_S1536x4096) (broadcastInDim S1x4096 ![1] bcast_S4096_S1x4096_1 a1) (ix3 a b q)
    = TextQSpec.xn a0 a1 ⟨a.val * 512 + b.val, by omega⟩ q := by
  have e0 : (a.val * 512 + b.val) / 512 = a.val := by omega
  have e1 : (a.val * 512 + b.val) % 512 = b.val := by omega
  pointwise [k0_pay2, TextQSpec.xn, TextQSpec.rms]
  simp only [e0, e1]

/-- The largest absolute value over the last axis. -/
theorem max_apply (A : FVec Ideal S3x512x4096 .f32) (a : Fin 3) (b : Fin 512) :
    multiReduction .maximumf [2] S3x512 (absf A) 0xFF800000#32 reduces_S3x512x4096_S3x512 (.inl rfl) rfl (ix2 a b)
      = TextQSpec.rowMax (fun q => A (ix3 a b q)) := by
  unfold TextQSpec.rowMax
  pointwise

/-- The scale from the largest absolute value. -/
theorem select_apply (M : FVec Ideal S3x512 .f32) (a : Fin 3) (b : Fin 512) :
    (select (cmpf .oeq M (broadcast S3x512 (Scalar.ofBits .f32 0x00000000#32))) (broadcast S3x512 (Scalar.ofBits .f32 0x3F800000#32))
      (divf M (broadcast S3x512 (Scalar.ofBits .f32 0x43E00000#32))) : FVec Ideal S3x512 .f32) (ix2 a b)
      = if M (ix2 a b) = (0 : EReal) then (1 : EReal) else Ideal.div (M (ix2 a b)) (Ideal.ofBits .f32 0x43E00000#32) := by
  pointwise

/-- The scale of a row. -/
theorem scale_apply (A : FVec Ideal S3x512x4096 .f32) (a : Fin 3) (b : Fin 512) :
    (select (cmpf .oeq (multiReduction .maximumf [2] S3x512 (absf A) 0xFF800000#32 reduces_S3x512x4096_S3x512 (.inl rfl) rfl)
        (broadcast S3x512 (Scalar.ofBits .f32 0x00000000#32))) (broadcast S3x512 (Scalar.ofBits .f32 0x3F800000#32))
      (divf (multiReduction .maximumf [2] S3x512 (absf A) 0xFF800000#32 reduces_S3x512x4096_S3x512 (.inl rfl) rfl)
        (broadcast S3x512 (Scalar.ofBits .f32 0x43E00000#32))) : FVec Ideal S3x512 .f32) (ix2 a b)
      = TextQSpec.scale (fun q => A (ix3 a b q)) := by
  rw [select_apply, max_apply]; rfl

/-- The two payloads over the normed input. -/
theorem pay3_eq (v0 : Vec Ideal S1536x4096 .bf16) (v3 : Vec Ideal S1x4096 .f32) :
    k0_pay3 v0 v3
      = select (cmpf .oeq (multiReduction .maximumf [2] S3x512 (absf (k0_pay2 v0 v3)) 0xFF800000#32 reduces_S3x512x4096_S3x512 (.inl rfl) rfl)
        (broadcast S3x512 (Scalar.ofBits .f32 0x00000000#32))) (broadcast S3x512 (Scalar.ofBits .f32 0x3F800000#32))
      (divf (multiReduction .maximumf [2] S3x512 (absf (k0_pay2 v0 v3)) 0xFF800000#32 reduces_S3x512x4096_S3x512 (.inl rfl) rfl)
        (broadcast S3x512 (Scalar.ofBits .f32 0x43E00000#32))) := rfl
/-- A value over its row's scale, cut to the range of the format. -/
def clip (A : FVec Ideal S3x512x4096 .f32) (s : FVec Ideal S3x512 .f32) : FVec Ideal S1536x4096 .fp8e4m3 :=
  shapeCast S1536x4096 (truncf .fp8e4m3 (minimumf (broadcast S3x512x4096 (Scalar.ofBits .f32 0x43E00000#32))
    (maximumf (broadcast S3x512x4096 (Scalar.ofBits .f32 0xC3E00000#32))
      (divf A (broadcastTo S3x512x4096 (shapeCast S3x512x1 s shapeCasts_S3x512_S3x512x1) broadcasts_S3x512x1_S3x512x4096)))) bitsLt_fp8e4m3_f32)
    shapeCasts_S3x512x4096_S1536x4096
theorem pay4_eq (v0 : Vec Ideal S1536x4096 .bf16) (v3 : Vec Ideal S1x4096 .f32) :
    k0_pay4 v0 v3 = clip (k0_pay2 v0 v3) (k0_pay3 v0 v3) := rfl
theorem clip_apply (A : FVec Ideal S3x512x4096 .f32) (s : FVec Ideal S3x512 .f32) (r : Fin 1536) (q : Fin 4096) :
    clip A s (ix2 r q)
      = min (Ideal.ofBits .f32 0x43E00000#32) (max (Ideal.ofBits .f32 0xC3E00000#32)
          (Ideal.div (A (ix3 ⟨r.val / 512, by omega⟩ ⟨r.val % 512, by omega⟩ q)) (s (ix2 ⟨r.val / 512, by omega⟩ ⟨r.val % 512, by omega⟩)))) := by
  pointwise [clip]

/-- The projection before the queries' norm, of codes `v34` and scales `v25`. -/
def prod (v25 : FVec Ideal S3x512 .f32) (v34 : FVec Ideal S1536x4096 .fp8e4m3) (v37 : Vec Ideal S4096x1024 .fp8e4m3) (v43 : Vec Ideal S1x1x1024 .f32)
    (r : Fin 1536) (n : Fin 1024) : EReal :=
  (∑ x : Fin 4096, (v34 (ix2 r x) : EReal) * (v37 (ix2 x n) : EReal)) * (v25 (ix2 ⟨r.val / 512, by omega⟩ ⟨r.val % 512, by omega⟩) : EReal) * (v43 (ix3 0 0 n) : EReal)
/-- The queries. -/
theorem pay1_apply (v25 : FVec Ideal S3x512 .f32) (v34 : FVec Ideal S1536x4096 .fp8e4m3) (v37 : Vec Ideal S4096x1024 .fp8e4m3) (v43 : Vec Ideal S1x1x1024 .f32)
    (v48 : Vec Ideal S1x1x128 .f32) (r : Fin 1536) (n : Fin 1024) :
    k0_pay1 v25 v34 v37 (constant S1536x1024 .f32 0x00000000#32) v43 v48 (ix2 r n)
      = TextQSpec.rms 0x43000000#32 (fun d : Fin 128 => prod v25 v34 v37 v43 r ⟨n.val / 128 * 128 + d.val, by omega⟩)
          (fun d : Fin 128 => v48 (ix3 0 0 d)) ⟨n.val % 128, by omega⟩ := by
  have e : (⟨n.val / 128 * 128 + n.val % 128, by omega⟩ : Fin 1024) = n := Fin.ext (by show n.val / 128 * 128 + n.val % 128 = n.val; omega)
  unfold TextQSpec.rms prod
  simp only [e]
  pointwise [k0_pay1]

section
variable (a0 : Vec Ideal S3x512x4096 .bf16) (a1 : Vec Ideal S4096 .f32) (a2 : Vec Ideal S4096x1024 .fp8e4m3) (a3 : Vec Ideal S1024 .f32) (a4 : Vec Ideal S128 .f32)

/-- The stored scales are the specification's. -/
theorem scales_at (a : Fin 3) (b : Fin 512) :
    k0_pay3 (shapeCast S1536x4096 a0 shapeCasts_S3x512x4096_S1536x4096) (broadcastInDim S1x4096 ![1] bcast_S4096_S1x4096_1 a1) (ix2 a b)
    = TextQSpec.scale (TextQSpec.xn a0 a1 ⟨a.val * 512 + b.val, by omega⟩) := by
  rw [pay3_eq, scale_apply]
  congr 1; funext q; exact xn_apply a0 a1 a b q

theorem scales_eq :
    k0_pay3 (shapeCast S1536x4096 a0 shapeCasts_S3x512x4096_S1536x4096) (broadcastInDim S1x4096 ![1] bcast_S4096_S1x4096_1 a1)
    = TextQSpec.S a0 a1 := by
  funext j
  obtain ⟨a, b, rfl⟩ : ∃ (a : Fin 3) (b : Fin 512), j = ix2 a b := ⟨j 0, j 1, eq_ix2 j⟩
  exact scales_at a0 a1 a b

/-- The stored codes are the specification's. -/
theorem codes_eq :
    k0_pay4 (shapeCast S1536x4096 a0 shapeCasts_S3x512x4096_S1536x4096) (broadcastInDim S1x4096 ![1] bcast_S4096_S1x4096_1 a1)
    = TextQSpec.C a0 a1 := by
  funext j
  obtain ⟨r, q, rfl⟩ : ∃ (r : Fin 1536) (q : Fin 4096), j = ix2 r q := ⟨j 0, j 1, eq_ix2 j⟩
  have e : (⟨(r.val / 512) * 512 + r.val % 512, by omega⟩ : Fin 1536) = r := Fin.ext (by show (r.val / 512) * 512 + r.val % 512 = r.val; omega)
  have h1 := xn_apply a0 a1 ⟨r.val / 512, by omega⟩ ⟨r.val % 512, by omega⟩ q
  have h2 := scales_at a0 a1 ⟨r.val / 512, by omega⟩ ⟨r.val % 512, by omega⟩
  simp only [e] at h1 h2
  rw [pay4_eq, clip_apply, h1, h2]
  rfl

/-- The projection over the specification's codes and scales is the specification's. -/
theorem prod_eq (r : Fin 1536) (n : Fin 1024) :
    prod (TextQSpec.S a0 a1) (TextQSpec.C a0 a1) a2 (broadcastInDim S1x1x1024 ![2] bcast_S1024_S1x1x1024_2 a3) r n = TextQSpec.proj a0 a1 a2 a3 r n := by
  have e : (⟨(r.val / 512) * 512 + r.val % 512, by omega⟩ : Fin 1536) = r := Fin.ext (by show (r.val / 512) * 512 + r.val % 512 = r.val; omega)
  have h1 : (TextQSpec.S a0 a1 (ix2 ⟨r.val / 512, by omega⟩ ⟨r.val % 512, by omega⟩) : EReal) = TextQSpec.scale (TextQSpec.xn a0 a1 r) := by
    show TextQSpec.scale (TextQSpec.xn a0 a1 ⟨(r.val / 512) * 512 + r.val % 512, _⟩) = _
    rw [e]
  have h2 : (broadcastInDim S1x1x1024 ![2] bcast_S1024_S1x1x1024_2 a3 : Vec Ideal S1x1x1024 .f32) (ix3 0 0 n) = a3 (ix1 n) := by pointwise
  unfold prod TextQSpec.proj
  rw [h1, h2]
  rfl

/-- The stored queries are the specification's. -/
theorem queries_eq :
    k0_pay1 (k0_pay3 (shapeCast S1536x4096 a0 shapeCasts_S3x512x4096_S1536x4096) (broadcastInDim S1x4096 ![1] bcast_S4096_S1x4096_1 a1))
      (k0_pay4 (shapeCast S1536x4096 a0 shapeCasts_S3x512x4096_S1536x4096) (broadcastInDim S1x4096 ![1] bcast_S4096_S1x4096_1 a1))
      a2 (constant S1536x1024 .f32 0x00000000#32) (broadcastInDim S1x1x1024 ![2] bcast_S1024_S1x1x1024_2 a3) (broadcastInDim S1x1x128 ![2] bcast_S128_S1x1x128_2 a4)
    = TextQSpec.Q a0 a1 a2 a3 a4 := by
  rw [scales_eq, codes_eq]
  funext j
  obtain ⟨r, n, rfl⟩ : ∃ (r : Fin 1536) (n : Fin 1024), j = ix2 r n := ⟨j 0, j 1, eq_ix2 j⟩
  rw [pay1_apply]
  have h : (fun d : Fin 128 => ((broadcastInDim S1x1x128 ![2] bcast_S128_S1x1x128_2 a4 : Vec Ideal S1x1x128 .f32) (ix3 0 0 d) : EReal)) = fun d => a4 (ix1 d) := by
    funext d; pointwise
  have h' : (fun d : Fin 128 => prod (TextQSpec.S a0 a1) (TextQSpec.C a0 a1) a2 (broadcastInDim S1x1x1024 ![2] bcast_S1024_S1x1x1024_2 a3) r ⟨n.val / 128 * 128 + d.val, by omega⟩)
      = TextQSpec.head a0 a1 a2 a3 r ⟨n.val / 128, by omega⟩ := by
    funext d; rw [prod_eq]; rfl
  rw [h, h']
  rfl
end

variable (m : (ℓ : Loc nD τ sig) → Buf (Elt Ideal) ℓ) (ρ : Dev nD → PrngReg)

/-! ## The arrays and the blocks -/

/-- What the host's lines before the kernel leave in the arrays they make. -/
theorem V_main_v0 (c : Dev nD) : V m c main_v0
    = (shapeCast S1536x4096 (m ((c : Thread nD τ).loc main_arg0)) shapeCasts_S3x512x4096_S1536x4096 : Vec Ideal S1536x4096 .bf16) := by
  show StableHlo.after hostOps0 _ (Proc.devRef .tc main_v0) = _
  after_results
  try rfl
theorem V_main_v1 (c : Dev nD) : V m c main_v1
    = (broadcastInDim S1x4096 ![1] bcast_S4096_S1x4096_1 (m ((c : Thread nD τ).loc main_arg1)) : Vec Ideal S1x4096 .f32) := by
  show StableHlo.after hostOps0 _ (Proc.devRef .tc main_v1) = _
  after_results
  try rfl
theorem V_main_v2 (c : Dev nD) : V m c main_v2
    = (broadcastInDim S1x1x1024 ![2] bcast_S1024_S1x1x1024_2 (m ((c : Thread nD τ).loc main_arg3)) : Vec Ideal S1x1x1024 .f32) := by
  show StableHlo.after hostOps0 _ (Proc.devRef .tc main_v2) = _
  after_results
  try rfl
theorem V_main_v3 (c : Dev nD) : V m c main_v3
    = (broadcastInDim S1x1x128 ![2] bcast_S128_S1x1x128_2 (m ((c : Thread nD τ).loc main_arg4)) : Vec Ideal S1x1x128 .f32) := by
  show StableHlo.after hostOps0 _ (Proc.devRef .tc main_v3) = _
  after_results
  try rfl

theorem hz : (![0, 0] : Fin 2 → Nat) = fun _ => 0 := funext fun a => by fin_cases a <;> rfl
theorem hz3 : (![0, 0, 0] : Fin 3 → Nat) = fun _ => 0 := funext fun a => by fin_cases a <;> rfl

/-- The loads read the whole buffers and each store writes a whole buffer. -/
theorem out5_eq (x0 : Vec Ideal S1536x4096 .bf16) (x1 : Vec Ideal S1x4096 .f32) (x2 : Vec Ideal S4096x1024 .fp8e4m3)
    (x3 : Vec Ideal S1x1x1024 .f32) (x4 : Vec Ideal S1x1x128 .f32) :
    out0_5 x0 x1 x2 x3 x4 = k0_pay4 x0 x1 := by
  unfold out0_5
  rw [View.canon_unit_zero hz]
  rw [View.ld_unit_zero hz, View.ld_unit_zero hz]
theorem out6_eq (x0 : Vec Ideal S1536x4096 .bf16) (x1 : Vec Ideal S1x4096 .f32) (x2 : Vec Ideal S4096x1024 .fp8e4m3)
    (x3 : Vec Ideal S1x1x1024 .f32) (x4 : Vec Ideal S1x1x128 .f32) :
    out0_6 x0 x1 x2 x3 x4 = k0_pay3 x0 x1 := by
  unfold out0_6
  rw [View.canon_unit_zero hz]
  rw [View.ld_unit_zero hz, View.ld_unit_zero hz]
theorem out7_eq (x0 : Vec Ideal S1536x4096 .bf16) (x1 : Vec Ideal S1x4096 .f32) (x2 : Vec Ideal S4096x1024 .fp8e4m3)
    (x3 : Vec Ideal S1x1x1024 .f32) (x4 : Vec Ideal S1x1x128 .f32) :
    out0_7 x0 x1 x2 x3 x4 = k0_pay1 (k0_pay3 x0 x1) (k0_pay4 x0 x1) x2 (constant S1536x1024 .f32 0x00000000#32) x3 x4 := by
  unfold out0_7
  rw [View.canon_unit_zero hz]
  rw [View.ld_unit_zero hz, View.ld_unit_zero hz, View.ld_unit_zero hz, View.ld_unit_zero hz3, View.ld_unit_zero hz3]

/-- At the one point every window's block is its whole array: an index of the block is the same index of the array. -/
theorem emb0 (t : Fin cfg0.N) (j : S1536x4096.Idx) : ((cfg0.win 0).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb1 (t : Fin cfg0.N) (j : S1x4096.Idx) : ((cfg0.win 1).blk t).view.emb j = j := by
  funext a; apply Fin.ext
  match a with
  | ⟨0, _⟩ => show 0 * 1 + 1 * (j 0).val = (j 0).val; omega
  | ⟨1, _⟩ => show 0 * 4096 + 1 * (j 1).val = (j 1).val; omega
theorem emb2 (t : Fin cfg0.N) (j : S4096x1024.Idx) : ((cfg0.win 2).blk t).view.emb j = j := by
  funext a; apply Fin.ext
  match a with
  | ⟨0, _⟩ => show 0 * 4096 + 1 * (j 0).val = (j 0).val; omega
  | ⟨1, _⟩ => show 0 * 1024 + 1 * (j 1).val = (j 1).val; omega
theorem emb3 (t : Fin cfg0.N) (j : S1x1x1024.Idx) : ((cfg0.win 3).blk t).view.emb j = j := by
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 1024 + 1 * (j 2).val = (j 2).val; omega
theorem emb4 (t : Fin cfg0.N) (j : S1x1x128.Idx) : ((cfg0.win 4).blk t).view.emb j = j := by
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 128 + 1 * (j 2).val = (j 2).val; omega
theorem emb5 (t : Fin cfg0.N) (j : S1536x4096.Idx) : ((cfg0.win 5).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb6 (t : Fin cfg0.N) (j : S3x512.Idx) : ((cfg0.win 6).blk t).view.emb j = j := by
  funext a; apply Fin.ext
  match a with
  | ⟨0, _⟩ => show 0 * 3 + 1 * (j 0).val = (j 0).val; omega
  | ⟨1, _⟩ => show 0 * 512 + 1 * (j 1).val = (j 1).val; omega
theorem emb7 (t : Fin cfg0.N) (j : S1536x1024.Idx) : ((cfg0.win 7).blk t).view.emb j = j := by
  funext a; apply Fin.ext
  match a with
  | ⟨0, _⟩ => show 0 * 1536 + 1 * (j 0).val = (j 0).val; omega
  | ⟨1, _⟩ => show 0 * 1024 + 1 * (j 1).val = (j 1).val; omega

/-- So an input window's block is its array as the kernel finds it. -/
theorem iblk0_eq (c : Dev nD) (t : Fin cfg0.N) : iblk m c 0 t = V m c main_v0 := by
  funext j; show V m c main_v0 (((cfg0.win 0).blk t).view.emb j) = V m c main_v0 j; rw [emb0]
theorem iblk1_eq (c : Dev nD) (t : Fin cfg0.N) : iblk m c 1 t = V m c main_v1 := by
  funext j; show V m c main_v1 (((cfg0.win 1).blk t).view.emb j) = V m c main_v1 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_v2 := by
  funext j; show V m c main_v2 (((cfg0.win 3).blk t).view.emb j) = V m c main_v2 j; rw [emb3]
theorem iblk4_eq (c : Dev nD) (t : Fin cfg0.N) : iblk m c 4 t = V m c main_v3 := by
  funext j; show V m c main_v3 (((cfg0.win 4).blk t).view.emb j) = V m c main_v3 j; rw [emb4]

/-- Cutting the block out of `X` and reading `X` through the block give the same. -/
theorem cut5_eq (t : Fin cfg0.N) (X : Vec Ideal S1536x4096 .fp8e4m3) :
    (cfg0.win 5).cut (grid0.coords t) X = ((cfg0.win 5).blk t).view.read (Elt Ideal) X := by
  funext j
  show X j = X (((cfg0.win 5).blk t).view.emb j)
  rw [emb5]
theorem cut6_eq (t : Fin cfg0.N) (X : Vec Ideal S3x512 .f32) :
    (cfg0.win 6).cut (grid0.coords t) X = ((cfg0.win 6).blk t).view.read (Elt Ideal) X := by
  funext j
  show X j = X (((cfg0.win 6).blk t).view.emb j)
  rw [emb6]
theorem cut7_eq (t : Fin cfg0.N) (X : Vec Ideal S1536x1024 .bf16) :
    (cfg0.win 7).cut (grid0.coords t) X = ((cfg0.win 7).blk t).view.read (Elt Ideal) X := by
  funext j
  show X j = X (((cfg0.win 7).blk t).view.emb j)
  rw [emb7]

/-- The three results of device `c`'s run as the formulas of its argument arrays. -/
abbrev RC (c : Dev nD) : Vec Ideal S1536x4096 .fp8e4m3 := TextQSpec.C (m ((c : Thread nD τ).loc main_arg0)) (m ((c : Thread nD τ).loc main_arg1))
abbrev RS (c : Dev nD) : Vec Ideal S3x512 .f32 := TextQSpec.S (m ((c : Thread nD τ).loc main_arg0)) (m ((c : Thread nD τ).loc main_arg1))
abbrev RQ (c : Dev nD) : Vec Ideal S1536x1024 .bf16 := TextQSpec.Q (m ((c : Thread nD τ).loc main_arg0)) (m ((c : Thread nD τ).loc main_arg1)) (m ((c : Thread nD τ).loc main_arg2)) (m ((c : Thread nD τ).loc main_arg3)) (m ((c : Thread nD τ).loc main_arg4))

/-- What the one point writes back is its block of the formula. -/
theorem flushed5_eq (c : Dev nD) (t : Fin cfg0.N) :
    (dats m 0 c).flushed 5 t = ((cfg0.win 5).blk t).view.read (Elt Ideal) (RC m c) := by
  rw [flushed5, out5_eq, iblk0_eq, iblk1_eq, V_main_v0, V_main_v1, codes_eq]
  exact cut5_eq t _
theorem flushed6_eq (c : Dev nD) (t : Fin cfg0.N) :
    (dats m 0 c).flushed 6 t = ((cfg0.win 6).blk t).view.read (Elt Ideal) (RS m c) := by
  rw [flushed6, out6_eq, iblk0_eq, iblk1_eq, V_main_v0, V_main_v1, scales_eq]
  exact cut6_eq t _
theorem flushed7_eq (c : Dev nD) (t : Fin cfg0.N) :
    (dats m 0 c).flushed 7 t = ((cfg0.win 7).blk t).view.read (Elt Ideal) (RQ m c) := by
  rw [flushed7, out7_eq, iblk0_eq, iblk1_eq, V_main_v0, V_main_v1, iblk2_eq, iblk3_eq, iblk4_eq, V_main_v2, V_main_v3, V_main_arg2, queries_eq]
  exact cut7_eq t _

/-- Every index of a result array is in the one block. -/
theorem covered5 (i : S1536x4096.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem covered6 (i : S3x512.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem covered7 (i : S1536x1024.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The result arrays after the run are the formulas of the arguments as launched. -/
theorem final5 (c : Dev nD) : (dats m 0 c).arrAt 5 cfg0.N = RC m c :=
  (dats m 0 c).arrAt_eq_of_cover 5 (RC m c) (fun t _ => flushed5_eq m c t) covered5
theorem final6 (c : Dev nD) : (dats m 0 c).arrAt 6 cfg0.N = RS m c :=
  (dats m 0 c).arrAt_eq_of_cover 6 (RS m c) (fun t _ => flushed6_eq m c t) covered6
theorem final7 (c : Dev nD) : (dats m 0 c).arrAt 7 cfg0.N = RQ m c :=
  (dats m 0 c).arrAt_eq_of_cover 7 (RQ m c) (fun t _ => flushed7_eq m c t) covered7

end Cert.Proof.TextQRef

end
-- ==== Proof.TextQIdealRun.lean ====
/-
  The run of the query projection's kernel at any float instance: the body's triple, the proof data and the frame.

  Seven windows are exact: five inputs stay at their blocks, and windows 5 (the codes) and 7 (the queries) end at what
  the body stores. Window 6 is the array of scales, which stays in its buffer over the whole grid while each
  point stores one row piece at an offset depending on the point; of it the proof says, at each point, that
  every piece stored so far is still in place. At the last point that names every element.
-/
module

public import proofs.«01_k».proof.Proof.Gen.TextQIdeal.Frame
public import proofs.«01_k».proof.Proof.Gen.TextQIdeal.Skeleton
public import Idealize.ShloMosaic.Lib.Pipeline.DatRel
public import Idealize.ShloMosaic.Lib.Pipeline.Cells

@[expose] public section

set_option maxRecDepth 16384

noncomputable section

namespace Cert.Proof.TextQIdealRun

open Cert.TextQIdeal Cert.TextQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S4096x1024 := Rect.unit (s := S4096x1024) ![0, 0] S4096x1024.size inb_S4096x1024_S4096x1024_0_0
abbrev r0_3 : Rect S1x1024 := Rect.unit (s := S1x1024) ![0, 0] S1x1024.size inb_S1x1024_S1x1024_0_0
abbrev r0_4 : Rect S1x128 := Rect.unit (s := S1x128) ![0, 0] S1x128.size inb_S1x128_S1x128_0_0
/-- Where the queries of a head go. -/
abbrev rq0 : Rect S256x1024 := Rect.unit (s := S256x1024) ![0, 0] S256x128.size inb_S256x1024_S256x128_0_0
abbrev rq1 : Rect S256x1024 := Rect.unit (s := S256x1024) ![0, 128] S256x128.size inb_S256x1024_S256x128_0_128
abbrev rq2 : Rect S256x1024 := Rect.unit (s := S256x1024) ![0, 256] S256x128.size inb_S256x1024_S256x128_0_256
abbrev rq3 : Rect S256x1024 := Rect.unit (s := S256x1024) ![0, 384] S256x128.size inb_S256x1024_S256x128_0_384
abbrev rq4 : Rect S256x1024 := Rect.unit (s := S256x1024) ![0, 512] S256x128.size inb_S256x1024_S256x128_0_512
abbrev rq5 : Rect S256x1024 := Rect.unit (s := S256x1024) ![0, 640] S256x128.size inb_S256x1024_S256x128_0_640
abbrev rq6 : Rect S256x1024 := Rect.unit (s := S256x1024) ![0, 768] S256x128.size inb_S256x1024_S256x128_0_768
abbrev rq7 : Rect S256x1024 := Rect.unit (s := S256x1024) ![0, 896] S256x128.size inb_S256x1024_S256x128_0_896
/-- Where the scales of a point go. -/
abbrev r6 (i : grid0.Coords) : Rect S3x512 := Rect.unit (s := S3x512) (k0_off1 i) S1x256.size (k0_off1_inb i)

/-! ## What the body stores -/

/-- The scales of a block of rows, as a column. -/
abbrev colB (x0 : Vec F S256x4096 .bf16) (x1 : Vec F S1x4096 .f32) : FVec F S256x1 .f32 := k0_pay3 (View.ld x0 r0_0) (View.ld x1 r0_1)
/-- The codes of a block. -/
abbrev codesB (x0 : Vec F S256x4096 .bf16) (x1 : Vec F S1x4096 .f32) : FVec F S256x4096 .fp8e4m3 := k0_pay4 (View.ld x0 r0_0) (View.ld x1 r0_1)
/-- The row piece of scales of a block. -/
def scalesB (x0 : Vec F S256x4096 .bf16) (x1 : Vec F S1x4096 .f32) : FVec F S1x256 .f32 := k0_pay5 (colB x0 x1)
/-- The product of the codes with the weights, times the rows' scales. -/
abbrev prodB (x0 : Vec F S256x4096 .bf16) (x1 : Vec F S1x4096 .f32) (x2 : Vec F S4096x1024 .fp8e4m3) (x3 : Vec F S1x1024 .f32) : FVec F S256x1024 .f32 :=
  k0_pay6 (colB x0 x1) (codesB x0 x1) (View.ld x2 r0_2)
/-- The weights' scales. -/
abbrev rowB (x0 : Vec F S256x4096 .bf16) (x1 : Vec F S1x4096 .f32) (x2 : Vec F S4096x1024 .fp8e4m3) (x3 : Vec F S1x1024 .f32) : FVec F S1x1024 .f32 :=
  k0_pay7 (View.ld x3 r0_3)
/-- The projection before the queries' norm. -/
abbrev projB (x0 : Vec F S256x4096 .bf16) (x1 : Vec F S1x4096 .f32) (x2 : Vec F S4096x1024 .fp8e4m3) (x3 : Vec F S1x1024 .f32) : FVec F S256x1024 .f32 :=
  k0_pay8 (prodB x0 x1 x2 x3) (rowB x0 x1 x2 x3)

/-- Window 5's staging buffer after the body, from the input windows' blocks. -/
def out0_5 (x0 : Vec F S256x4096 .bf16) (x1 : Vec F S1x4096 .f32) : Vec F S256x4096 .fp8e4m3 :=
  View.canon [⟨r0_0, codesB x0 x1⟩]
/-- Window 7's, head by head. -/
def out0_7 (x0 : Vec F S256x4096 .bf16) (x1 : Vec F S1x4096 .f32) (x2 : Vec F S4096x1024 .fp8e4m3) (x3 : Vec F S1x1024 .f32) (x4 : Vec F S1x128 .f32) : Vec F S256x1024 .bf16 :=
  View.canon [⟨rq7, k0_pay1 (k0_pay21 (projB x0 x1 x2 x3)) (View.ld x4 r0_4)⟩, ⟨rq6, k0_pay20 (projB x0 x1 x2 x3) (View.ld x4 r0_4)⟩, ⟨rq5, k0_pay19 (projB x0 x1 x2 x3) (View.ld x4 r0_4)⟩, ⟨rq4, k0_pay18 (k0_pay16 (View.ld x4 r0_4)) (k0_pay17 (projB x0 x1 x2 x3))⟩, ⟨rq3, k0_pay15 (projB x0 x1 x2 x3) (View.ld x4 r0_4)⟩, ⟨rq2, k0_pay14 (k0_pay11 (prodB x0 x1 x2 x3) (rowB x0 x1 x2 x3)) (k0_pay12 (View.ld x4 r0_4)) (k0_pay13 (prodB x0 x1 x2 x3) (rowB x0 x1 x2 x3))⟩, ⟨rq1, k0_pay10 (prodB x0 x1 x2 x3) (rowB x0 x1 x2 x3) (View.ld x4 r0_4)⟩, ⟨rq0, k0_pay9 (prodB x0 x1 x2 x3) (rowB x0 x1 x2 x3) (View.ld x4 r0_4)⟩]

/-- The stores cover the buffers. -/
theorem cover0_5 (p0 : Vec F S256x4096 .fp8e4m3) (y : S256x4096.Idx) :
    ∃ pc ∈ ([⟨r0_0, p0⟩] : List (View.Piece (Elt F) S256x4096 .fp8e4m3)), y ∈ pc.1.set :=
  View.cover_of_tiled [⟨r0_0, p0⟩] S256x4096.size (by rfl) y
theorem cover0_7 (p0 p1 p2 p3 p4 p5 p6 p7 : Vec F S256x128 .bf16) (y : S256x1024.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S256x1024 .bf16)), y ∈ pc.1.set :=
  View.cover_of_tiled [⟨rq7, p7⟩, ⟨rq6, p6⟩, ⟨rq5, p5⟩, ⟨rq4, p4⟩, ⟨rq3, p3⟩, ⟨rq2, p2⟩, ⟨rq1, p1⟩, ⟨rq0, p0⟩] S256x128.size (by rfl) y

/-- The scales' buffer found at `Y` and left at `X`: the piece at point `i` is `w`, the rest is as found. -/
def Put (i : grid0.Coords) (w : Vec F S1x256 .f32) (Y X : Vec F S3x512 .f32) : Prop :=
  (∀ x : (r6 i).shape.Idx, X ((r6 i).emb x) = w x) ∧ ∀ y, y ∉ (r6 i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨r6 i, w⟩])) := by
  constructor
  · intro x; rw [View.read_writes_cons_emb]
  · intro y hy
    have hy' : y ∉ Finset.univ.map (r6 i).emb := by rwa [Rect.map_emb_univ]
    rw [View.writes_cons, View.read_slice_write_of_not_mem (r6 i) _ _ _ hy']; rfl

/-! ## The body's triple -/

set_option maxHeartbeats 2000000 in
/-- The kernel body on whole staging buffers: inputs kept, the codes and queries stored whole, the scales' piece stored. -/
theorem sound_kernel (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x128 .f32) (harg5 : arg5.IsWhole) (arg6 : Memref sig .tc .vmem S256x4096 .fp8e4m3) (harg6 : arg6.IsWhole) (arg7 : Memref sig .tc .vmem S3x512 .f32) (harg7 : arg7.IsWhole) (arg8 : Memref sig .tc .vmem S256x1024 .bf16) (harg8 : arg8.IsWhole)
    (x0 : Vec F S256x4096 .bf16) (x1 : Vec F S1x4096 .f32) (x2 : Vec F S4096x1024 .fp8e4m3) (x3 : Vec F S1x1024 .f32) (x4 : Vec F S1x128 .f32) (Y : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare Y ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1) ∗ (∃ X, ⌜Put i (scalesB x0 x1) Y X⌝ ∗ owns (c : Thread nD τ) arg7 fullShare X) ∗ owns (c : Thread nD τ) arg8 fullShare (out0_7 x0 x1 x2 x3 x4)) -∗ K ⟨⟩))
      ⊢ wp frame (wpE (defs₀ (F := F)) Variants.none c none) E (cc0_text_q i arg1 harg1 arg2 harg2 arg3 harg3 arg4 harg4 arg5 harg5 arg6 harg6 arg7 harg7 arg8 harg8) K := by
  simp only [cc0_text_q_eq_skeleton]; unfold cc0_text_q_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _
    isplitr
    swap
    · iexists _; isplitr
      swap; · iexact H6
      ipureintro; rfl
    ipureintro
    exact put_write i _ _ _
  iexists _; isplitr
  swap; · iexact H7
  ipureintro
  exact View.read_writes_eq_canon _ _ _ (cover0_7 _ _ _ _ _ _ _ _)

/-! ## The pipeline's proof data -/

/-- The proof data: the arrays as the region finds them, each input's buffer at its block, the codes' and the queries'
    buffers at what the body stores; of the scales' buffer the entry here is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t)
    | ⟨6, _⟩ => fun _ => Scalar.ofBits .f32 0x00000000#32
    | ⟨7, _⟩ => out0_7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What is known of the scales' buffer -/

/-- The row piece of scales stored at point `s`. -/
def rowAt (c : Dev nD) (s : Fin cfg0.N) : Vec F S1x256 .f32 :=
  scalesB (iblk m c 0 s) (iblk m c 1 s)

/-- After point `t` every piece stored so far is in place. -/
def Known (c : Dev nD) (t : Fin cfg0.N) (X : Vec F S3x512 .f32) : Prop :=
  ∀ s : Fin cfg0.N, s.val ≤ t.val → ∀ x : (r6 (grid0.coords s)).shape.Idx, X ((r6 (grid0.coords s)).emb x) = rowAt m c s x

/-- Only the scales' window is held to a predicate. -/
def fgt (w : Fin cfg0.W) : Bool := match w with
  | ⟨6, _⟩ => true
  | _ => false

/-- The predicate, window by window. -/
def Rl (c : Dev nD) (w : Fin cfg0.W) (t : Fin cfg0.N) : ((cfg0.win w).block.Idx → Elt F (cfg0.win w).elt) → Prop := match w with
  | ⟨6, _⟩ => fun X => Known m c t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (r6 (grid0.coords s)).shape.Idx) : (r6 (grid0.coords s)).emb x ∉ (r6 (grid0.coords t)).set := by
  intro hm
  obtain ⟨a, ha⟩ := off_sep s t h
  have h1 := Rect.mem_set_unit.mp hm a
  have h2 := Rect.mem_set_unit.mp (show (r6 (grid0.coords s)).emb x ∈ (r6 (grid0.coords s)).set from (r6 (grid0.coords s)).idx_mem x) a
  omega

theorem fetch6 : ∀ t : Fin cfg0.N, (cfg0.win 6).fetch t = false := by
  intro t; rfl

/-- The buffer found at point `t` has the earlier pieces in place; storing one more gives `Known` at `t`. -/
theorem known_step (c : Dev nD) (t : Fin cfg0.N) (Y X : Vec F S3x512 .f32)
    (hY : ((dats m 0 c).toRRel fgt (Rl m c)).Finds 6 t Y) (hX : Put (grid0.coords t) (rowAt m c t) Y X) : Known m c t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch6 t) ht Y).mp hY with hf | hl
    · exfalso
      have := (flush0_6 _).mp hf
      have htN : t.val < 6 := t.isLt
      simp only at this
      omega
    · have hk : Known m c _ Y := Dat.toRRel_leaves (dats m 0 c) (fgt := fgt) (Rl := Rl m c) (w := 6) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel fgt (Rl m c)).Finds 6 t Y⌝ ∗ owns (c : Thread nD τ) (st0_6 t) fullShare Y)
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_7]
  iintro ⟨HΦ, Ho, ⟨%d0, H0⟩, ⟨%d1, H1⟩, ⟨%d2, H2⟩, ⟨%d3, H3⟩, ⟨%d4, H4⟩, ⟨%d5, H5⟩, ⟨%Y, %hY, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) Y _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  iintro ⟨H0, H1, H2, H3, H4, H5, ⟨%X, %hX, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists X; isplitr
    · ipureintro; exact known_step m c t Y X hY hX
    iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The arguments after the run. -/
theorem kept (c : Dev nD) (r) (h : Pipeline.RDat.FramePost cfg0 (rdats m) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq' m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hh => ⟨fun c => kept m c r hh.1, hh.2⟩) (run_main_quiescent m ρ)

end Cert.Proof.TextQIdealRun

end
-- ==== Proof.TextQKernel.lean ====
/- Hand-written, untrusted: the RUN OF THE KERNEL with its values. Grid point `t` works on rows `256 t` to `256 t + 255`: the
   block it reads is those rows of the input; what it stores in the codes' block, in the queries' block, head by head, and
   in its row piece of the scales is the specification at those rows (`codes_at`, `queries_at`, `scales_at`). The blocks of
   codes and of queries cover their arrays (`final5`, `final7`); the row pieces cover the array of scales (`scales_final`). -/
module

public import proofs.«01_k».proof.Proof.TextQIdealRun
public import proofs.«01_k».proof.Proof.TextQSpec
public import Idealize.ShloMosaic.Lib.Pipeline.ValueKit.Tiles

@[expose] public section

noncomputable section

namespace Cert.Proof.TextQKernel

open Cert.TextQIdeal Cert.TextQIdeal.Gen Cert.Proof.TextQIdealRun
open Idealize.ShloMosaic Idealize.ShloMosaic.TcCoe Idealize.SL.Sem
open Idealize.ShloMosaic.Pipeline (Dat RDat Cfg)

theorem hz : (![0, 0] : Fin 2 → Nat) = fun _ => 0 := funext fun a => by fin_cases a <;> rfl

/-! ## The payloads, read at an index -/

/-- The normed rows of the block at grid point `t` are the formula at row `256 t + p`. -/
theorem xn_apply (t : Nat) (ht : t < 6) (a0 : Vec Ideal S3x512x4096 .bf16) (a1 : Vec Ideal S4096 .f32) (x0 : Vec Ideal S256x4096 .bf16)
    (h0 : ∀ (p : Fin 256) (k : Fin 4096), x0 (ix2 p k) = a0 (ix3 ⟨(t * 256 + p.val) / 512, by omega⟩ ⟨(t * 256 + p.val) % 512, by omega⟩ k))
    (p : Fin 256) (q : Fin 4096) :
    k0_pay2 x0 (broadcastInDim S1x4096 ![1] bcast_S4096_S1x4096_1 a1) (ix2 p q) = TextQSpec.xn a0 a1 ⟨t * 256 + p.val, by omega⟩ q := by
  pointwise [k0_pay2, TextQSpec.xn, TextQSpec.rms, h0]

/-- The largest absolute value of a row. -/
theorem max_apply (A : FVec Ideal S256x4096 .f32) (p : Fin 256) :
    (shapeCast S256x1 (multiReduction .maximumf [1] S256 (absf A) 0xFF800000#32 reduces_S256x4096_S256 (.inl rfl) rfl) shapeCasts_S256_S256x1
      : FVec Ideal S256x1 .f32) (ix2 p 0) = TextQSpec.rowMax (fun q => A (ix2 p q)) := by
  unfold TextQSpec.rowMax
  pointwise
/-- The scale from the largest absolute value. -/
def sel (M : FVec Ideal S256x1 .f32) : FVec Ideal S256x1 .f32 :=
  select (cmpf .oeq M (broadcast S256x1 (Scalar.ofBits .f32 0x00000000#32))) (broadcast S256x1 (Scalar.ofBits .f32 0x3F800000#32))
    (divf M (broadcast S256x1 (Scalar.ofBits .f32 0x43E00000#32)))
theorem sel_apply (M : FVec Ideal S256x1 .f32) (p : Fin 256) :
    sel M (ix2 p 0) = if M (ix2 p 0) = (0 : EReal) then (1 : EReal) else Ideal.div (M (ix2 p 0)) (Ideal.ofBits .f32 0x43E00000#32) := by
  pointwise [sel]
theorem pay3_eq (v0 : Vec Ideal S256x4096 .bf16) (v3 : Vec Ideal S1x4096 .f32) :
    k0_pay3 v0 v3 = sel (shapeCast S256x1 (multiReduction .maximumf [1] S256 (absf (k0_pay2 v0 v3)) 0xFF800000#32 reduces_S256x4096_S256 (.inl rfl) rfl) shapeCasts_S256_S256x1) := rfl
/-- A value over its row's scale, cut to the range of the format. -/
def clip (A : FVec Ideal S256x4096 .f32) (s : FVec Ideal S256x1 .f32) : FVec Ideal S256x4096 .fp8e4m3 :=
  truncf .fp8e4m3 (minimumf (broadcast S256x4096 (Scalar.ofBits .f32 0x43E00000#32))
    (maximumf (broadcast S256x4096 (Scalar.ofBits .f32 0xC3E00000#32)) (divf A (broadcastTo S256x4096 s broadcasts_S256x1_S256x4096)))) bitsLt_fp8e4m3_f32
theorem clip_apply (A : FVec Ideal S256x4096 .f32) (s : FVec Ideal S256x1 .f32) (p : Fin 256) (q : Fin 4096) :
    clip A s (ix2 p q) = min (Ideal.ofBits .f32 0x43E00000#32) (max (Ideal.ofBits .f32 0xC3E00000#32) (Ideal.div (A (ix2 p q)) (s (ix2 p 0)))) := by
  pointwise [clip]
theorem pay4_eq (v0 : Vec Ideal S256x4096 .bf16) (v3 : Vec Ideal S1x4096 .f32) :
    k0_pay4 v0 v3 = clip (k0_pay2 v0 v3) (k0_pay3 v0 v3) := rfl
/-- The column of scales laid out as a row. -/
theorem pay5_apply (M : FVec Ideal S256x1 .f32) (l : Fin 256) : k0_pay5 M (ix2 0 l) = M (ix2 l 0) := by
  pointwise [k0_pay5]
  split
  · rfl
  have e : (⟨128 + (l.val - 128), by omega⟩ : Fin 256) = l := Fin.ext (by show 128 + (l.val - 128) = l.val; omega)
  rw [e]
/-- The projection before the queries' norm. -/
theorem pay8_apply (v25 : FVec Ideal S256x1 .f32) (v32 : FVec Ideal S256x4096 .fp8e4m3) (v77 : Vec Ideal S4096x1024 .fp8e4m3) (v81 : Vec Ideal S1x1024 .f32)
    (p : Fin 256) (n : Fin 1024) :
    k0_pay8 (k0_pay6 v25 v32 v77) (k0_pay7 v81) (ix2 p n)
      = (∑ k : Fin 4096, (v32 (ix2 p k) : EReal) * (v77 (ix2 k n) : EReal)) * (v25 (ix2 p 0) : EReal) * (v81 (ix2 0 n) : EReal) := by
  pointwise [k0_pay6, k0_pay7, k0_pay8]
/-- The norm of one head. -/
theorem pay1_apply (v : FVec Ideal S256x128 .f32) (g : Vec Ideal S1x128 .f32) (p : Fin 256) (d : Fin 128) :
    k0_pay1 v g (ix2 p d) = TextQSpec.rms 0x43000000#32 (fun d : Fin 128 => v (ix2 p d)) (fun d : Fin 128 => g (ix2 0 d)) d := by
  unfold TextQSpec.rms
  pointwise [k0_pay1]

/-! ## The eight heads -/

theorem slice0 (P : FVec Ideal S256x1024 .f32) (p : Fin 256) (d : Fin 128) :
    (extractStridedSlice S256x128 ![0, 0] P slices_S256x1024_o0_0_S256x128 : FVec Ideal S256x128 .f32) (ix2 p d) = P (ix2 p ⟨0 * 128 + d.val, by omega⟩) := by
  pointwise
theorem head0_eq (A : FVec Ideal S256x1024 .f32) (B : FVec Ideal S1x1024 .f32) (g : Vec Ideal S1x128 .f32) :
    k0_pay9 A B g = k0_pay1 (extractStridedSlice S256x128 ![0, 0] (k0_pay8 A B) slices_S256x1024_o0_0_S256x128) g := rfl
theorem head0_apply (A : FVec Ideal S256x1024 .f32) (B : FVec Ideal S1x1024 .f32) (g : Vec Ideal S1x128 .f32) (p : Fin 256) (d : Fin 128) :
    (k0_pay9 A B g : FVec Ideal S256x128 .bf16) (ix2 p d) = TextQSpec.rms 0x43000000#32 (fun e : Fin 128 => (k0_pay8 A B) (ix2 p ⟨0 * 128 + e.val, by omega⟩)) (fun e : Fin 128 => g (ix2 0 e)) d := by
  rw [head0_eq, pay1_apply]
  congr 1; funext e; exact slice0 _ p e
theorem slice1 (P : FVec Ideal S256x1024 .f32) (p : Fin 256) (d : Fin 128) :
    (extractStridedSlice S256x128 ![0, 128] P slices_S256x1024_o0_128_S256x128 : FVec Ideal S256x128 .f32) (ix2 p d) = P (ix2 p ⟨1 * 128 + d.val, by omega⟩) := by
  pointwise
theorem head1_eq (A : FVec Ideal S256x1024 .f32) (B : FVec Ideal S1x1024 .f32) (g : Vec Ideal S1x128 .f32) :
    k0_pay10 A B g = k0_pay1 (extractStridedSlice S256x128 ![0, 128] (k0_pay8 A B) slices_S256x1024_o0_128_S256x128) g := rfl
theorem head1_apply (A : FVec Ideal S256x1024 .f32) (B : FVec Ideal S1x1024 .f32) (g : Vec Ideal S1x128 .f32) (p : Fin 256) (d : Fin 128) :
    (k0_pay10 A B g : FVec Ideal S256x128 .bf16) (ix2 p d) = TextQSpec.rms 0x43000000#32 (fun e : Fin 128 => (k0_pay8 A B) (ix2 p ⟨1 * 128 + e.val, by omega⟩)) (fun e : Fin 128 => g (ix2 0 e)) d := by
  rw [head1_eq, pay1_apply]
  congr 1; funext e; exact slice1 _ p e
theorem slice2 (P : FVec Ideal S256x1024 .f32) (p : Fin 256) (d : Fin 128) :
    (extractStridedSlice S256x128 ![0, 256] P slices_S256x1024_o0_256_S256x128 : FVec Ideal S256x128 .f32) (ix2 p d) = P (ix2 p ⟨2 * 128 + d.val, by omega⟩) := by
  pointwise
theorem head2_eq (A : FVec Ideal S256x1024 .f32) (B : FVec Ideal S1x1024 .f32) (g : Vec Ideal S1x128 .f32) :
    k0_pay14 (k0_pay11 A B) (k0_pay12 g) (k0_pay13 A B) = k0_pay1 (extractStridedSlice S256x128 ![0, 256] (k0_pay8 A B) slices_S256x1024_o0_256_S256x128) g := rfl
theorem head2_apply (A : FVec Ideal S256x1024 .f32) (B : FVec Ideal S1x1024 .f32) (g : Vec Ideal S1x128 .f32) (p : Fin 256) (d : Fin 128) :
    (k0_pay14 (k0_pay11 A B) (k0_pay12 g) (k0_pay13 A B) : FVec Ideal S256x128 .bf16) (ix2 p d) = TextQSpec.rms 0x43000000#32 (fun e : Fin 128 => (k0_pay8 A B) (ix2 p ⟨2 * 128 + e.val, by omega⟩)) (fun e : Fin 128 => g (ix2 0 e)) d := by
  rw [head2_eq, pay1_apply]
  congr 1; funext e; exact slice2 _ p e
theorem slice3 (P : FVec Ideal S256x1024 .f32) (p : Fin 256) (d : Fin 128) :
    (extractStridedSlice S256x128 ![0, 384] P slices_S256x1024_o0_384_S256x128 : FVec Ideal S256x128 .f32) (ix2 p d) = P (ix2 p ⟨3 * 128 + d.val, by omega⟩) := by
  pointwise
theorem head3_eq (P : FVec Ideal S256x1024 .f32) (g : Vec Ideal S1x128 .f32) :
    k0_pay15 P g = k0_pay1 (extractStridedSlice S256x128 ![0, 384] P slices_S256x1024_o0_384_S256x128) g := rfl
theorem head3_apply (P : FVec Ideal S256x1024 .f32) (g : Vec Ideal S1x128 .f32) (p : Fin 256) (d : Fin 128) :
    (k0_pay15 P g : FVec Ideal S256x128 .bf16) (ix2 p d) = TextQSpec.rms 0x43000000#32 (fun e : Fin 128 => P (ix2 p ⟨3 * 128 + e.val, by omega⟩)) (fun e : Fin 128 => g (ix2 0 e)) d := by
  rw [head3_eq, pay1_apply]
  congr 1; funext e; exact slice3 _ p e
theorem slice4 (P : FVec Ideal S256x1024 .f32) (p : Fin 256) (d : Fin 128) :
    (extractStridedSlice S256x128 ![0, 512] P slices_S256x1024_o0_512_S256x128 : FVec Ideal S256x128 .f32) (ix2 p d) = P (ix2 p ⟨4 * 128 + d.val, by omega⟩) := by
  pointwise
theorem head4_eq (P : FVec Ideal S256x1024 .f32) (g : Vec Ideal S1x128 .f32) :
    k0_pay18 (k0_pay16 g) (k0_pay17 P) = k0_pay1 (extractStridedSlice S256x128 ![0, 512] P slices_S256x1024_o0_512_S256x128) g := rfl
theorem head4_apply (P : FVec Ideal S256x1024 .f32) (g : Vec Ideal S1x128 .f32) (p : Fin 256) (d : Fin 128) :
    (k0_pay18 (k0_pay16 g) (k0_pay17 P) : FVec Ideal S256x128 .bf16) (ix2 p d) = TextQSpec.rms 0x43000000#32 (fun e : Fin 128 => P (ix2 p ⟨4 * 128 + e.val, by omega⟩)) (fun e : Fin 128 => g (ix2 0 e)) d := by
  rw [head4_eq, pay1_apply]
  congr 1; funext e; exact slice4 _ p e
theorem slice5 (P : FVec Ideal S256x1024 .f32) (p : Fin 256) (d : Fin 128) :
    (extractStridedSlice S256x128 ![0, 640] P slices_S256x1024_o0_640_S256x128 : FVec Ideal S256x128 .f32) (ix2 p d) = P (ix2 p ⟨5 * 128 + d.val, by omega⟩) := by
  pointwise
theorem head5_eq (P : FVec Ideal S256x1024 .f32) (g : Vec Ideal S1x128 .f32) :
    k0_pay19 P g = k0_pay1 (extractStridedSlice S256x128 ![0, 640] P slices_S256x1024_o0_640_S256x128) g := rfl
theorem head5_apply (P : FVec Ideal S256x1024 .f32) (g : Vec Ideal S1x128 .f32) (p : Fin 256) (d : Fin 128) :
    (k0_pay19 P g : FVec Ideal S256x128 .bf16) (ix2 p d) = TextQSpec.rms 0x43000000#32 (fun e : Fin 128 => P (ix2 p ⟨5 * 128 + e.val, by omega⟩)) (fun e : Fin 128 => g (ix2 0 e)) d := by
  rw [head5_eq, pay1_apply]
  congr 1; funext e; exact slice5 _ p e
theorem slice6 (P : FVec Ideal S256x1024 .f32) (p : Fin 256) (d : Fin 128) :
    (extractStridedSlice S256x128 ![0, 768] P slices_S256x1024_o0_768_S256x128 : FVec Ideal S256x128 .f32) (ix2 p d) = P (ix2 p ⟨6 * 128 + d.val, by omega⟩) := by
  pointwise
theorem head6_eq (P : FVec Ideal S256x1024 .f32) (g : Vec Ideal S1x128 .f32) :
    k0_pay20 P g = k0_pay1 (extractStridedSlice S256x128 ![0, 768] P slices_S256x1024_o0_768_S256x128) g := rfl
theorem head6_apply (P : FVec Ideal S256x1024 .f32) (g : Vec Ideal S1x128 .f32) (p : Fin 256) (d : Fin 128) :
    (k0_pay20 P g : FVec Ideal S256x128 .bf16) (ix2 p d) = TextQSpec.rms 0x43000000#32 (fun e : Fin 128 => P (ix2 p ⟨6 * 128 + e.val, by omega⟩)) (fun e : Fin 128 => g (ix2 0 e)) d := by
  rw [head6_eq, pay1_apply]
  congr 1; funext e; exact slice6 _ p e
theorem slice7 (P : FVec Ideal S256x1024 .f32) (p : Fin 256) (d : Fin 128) :
    (extractStridedSlice S256x128 ![0, 896] P slices_S256x1024_o0_896_S256x128 : FVec Ideal S256x128 .f32) (ix2 p d) = P (ix2 p ⟨7 * 128 + d.val, by omega⟩) := by
  pointwise
theorem head7_eq (P : FVec Ideal S256x1024 .f32) (g : Vec Ideal S1x128 .f32) :
    k0_pay1 (k0_pay21 P) g = k0_pay1 (extractStridedSlice S256x128 ![0, 896] P slices_S256x1024_o0_896_S256x128) g := rfl
theorem head7_apply (P : FVec Ideal S256x1024 .f32) (g : Vec Ideal S1x128 .f32) (p : Fin 256) (d : Fin 128) :
    (k0_pay1 (k0_pay21 P) g : FVec Ideal S256x128 .bf16) (ix2 p d) = TextQSpec.rms 0x43000000#32 (fun e : Fin 128 => P (ix2 p ⟨7 * 128 + e.val, by omega⟩)) (fun e : Fin 128 => g (ix2 0 e)) d := by
  rw [head7_eq, pay1_apply]
  congr 1; funext e; exact slice7 _ p e

/-- The queries of row `p` at column `n`, from the projection and the norm's weights. -/
def query (P : FVec Ideal S256x1024 .f32) (g : Vec Ideal S1x128 .f32) (p : Fin 256) (n : Fin 1024) : EReal :=
  TextQSpec.rms 0x43000000#32 (fun e : Fin 128 => P (ix2 p ⟨n.val / 128 * 128 + e.val, by omega⟩)) (fun e : Fin 128 => g (ix2 0 e)) ⟨n.val % 128, by omega⟩

/-- A piece stored at head `h` with that head's queries has the queries wherever it is read. -/
theorem piece_at (P : FVec Ideal S256x1024 .f32) (g : Vec Ideal S1x128 .f32) (p : Fin 256) (n : Fin 1024) (h o : Nat) (hh : h < 8) (ho : o = h * 128)
    (w : FVec Ideal S256x128 .bf16)
    (hw : ∀ (p : Fin 256) (d : Fin 128), w (ix2 p d) = TextQSpec.rms 0x43000000#32 (fun e : Fin 128 => P (ix2 p ⟨h * 128 + e.val, by omega⟩)) (fun e : Fin 128 => g (ix2 0 e)) d) :
    View.TileAt (Val := Elt Ideal) (S := S256x1024) (e := .bf16) (ix2 p n) ![0, o] S256x128.size w (query P g p n) := by
  intro x hx
  obtain ⟨p', d, rfl⟩ : ∃ (p' : Fin 256) (d : Fin 128), x = ix2 p' d := ⟨x 0, x 1, eq_ix2 x⟩
  have h0 : p.val = 0 + p'.val := hx 0
  have h1 : n.val = o + d.val := hx 1
  have hp : p' = p := Fin.ext (by omega)
  have hd := d.isLt
  have hn : n.val / 128 = h := by omega
  have hm : (⟨n.val % 128, by omega⟩ : Fin 128) = d := Fin.ext (by show n.val % 128 = d.val; omega)
  subst hp
  refine (hw p' d).trans ?_
  unfold query
  subst hn
  rw [hm]

/-- The block of queries, read at an index. -/
theorem out7_apply (x0 : Vec Ideal S256x4096 .bf16) (x1 : Vec Ideal S1x4096 .f32) (x2 : Vec Ideal S4096x1024 .fp8e4m3) (x3 : Vec Ideal S1x1024 .f32)
    (x4 : Vec Ideal S1x128 .f32) (p : Fin 256) (n : Fin 1024) :
    out0_7 x0 x1 x2 x3 x4 (ix2 p n) = query (projB x0 x1 x2 x3) (View.ld x4 r0_4) p n := by
  refine View.canon_eq_of_allAt _ _ _ (cover0_7 _ _ _ _ _ _ _ _ _) ?_
  refine View.allAt_cons_unit _ _ _ _ _ (piece_at _ _ p n 7 896 (by omega) rfl _ (head7_apply _ _)) ?_
  refine View.allAt_cons_unit _ _ _ _ _ (piece_at _ _ p n 6 768 (by omega) rfl _ (head6_apply _ _)) ?_
  refine View.allAt_cons_unit _ _ _ _ _ (piece_at _ _ p n 5 640 (by omega) rfl _ (head5_apply _ _)) ?_
  refine View.allAt_cons_unit _ _ _ _ _ (piece_at _ _ p n 4 512 (by omega) rfl _ (head4_apply _ _)) ?_
  refine View.allAt_cons_unit _ _ _ _ _ (piece_at _ _ p n 3 384 (by omega) rfl _ (head3_apply _ _)) ?_
  refine View.allAt_cons_unit _ _ _ _ _ (piece_at _ _ p n 2 256 (by omega) rfl _ (head2_apply _ _ _)) ?_
  refine View.allAt_cons_unit _ _ _ _ _ (piece_at _ _ p n 1 128 (by omega) rfl _ (head1_apply _ _ _)) ?_
  refine View.allAt_cons_unit _ _ _ _ _ (piece_at _ _ p n 0 0 (by omega) rfl _ (head0_apply _ _ _)) ?_
  exact View.allAt_nil _ _

section
variable (t : Nat) (ht : t < 6) (a0 : Vec Ideal S3x512x4096 .bf16) (a1 : Vec Ideal S4096 .f32)
    (a2 : Vec Ideal S4096x1024 .fp8e4m3) (a3 : Vec Ideal S1024 .f32) (a4 : Vec Ideal S128 .f32) (x0 : Vec Ideal S256x4096 .bf16)
    (h0 : ∀ (p : Fin 256) (k : Fin 4096), x0 (ix2 p k) = a0 (ix3 ⟨(t * 256 + p.val) / 512, by omega⟩ ⟨(t * 256 + p.val) % 512, by omega⟩ k))

include h0

/-- The scale of a row of the block. -/
theorem scale_at (p : Fin 256) :
    k0_pay3 x0 (broadcastInDim S1x4096 ![1] bcast_S4096_S1x4096_1 a1) (ix2 p 0) = TextQSpec.scale (TextQSpec.xn a0 a1 ⟨t * 256 + p.val, by omega⟩) := by
  rw [pay3_eq, sel_apply, max_apply,
    show (fun q => k0_pay2 x0 (broadcastInDim S1x4096 ![1] bcast_S4096_S1x4096_1 a1) (ix2 p q)) = TextQSpec.xn a0 a1 ⟨t * 256 + p.val, by omega⟩ from
      funext fun q => xn_apply t ht a0 a1 x0 h0 p q]
  rfl

/-- The code at a place of the block. -/
theorem code_at (p : Fin 256) (q : Fin 4096) :
    k0_pay4 x0 (broadcastInDim S1x4096 ![1] bcast_S4096_S1x4096_1 a1) (ix2 p q) = TextQSpec.code (TextQSpec.xn a0 a1 ⟨t * 256 + p.val, by omega⟩) q := by
  rw [pay4_eq, clip_apply, scale_at t ht a0 a1 x0 h0, xn_apply t ht a0 a1 x0 h0]
  rfl

/-- The codes the point stores are the specification's. -/
theorem codes_at (p : Fin 256) (q : Fin 4096) :
    out0_5 x0 (broadcastInDim S1x4096 ![1] bcast_S4096_S1x4096_1 a1) (ix2 p q) = TextQSpec.C a0 a1 (ix2 ⟨t * 256 + p.val, by omega⟩ q) := by
  unfold out0_5 codesB
  rw [View.canon_unit_zero hz, View.ld_unit_zero hz, View.ld_unit_zero hz, code_at t ht a0 a1 x0 h0]
  rfl

/-- The row piece of scales the point stores is the specification's. -/
theorem scales_at (l : Fin 256) :
    scalesB x0 (broadcastInDim S1x4096 ![1] bcast_S4096_S1x4096_1 a1) (ix2 0 l) = TextQSpec.scale (TextQSpec.xn a0 a1 ⟨t * 256 + l.val, by omega⟩) := by
  unfold scalesB colB
  rw [View.ld_unit_zero hz, View.ld_unit_zero hz, pay5_apply, scale_at t ht a0 a1 x0 h0]

/-- The projection of the block is the specification's. -/
theorem proj_at (p : Fin 256) (n : Fin 1024) :
    projB x0 (broadcastInDim S1x4096 ![1] bcast_S4096_S1x4096_1 a1) a2 (broadcastInDim S1x1024 ![1] bcast_S1024_S1x1024_1 a3) (ix2 p n)
      = TextQSpec.proj a0 a1 a2 a3 ⟨t * 256 + p.val, by omega⟩ n := by
  have h2 : (broadcastInDim S1x1024 ![1] bcast_S1024_S1x1024_1 a3 : Vec Ideal S1x1024 .f32) (ix2 0 n) = a3 (ix1 n) := by pointwise
  unfold projB prodB rowB colB codesB
  rw [View.ld_unit_zero hz, View.ld_unit_zero hz, View.ld_unit_zero hz, View.ld_unit_zero hz, pay8_apply, scale_at t ht a0 a1 x0 h0, h2]
  unfold TextQSpec.proj
  simp only [code_at t ht a0 a1 x0 h0]

/-- The queries the point stores are the specification's. -/
theorem queries_at (p : Fin 256) (n : Fin 1024) :
    out0_7 x0 (broadcastInDim S1x4096 ![1] bcast_S4096_S1x4096_1 a1) a2 (broadcastInDim S1x1024 ![1] bcast_S1024_S1x1024_1 a3)
        (broadcastInDim S1x128 ![1] bcast_S128_S1x128_1 a4) (ix2 p n)
      = TextQSpec.Q a0 a1 a2 a3 a4 (ix2 ⟨t * 256 + p.val, by omega⟩ n) := by
  have h : (fun d : Fin 128 => ((broadcastInDim S1x128 ![1] bcast_S128_S1x128_1 a4 : Vec Ideal S1x128 .f32) (ix2 0 d) : EReal)) = fun d => a4 (ix1 d) := by
    funext d; pointwise
  rw [out7_apply, View.ld_unit_zero hz]
  unfold query
  rw [h]
  simp only [proj_at t ht a0 a1 a2 a3 x0 h0]
  rfl
end

variable (m : (ℓ : Loc nD τ sig) → Buf (Elt Ideal) ℓ) (ρ : Dev nD → PrngReg)

/-! ## The arrays and the blocks -/

/-- What the host's lines before the kernel leave in the arrays the kernel reads. -/
theorem V_main_v0 (c : Dev nD) : V m c main_v0
    = (shapeCast S1536x4096 (m ((c : Thread nD τ).loc main_arg0)) shapeCasts_S3x512x4096_S1536x4096 : Vec Ideal S1536x4096 .bf16) := by
  show StableHlo.after hostOps0 _ (Proc.devRef .tc main_v0) = _
  after_results
  try rfl
theorem V_main_v1 (c : Dev nD) : V m c main_v1
    = (broadcastInDim S1x4096 ![1] bcast_S4096_S1x4096_1 (m ((c : Thread nD τ).loc main_arg1)) : Vec Ideal S1x4096 .f32) := by
  show StableHlo.after hostOps0 _ (Proc.devRef .tc main_v1) = _
  after_results
  try rfl
theorem V_main_v2 (c : Dev nD) : V m c main_v2
    = (broadcastInDim S1x1024 ![1] bcast_S1024_S1x1024_1 (m ((c : Thread nD τ).loc main_arg3)) : Vec Ideal S1x1024 .f32) := by
  show StableHlo.after hostOps0 _ (Proc.devRef .tc main_v2) = _
  after_results
  try rfl
theorem V_main_v3 (c : Dev nD) : V m c main_v3
    = (broadcastInDim S1x128 ![1] bcast_S128_S1x128_1 (m ((c : Thread nD τ).loc main_arg4)) : Vec Ideal S1x128 .f32) := by
  show StableHlo.after hostOps0 _ (Proc.devRef .tc main_v3) = _
  after_results
  try rfl

/-- The rows of the three parts of the input under one another. -/
theorem relay_apply (a0 : Vec Ideal S3x512x4096 .bf16) (r : Fin 1536) (k : Fin 4096) :
    (shapeCast S1536x4096 a0 shapeCasts_S3x512x4096_S1536x4096 : Vec Ideal S1536x4096 .bf16) (ix2 r k)
      = a0 (ix3 ⟨r.val / 512, by omega⟩ ⟨r.val % 512, by omega⟩ k) := by
  pointwise

/-- Each window's block index at each grid point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem lt6 (t : Fin cfg0.N) : t.val < 6 := t.isLt

/-- The block of the input, read at a row and a column, is the input at the point's row and that column. -/
theorem iblk0_apply (c : Dev nD) (t : Fin cfg0.N) (p : Fin 256) (k : Fin 4096) :
    iblk m c 0 t (ix2 p k) = m ((c : Thread nD τ).loc main_arg0)
      (ix3 ⟨(t.val * 256 + p.val) / 512, by have := lt6 t; omega⟩ ⟨(t.val * 256 + p.val) % 512, by omega⟩ k) := by
  obtain ⟨e0, e1⟩ := idx0 t
  have hb : iblk m c 0 t (ix2 p k) = V m c main_v0 (ix2 ⟨t.val * 256 + p.val, by have := lt6 t; omega⟩ k) := by
    show V m c main_v0 (((cfg0.win 0).blk t).view.emb (ix2 p k)) = _
    congr 1; funext a; apply Fin.ext
    match a with
    | ⟨0, _⟩ => show win0_0.index t (0 : Fin 2) * 256 + 1 * p.val = t.val * 256 + p.val; omega
    | ⟨1, _⟩ => show win0_0.index t (1 : Fin 2) * 4096 + 1 * k.val = k.val; omega
  rw [hb, V_main_v0, relay_apply]

/-- A window whose block is its whole array. -/
theorem emb1 (t : Fin cfg0.N) (j : S1x4096.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 4096 + 1 * (j 1).val = (j 1).val; omega
theorem emb2 (t : Fin cfg0.N) (j : S4096x1024.Idx) : ((cfg0.win 2).blk t).view.emb j = j := by
  obtain ⟨e0, e1⟩ := idx2 t
  funext a; apply Fin.ext
  match a with
  | ⟨0, _⟩ => show win0_2.index t (0 : Fin 2) * 4096 + 1 * (j 0).val = (j 0).val; omega
  | ⟨1, _⟩ => show win0_2.index t (1 : Fin 2) * 1024 + 1 * (j 1).val = (j 1).val; omega
theorem emb3 (t : Fin cfg0.N) (j : S1x1024.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega
theorem emb4 (t : Fin cfg0.N) (j : S1x128.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega
theorem emb6 (t : Fin cfg0.N) (j : S3x512.Idx) : ((cfg0.win 6).blk t).view.emb j = j := by
  obtain ⟨e0, e1⟩ := idx6 t
  funext a; apply Fin.ext
  match a with
  | ⟨0, _⟩ => show win0_6.index t (0 : Fin 2) * 3 + 1 * (j 0).val = (j 0).val; omega
  | ⟨1, _⟩ => show win0_6.index t (1 : Fin 2) * 512 + 1 * (j 1).val = (j 1).val; omega
theorem iblk1_eq (c : Dev nD) (t : Fin cfg0.N) : iblk m c 1 t = V m c main_v1 := by
  funext j; show V m c main_v1 (((cfg0.win 1).blk t).view.emb j) = V m c main_v1 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_v2 := by
  funext j; show V m c main_v2 (((cfg0.win 3).blk t).view.emb j) = V m c main_v2 j; rw [emb3]
theorem iblk4_eq (c : Dev nD) (t : Fin cfg0.N) : iblk m c 4 t = V m c main_v3 := by
  funext j; show V m c main_v3 (((cfg0.win 4).blk t).view.emb j) = V m c main_v3 j; rw [emb4]

/-- Where an output's block at point `t` puts row `p` and column `q`. -/
theorem emb5 (t : Fin cfg0.N) (p : Fin 256) (q : Fin 4096) :
    ((cfg0.win 5).blk t).view.emb (ix2 p q) = (ix2 ⟨t.val * 256 + p.val, by have := lt6 t; omega⟩ q : S1536x4096.Idx) := by
  obtain ⟨e0, e1⟩ := idx5 t
  funext a; apply Fin.ext
  match a with
  | ⟨0, _⟩ => show win0_5.index t (0 : Fin 2) * 256 + 1 * p.val = t.val * 256 + p.val; omega
  | ⟨1, _⟩ => show win0_5.index t (1 : Fin 2) * 4096 + 1 * q.val = q.val; omega
theorem emb7 (t : Fin cfg0.N) (p : Fin 256) (q : Fin 1024) :
    ((cfg0.win 7).blk t).view.emb (ix2 p q) = (ix2 ⟨t.val * 256 + p.val, by have := lt6 t; omega⟩ q : S1536x1024.Idx) := by
  obtain ⟨e0, e1⟩ := idx7 t
  funext a; apply Fin.ext
  match a with
  | ⟨0, _⟩ => show win0_7.index t (0 : Fin 2) * 256 + 1 * p.val = t.val * 256 + p.val; omega
  | ⟨1, _⟩ => show win0_7.index t (1 : Fin 2) * 1024 + 1 * q.val = q.val; omega

/-- The three results of device `c`'s run as the formulas of its argument arrays. -/
abbrev RC (c : Dev nD) : Vec Ideal S1536x4096 .fp8e4m3 := TextQSpec.C (m ((c : Thread nD τ).loc main_arg0)) (m ((c : Thread nD τ).loc main_arg1))
abbrev RS (c : Dev nD) : Vec Ideal S3x512 .f32 := TextQSpec.S (m ((c : Thread nD τ).loc main_arg0)) (m ((c : Thread nD τ).loc main_arg1))
abbrev RQ (c : Dev nD) : Vec Ideal S1536x1024 .bf16 := TextQSpec.Q (m ((c : Thread nD τ).loc main_arg0)) (m ((c : Thread nD τ).loc main_arg1)) (m ((c : Thread nD τ).loc main_arg2)) (m ((c : Thread nD τ).loc main_arg3)) (m ((c : Thread nD τ).loc main_arg4))

/-! ## The codes and the queries -/

theorem flushed5 (c : Dev nD) (t : Fin cfg0.N) :
    (dats m 0 c).flushed 5 t = (cfg0.win 5).cut (grid0.coords t) (out0_5 (iblk m c 0 t) (iblk m c 1 t)) := by
  show (cfg0.win 5).cut (grid0.coords t) ((dats m 0 c).after 5 t) = _
  rw [after0_5]
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- What point `t` writes back is its block of the formula. -/
theorem flushed5_eq (c : Dev nD) (t : Fin cfg0.N) :
    (dats m 0 c).flushed 5 t = ((cfg0.win 5).blk t).view.read (Elt Ideal) (RC m c) := by
  rw [flushed5, iblk1_eq, V_main_v1]
  funext j
  obtain ⟨p, q, rfl⟩ : ∃ (p : Fin 256) (q : Fin 4096), j = ix2 p q := ⟨j 0, j 1, eq_ix2 j⟩
  refine (codes_at t.val (lt6 t) (m ((c : Thread nD τ).loc main_arg0)) (m ((c : Thread nD τ).loc main_arg1))
    (iblk m c 0 t) (iblk0_apply m c t) p q).trans ?_
  show _ = RC m c (((cfg0.win 5).blk t).view.emb (ix2 p q))
  rw [emb5]
theorem flushed7_eq (c : Dev nD) (t : Fin cfg0.N) :
    (dats m 0 c).flushed 7 t = ((cfg0.win 7).blk t).view.read (Elt Ideal) (RQ m c) := by
  rw [flushed7, iblk1_eq, V_main_v1, iblk2_eq, iblk3_eq, iblk4_eq, V_main_v2, V_main_v3, V_main_arg2]
  funext j
  obtain ⟨p, q, rfl⟩ : ∃ (p : Fin 256) (q : Fin 1024), j = ix2 p q := ⟨j 0, j 1, eq_ix2 j⟩
  refine (queries_at t.val (lt6 t) (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk0_apply m c t) p q).trans ?_
  show _ = RQ m c (((cfg0.win 7).blk t).view.emb (ix2 p q))
  rw [emb7]

/-- Every index of such an array is in the block of the point of its row. -/
theorem covered5 (i : S1536x4096.Idx) :
    ∃ t : Fin cfg0.N, (cfg0.win 5).flush t = true ∧ i ∈ ((cfg0.win 5).blk t).view.set := by
  obtain ⟨r, q, rfl⟩ : ∃ (r : Fin 1536) (q : Fin 4096), i = ix2 r q := ⟨i 0, i 1, eq_ix2 i⟩
  have hr := r.isLt
  refine ⟨(⟨r.val / 256, by show r.val / 256 < 6; omega⟩ : Fin cfg0.N), flush0_5 _, ?_⟩
  have h := ((cfg0.win 5).blk (⟨r.val / 256, by show r.val / 256 < 6; omega⟩ : Fin cfg0.N)).view.emb_mem_set
    (ix2 (⟨r.val % 256, by omega⟩ : Fin 256) q)
  rw [emb5] at h
  have e : (⟨r.val / 256 * 256 + r.val % 256, by omega⟩ : Fin 1536) = r := Fin.ext (by show r.val / 256 * 256 + r.val % 256 = r.val; omega)
  simp only [e] at h
  exact h
theorem covered7 (i : S1536x1024.Idx) :
    ∃ t : Fin cfg0.N, (cfg0.win 7).flush t = true ∧ i ∈ ((cfg0.win 7).blk t).view.set := by
  obtain ⟨r, q, rfl⟩ : ∃ (r : Fin 1536) (q : Fin 1024), i = ix2 r q := ⟨i 0, i 1, eq_ix2 i⟩
  have hr := r.isLt
  refine ⟨(⟨r.val / 256, by show r.val / 256 < 6; omega⟩ : Fin cfg0.N), flush0_7 _, ?_⟩
  have h := ((cfg0.win 7).blk (⟨r.val / 256, by show r.val / 256 < 6; omega⟩ : Fin cfg0.N)).view.emb_mem_set
    (ix2 (⟨r.val % 256, by omega⟩ : Fin 256) q)
  rw [emb7] at h
  have e : (⟨r.val / 256 * 256 + r.val % 256, by omega⟩ : Fin 1536) = r := Fin.ext (by show r.val / 256 * 256 + r.val % 256 = r.val; omega)
  simp only [e] at h
  exact h

/-- These arrays after the run are the formulas of the arguments as launched. -/
theorem final5 (c : Dev nD) : (dats m 0 c).arrAt 5 cfg0.N = RC m c :=
  (dats m 0 c).arrAt_eq_of_cover 5 (RC m c) (fun t _ => flushed5_eq m c t) covered5
theorem final7 (c : Dev nD) : (dats m 0 c).arrAt 7 cfg0.N = RQ m c :=
  (dats m 0 c).arrAt_eq_of_cover 7 (RQ m c) (fun t _ => flushed7_eq m c t) covered7

/-! ## The scales -/

/-- The row piece stored at a point is the specification's. -/
theorem rowAt_eq (c : Dev nD) (s : Fin cfg0.N) (l : Fin 256) :
    rowAt m c s (ix2 0 l) = TextQSpec.scale (TextQSpec.xn (m ((c : Thread nD τ).loc main_arg0)) (m ((c : Thread nD τ).loc main_arg1))
      ⟨s.val * 256 + l.val, by have := lt6 s; omega⟩) := by
  unfold rowAt
  rw [iblk1_eq, V_main_v1]
  exact scales_at s.val (lt6 s) (m ((c : Thread nD τ).loc main_arg0)) (m ((c : Thread nD τ).loc main_arg1)) (iblk m c 0 s) (iblk0_apply m c s) l

/-- Where the row piece of a point starts. -/
theorem off_eq : ∀ s : Fin cfg0.N, k0_off1 (grid0.coords s) (0 : Fin 2) = s.val / 2 ∧ k0_off1 (grid0.coords s) (1 : Fin 2) = s.val % 2 * 256 :=
  (by decide +kernel : ∀ t : Fin grid0.N, _)

/-- A buffer with every piece in place holds the specification's scales. -/
theorem known_last (c : Dev nD) (t : Fin cfg0.N) (ht : t.val = 5) (X : Vec Ideal S3x512 .f32) (h : Known m c t X) : X = RS m c := by
  funext j
  obtain ⟨a, b, rfl⟩ : ∃ (a : Fin 3) (b : Fin 512), j = ix2 a b := ⟨j 0, j 1, eq_ix2 j⟩
  have ha := a.isLt
  have hb := b.isLt
  let s : Fin cfg0.N := ⟨a.val * 2 + b.val / 256, by show a.val * 2 + b.val / 256 < 6; omega⟩
  have hs : s.val = a.val * 2 + b.val / 256 := rfl
  let l : Fin 256 := ⟨b.val % 256, by omega⟩
  have hl : l.val = b.val % 256 := rfl
  obtain ⟨e0, e1⟩ := off_eq s
  have hx := h s (by omega) (ix2 (0 : Fin 1) l)
  have he : (r6 (grid0.coords s)).emb (ix2 (0 : Fin 1) l) = (ix2 a b : S3x512.Idx) := by
    funext k; apply Fin.ext
    match k with
    | ⟨0, _⟩ => show k0_off1 (grid0.coords s) (0 : Fin 2) + 1 * 0 = a.val; omega
    | ⟨1, _⟩ => show k0_off1 (grid0.coords s) (1 : Fin 2) + 1 * l.val = b.val; omega
  rw [he, rowAt_eq m c s l] at hx
  rw [hx]
  have hr : (⟨s.val * 256 + l.val, by have := lt6 s; omega⟩ : Fin 1536) = ⟨a.val * 512 + b.val, by omega⟩ :=
    Fin.ext (by show s.val * 256 + l.val = a.val * 512 + b.val; omega)
  rw [hr]
  rfl

/-! ## The run -/

section
variable {nD' : Nat} {τ' : Topo} {sig' : RefSig} {Val : EltTy → Type} [∀ e, Nonempty (Val e)] {Λ' : Idealize.SL.Sem.Labels}
variable {U : Type} [Idealize.SL.RA.URA U] {cfg : Cfg sig' Λ'} {c : Dev nD'}

/-- Of a window held to no predicate the array after the run is the exact data's. -/
theorem arrAt_exact (dat : Dat τ' Val Unit ℕ U ℕ cfg c) (fgt : Fin cfg.W → Bool)
    (Rl : (w : Fin cfg.W) → Fin cfg.N → ((cfg.win w).block.Idx → Val (cfg.win w).elt) → Prop) (w : Fin cfg.W) (h : fgt w = false) (n : Nat)
    (F : Buf Val ((cfg.win w).arr.view.loc (c.tc : Thread nD' τ'))) (hF : (dat.toRRel fgt Rl).ArrAt w n F) : F = dat.arrAt w n :=
  (dat.toR_arrAt_iff w n F).mp ((dat.toR.override_arrAt (by simp only [h]) n F).mp hF)

/-- A window written back at the last point: the array is a write of what the body may leave there. -/
theorem arrAt_last (rd : RDat τ' Val Unit ℕ U ℕ cfg c) (w : Fin cfg.W) (u : Fin cfg.N) (hu : cfg.N = u.val + 1) (hf : (cfg.win w).flush u = true)
    (F : Buf Val ((cfg.win w).arr.view.loc (c.tc : Thread nD' τ'))) (hF : rd.ArrAt w cfg.N F) :
    ∃ G₀ X, rd.Leaves w u X ∧ F = ((cfg.win w).blk u).view.write Val G₀ ((cfg.win w).cut (cfg.grid.coords u) X) Finset.univ := by
  rw [show rd.ArrAt w cfg.N = rd.ArrAt w (u.val + 1) from congrArg (rd.ArrAt w) hu, rd.ArrAt_succ w u, if_pos hf] at hF
  obtain ⟨G₀, X, _, hL, e⟩ := hF
  exact ⟨G₀, X, hL, e⟩
end

/-- The last grid point. -/
abbrev tLast : Fin cfg0.N := ⟨5, by decide⟩

/-- The array of scales after the run is the formula of the arguments as launched. -/
theorem scales_final (c : Dev nD) (F : Vec Ideal S3x512 .f32) (hF : (rdats m c).ArrAt 6 cfg0.N F) : F = RS m c := by
  obtain ⟨G₀, X, hL, e⟩ := arrAt_last (rdats m c) 6 tLast (by decide) ((flush0_6 _).mpr (by decide)) F hF
  have hK : Known m c tLast X := Dat.toRRel_leaves (dats m 0 c) (fgt := fgt) (Rl := Rl m c) (w := 6) rfl hL
  have hX : (X : Vec Ideal S3x512 .f32) = RS m c := known_last m c tLast rfl X hK
  funext j
  have h1 : F (((cfg0.win 6).blk tLast).view.emb j) = (cfg0.win 6).cut (grid0.coords tLast) X j := by
    rw [e]; exact View.write_emb_of_mem _ _ (Finset.mem_univ _)
  rw [emb6] at h1
  rw [h1, ← hX]; rfl

/-- The run: the three results at their formulas, the arguments unchanged. -/
theorem run_values : θ_run defs (onTc (τ := τ) (main (F := Ideal))) ⟨m, fun _ => 0, ρ⟩ (fun r => ∀ c : Dev nD,
      r.2.mem ((c.tc : Thread nD τ).loc main_v4_0) = RC m c
      ∧ r.2.mem ((c.tc : Thread nD τ).loc main_v4_1) = RS m c
      ∧ r.2.mem ((c.tc : Thread nD τ).loc main_v4_2) = RQ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hh c => ⟨(arrAt_exact (dats m 0 c) fgt (Rl m c) 5 rfl _ _ ((hh.1 c).1 5)).trans (final5 m c),
      scales_final m c _ ((hh.1 c).1 6),
      (arrAt_exact (dats m 0 c) fgt (Rl m c) 7 rfl _ _ ((hh.1 c).1 7)).trans (final7 m c), kept m c r hh.1⟩) (run_main_quiescent m ρ)

end Cert.Proof.TextQKernel

end
-- ==== Proof.TextQRun.lean ====
/-
  The run of the query projection's kernel at any float instance: the body's triple, the proof data and the frame.

  Seven windows are exact: five inputs stay at their blocks, and windows 5 (the codes) and 7 (the queries) end at what
  the body stores. Window 6 is the array of scales, which stays in its buffer over the whole grid while each
  point stores one row piece at an offset depending on the point; of it the proof says, at each point, that
  every piece stored so far is still in place. At the last point that names every element.
-/
module

public import proofs.«01_k».proof.Proof.Gen.TextQ.Frame
public import proofs.«01_k».proof.Proof.Gen.TextQ.Skeleton
public import Idealize.ShloMosaic.Lib.Pipeline.DatRel
public import Idealize.ShloMosaic.Lib.Pipeline.Cells

@[expose] public section

set_option maxRecDepth 16384

noncomputable section

namespace Cert.Proof.TextQRun

open Cert.TextQ Cert.TextQ.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S4096x1024 := Rect.unit (s := S4096x1024) ![0, 0] S4096x1024.size inb_S4096x1024_S4096x1024_0_0
abbrev r0_3 : Rect S1x1024 := Rect.unit (s := S1x1024) ![0, 0] S1x1024.size inb_S1x1024_S1x1024_0_0
abbrev r0_4 : Rect S1x128 := Rect.unit (s := S1x128) ![0, 0] S1x128.size inb_S1x128_S1x128_0_0
/-- Where the queries of a head go. -/
abbrev rq0 : Rect S256x1024 := Rect.unit (s := S256x1024) ![0, 0] S256x128.size inb_S256x1024_S256x128_0_0
abbrev rq1 : Rect S256x1024 := Rect.unit (s := S256x1024) ![0, 128] S256x128.size inb_S256x1024_S256x128_0_128
abbrev rq2 : Rect S256x1024 := Rect.unit (s := S256x1024) ![0, 256] S256x128.size inb_S256x1024_S256x128_0_256
abbrev rq3 : Rect S256x1024 := Rect.unit (s := S256x1024) ![0, 384] S256x128.size inb_S256x1024_S256x128_0_384
abbrev rq4 : Rect S256x1024 := Rect.unit (s := S256x1024) ![0, 512] S256x128.size inb_S256x1024_S256x128_0_512
abbrev rq5 : Rect S256x1024 := Rect.unit (s := S256x1024) ![0, 640] S256x128.size inb_S256x1024_S256x128_0_640
abbrev rq6 : Rect S256x1024 := Rect.unit (s := S256x1024) ![0, 768] S256x128.size inb_S256x1024_S256x128_0_768
abbrev rq7 : Rect S256x1024 := Rect.unit (s := S256x1024) ![0, 896] S256x128.size inb_S256x1024_S256x128_0_896
/-- Where the scales of a point go. -/
abbrev r6 (i : grid0.Coords) : Rect S3x512 := Rect.unit (s := S3x512) (k0_off1 i) S1x256.size (k0_off1_inb i)

/-! ## What the body stores -/

/-- The scales of a block of rows, as a column. -/
abbrev colB (x0 : Vec F S256x4096 .bf16) (x1 : Vec F S1x4096 .f32) : FVec F S256x1 .f32 := k0_pay3 (View.ld x0 r0_0) (View.ld x1 r0_1)
/-- The codes of a block. -/
abbrev codesB (x0 : Vec F S256x4096 .bf16) (x1 : Vec F S1x4096 .f32) : FVec F S256x4096 .fp8e4m3 := k0_pay4 (View.ld x0 r0_0) (View.ld x1 r0_1)
/-- The row piece of scales of a block. -/
def scalesB (x0 : Vec F S256x4096 .bf16) (x1 : Vec F S1x4096 .f32) : FVec F S1x256 .f32 := k0_pay5 (colB x0 x1)
/-- The product of the codes with the weights, times the rows' scales. -/
abbrev prodB (x0 : Vec F S256x4096 .bf16) (x1 : Vec F S1x4096 .f32) (x2 : Vec F S4096x1024 .fp8e4m3) (x3 : Vec F S1x1024 .f32) : FVec F S256x1024 .f32 :=
  k0_pay6 (colB x0 x1) (codesB x0 x1) (View.ld x2 r0_2)
/-- The weights' scales. -/
abbrev rowB (x0 : Vec F S256x4096 .bf16) (x1 : Vec F S1x4096 .f32) (x2 : Vec F S4096x1024 .fp8e4m3) (x3 : Vec F S1x1024 .f32) : FVec F S1x1024 .f32 :=
  k0_pay7 (View.ld x3 r0_3)
/-- The projection before the queries' norm. -/
abbrev projB (x0 : Vec F S256x4096 .bf16) (x1 : Vec F S1x4096 .f32) (x2 : Vec F S4096x1024 .fp8e4m3) (x3 : Vec F S1x1024 .f32) : FVec F S256x1024 .f32 :=
  k0_pay8 (prodB x0 x1 x2 x3) (rowB x0 x1 x2 x3)

/-- Window 5's staging buffer after the body, from the input windows' blocks. -/
def out0_5 (x0 : Vec F S256x4096 .bf16) (x1 : Vec F S1x4096 .f32) : Vec F S256x4096 .fp8e4m3 :=
  View.canon [⟨r0_0, codesB x0 x1⟩]
/-- Window 7's, head by head. -/
def out0_7 (x0 : Vec F S256x4096 .bf16) (x1 : Vec F S1x4096 .f32) (x2 : Vec F S4096x1024 .fp8e4m3) (x3 : Vec F S1x1024 .f32) (x4 : Vec F S1x128 .f32) : Vec F S256x1024 .bf16 :=
  View.canon [⟨rq7, k0_pay1 (k0_pay21 (projB x0 x1 x2 x3)) (View.ld x4 r0_4)⟩, ⟨rq6, k0_pay20 (projB x0 x1 x2 x3) (View.ld x4 r0_4)⟩, ⟨rq5, k0_pay19 (projB x0 x1 x2 x3) (View.ld x4 r0_4)⟩, ⟨rq4, k0_pay18 (k0_pay16 (View.ld x4 r0_4)) (k0_pay17 (projB x0 x1 x2 x3))⟩, ⟨rq3, k0_pay15 (projB x0 x1 x2 x3) (View.ld x4 r0_4)⟩, ⟨rq2, k0_pay14 (k0_pay11 (prodB x0 x1 x2 x3) (rowB x0 x1 x2 x3)) (k0_pay12 (View.ld x4 r0_4)) (k0_pay13 (prodB x0 x1 x2 x3) (rowB x0 x1 x2 x3))⟩, ⟨rq1, k0_pay10 (prodB x0 x1 x2 x3) (rowB x0 x1 x2 x3) (View.ld x4 r0_4)⟩, ⟨rq0, k0_pay9 (prodB x0 x1 x2 x3) (rowB x0 x1 x2 x3) (View.ld x4 r0_4)⟩]

/-- The stores cover the buffers. -/
theorem cover0_5 (p0 : Vec F S256x4096 .fp8e4m3) (y : S256x4096.Idx) :
    ∃ pc ∈ ([⟨r0_0, p0⟩] : List (View.Piece (Elt F) S256x4096 .fp8e4m3)), y ∈ pc.1.set :=
  View.cover_of_tiled [⟨r0_0, p0⟩] S256x4096.size (by rfl) y
theorem cover0_7 (p0 p1 p2 p3 p4 p5 p6 p7 : Vec F S256x128 .bf16) (y : S256x1024.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S256x1024 .bf16)), y ∈ pc.1.set :=
  View.cover_of_tiled [⟨rq7, p7⟩, ⟨rq6, p6⟩, ⟨rq5, p5⟩, ⟨rq4, p4⟩, ⟨rq3, p3⟩, ⟨rq2, p2⟩, ⟨rq1, p1⟩, ⟨rq0, p0⟩] S256x128.size (by rfl) y

/-- The scales' buffer found at `Y` and left at `X`: the piece at point `i` is `w`, the rest is as found. -/
def Put (i : grid0.Coords) (w : Vec F S1x256 .f32) (Y X : Vec F S3x512 .f32) : Prop :=
  (∀ x : (r6 i).shape.Idx, X ((r6 i).emb x) = w x) ∧ ∀ y, y ∉ (r6 i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨r6 i, w⟩])) := by
  constructor
  · intro x; rw [View.read_writes_cons_emb]
  · intro y hy
    have hy' : y ∉ Finset.univ.map (r6 i).emb := by rwa [Rect.map_emb_univ]
    rw [View.writes_cons, View.read_slice_write_of_not_mem (r6 i) _ _ _ hy']; rfl

/-! ## The body's triple -/

set_option maxHeartbeats 2000000 in
/-- The kernel body on whole staging buffers: inputs kept, the codes and queries stored whole, the scales' piece stored. -/
theorem sound_kernel (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x128 .f32) (harg5 : arg5.IsWhole) (arg6 : Memref sig .tc .vmem S256x4096 .fp8e4m3) (harg6 : arg6.IsWhole) (arg7 : Memref sig .tc .vmem S3x512 .f32) (harg7 : arg7.IsWhole) (arg8 : Memref sig .tc .vmem S256x1024 .bf16) (harg8 : arg8.IsWhole)
    (x0 : Vec F S256x4096 .bf16) (x1 : Vec F S1x4096 .f32) (x2 : Vec F S4096x1024 .fp8e4m3) (x3 : Vec F S1x1024 .f32) (x4 : Vec F S1x128 .f32) (Y : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare Y ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1) ∗ (∃ X, ⌜Put i (scalesB x0 x1) Y X⌝ ∗ owns (c : Thread nD τ) arg7 fullShare X) ∗ owns (c : Thread nD τ) arg8 fullShare (out0_7 x0 x1 x2 x3 x4)) -∗ K ⟨⟩))
      ⊢ wp frame (wpE (defs₀ (F := F)) Variants.none c none) E (cc0_text_q i arg1 harg1 arg2 harg2 arg3 harg3 arg4 harg4 arg5 harg5 arg6 harg6 arg7 harg7 arg8 harg8) K := by
  simp only [cc0_text_q_eq_skeleton]; unfold cc0_text_q_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _
    isplitr
    swap
    · iexists _; isplitr
      swap; · iexact H6
      ipureintro; rfl
    ipureintro
    exact put_write i _ _ _
  iexists _; isplitr
  swap; · iexact H7
  ipureintro
  exact View.read_writes_eq_canon _ _ _ (cover0_7 _ _ _ _ _ _ _ _)

/-! ## The pipeline's proof data -/

/-- The proof data: the arrays as the region finds them, each input's buffer at its block, the codes' and the queries'
    buffers at what the body stores; of the scales' buffer the entry here is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t)
    | ⟨6, _⟩ => fun _ => Scalar.ofBits .f32 0x00000000#32
    | ⟨7, _⟩ => out0_7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What is known of the scales' buffer -/

/-- The row piece of scales stored at point `s`. -/
def rowAt (c : Dev nD) (s : Fin cfg0.N) : Vec F S1x256 .f32 :=
  scalesB (iblk m c 0 s) (iblk m c 1 s)

/-- After point `t` every piece stored so far is in place. -/
def Known (c : Dev nD) (t : Fin cfg0.N) (X : Vec F S3x512 .f32) : Prop :=
  ∀ s : Fin cfg0.N, s.val ≤ t.val → ∀ x : (r6 (grid0.coords s)).shape.Idx, X ((r6 (grid0.coords s)).emb x) = rowAt m c s x

/-- Only the scales' window is held to a predicate. -/
def fgt (w : Fin cfg0.W) : Bool := match w with
  | ⟨6, _⟩ => true
  | _ => false

/-- The predicate, window by window. -/
def Rl (c : Dev nD) (w : Fin cfg0.W) (t : Fin cfg0.N) : ((cfg0.win w).block.Idx → Elt F (cfg0.win w).elt) → Prop := match w with
  | ⟨6, _⟩ => fun X => Known m c t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (r6 (grid0.coords s)).shape.Idx) : (r6 (grid0.coords s)).emb x ∉ (r6 (grid0.coords t)).set := by
  intro hm
  obtain ⟨a, ha⟩ := off_sep s t h
  have h1 := Rect.mem_set_unit.mp hm a
  have h2 := Rect.mem_set_unit.mp (show (r6 (grid0.coords s)).emb x ∈ (r6 (grid0.coords s)).set from (r6 (grid0.coords s)).idx_mem x) a
  omega

theorem fetch6 : ∀ t : Fin cfg0.N, (cfg0.win 6).fetch t = false := by
  intro t; rfl

/-- The buffer found at point `t` has the earlier pieces in place; storing one more gives `Known` at `t`. -/
theorem known_step (c : Dev nD) (t : Fin cfg0.N) (Y X : Vec F S3x512 .f32)
    (hY : ((dats m 0 c).toRRel fgt (Rl m c)).Finds 6 t Y) (hX : Put (grid0.coords t) (rowAt m c t) Y X) : Known m c t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch6 t) ht Y).mp hY with hf | hl
    · exfalso
      have := (flush0_6 _).mp hf
      have htN : t.val < 6 := t.isLt
      simp only at this
      omega
    · have hk : Known m c _ Y := Dat.toRRel_leaves (dats m 0 c) (fgt := fgt) (Rl := Rl m c) (w := 6) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel fgt (Rl m c)).Finds 6 t Y⌝ ∗ owns (c : Thread nD τ) (st0_6 t) fullShare Y)
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_7]
  iintro ⟨HΦ, Ho, ⟨%d0, H0⟩, ⟨%d1, H1⟩, ⟨%d2, H2⟩, ⟨%d3, H3⟩, ⟨%d4, H4⟩, ⟨%d5, H5⟩, ⟨%Y, %hY, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) Y _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  iintro ⟨H0, H1, H2, H3, H4, H5, ⟨%X, %hX, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists X; isplitr
    · ipureintro; exact known_step m c t Y X hY hX
    iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The arguments after the run. -/
theorem kept (c : Dev nD) (r) (h : Pipeline.RDat.FramePost cfg0 (rdats m) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq' m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hh => ⟨fun c => kept m c r hh.1, hh.2⟩) (run_main_quiescent m ρ)

end Cert.Proof.TextQRun

end
-- ==== Proof.OProjSpec.lean ====
/- Hand-written, untrusted: the quantisation of the attention, its projection onto the residual, the second norm and that
   norm's quantisation, as functions of the argument arrays, over the extended reals, index by index. The kernel
   (`OProjKernel.lean`) and the reference (`OProjRef.lean`) are each shown to leave them in their five results. -/
module

public import Idealize.ShloMosaic.Lib.Pointwise

@[expose] public section

noncomputable section

namespace Cert.Proof.OProjSpec

open Idealize.ShloMosaic

/-- A row over the root of its mean square plus 1e-5, times a weight. -/
def rms (f g : Fin 4096 → EReal) (k : Fin 4096) : EReal :=
  Ideal.div (f k) (Ideal.sqrt (Ideal.div (∑ x : Fin 4096, f x * f x) (Ideal.ofBits .f32 0x45800000#32) + Ideal.ofBits .f32 0x3727C5AC#32)) * g k

/-- The largest absolute value of a row. -/
def rowMax {n : Nat} (f : Fin n → EReal) : EReal :=
  Finset.univ.fold max (Ideal.ofBits .f32 0xFF800000#32) fun q : Fin n => FloatOps.absf (F := Ideal) (φ := .f32) (f q)

/-- The scale of a row: its largest absolute value over 448, or one for a zero row. -/
def scale {n : Nat} (f : Fin n → EReal) : EReal :=
  if rowMax f = 0 then 1 else Ideal.div (rowMax f) (Ideal.ofBits .f32 0x43E00000#32)

/-- The code at a place of a row: the value over the row's scale, cut to the range of the format. -/
def code {n : Nat} (f : Fin n → EReal) (q : Fin n) : EReal :=
  min (Ideal.ofBits .f32 0x43E00000#32) (max (Ideal.ofBits .f32 0xC3E00000#32) (Ideal.div (f q) (scale f)))

/-- Row `r` of the attention. -/
def att (a0 : Vec Ideal ⟨3, ![3, 512, 1024]⟩ .f32) (r : Fin 1536) : Fin 1024 → EReal :=
  fun k => a0 (ix3 ⟨r.val / 512, by omega⟩ ⟨r.val % 512, by omega⟩ k)

/-- The row attends to no tile: its last tile, cut at the number of tiles there are, is at or below its first. -/
def empty (a2 : Vec Ideal ⟨1, ![3]⟩ .i32) (a3 a4 : Vec Ideal ⟨2, ![3, 512]⟩ .i32) (a : Fin 3) (b : Fin 512) : BitVec 1 :=
  IntOp.cmpi .sle (IntOp.minsi (a4 (ix2 a b)) (a2 (ix1 a))) (a3 (ix2 a b))

section
variable (a0 : Vec Ideal ⟨3, ![3, 512, 1024]⟩ .f32) (a1 : Vec Ideal ⟨3, ![3, 512, 4096]⟩ .bf16) (a2 : Vec Ideal ⟨1, ![3]⟩ .i32)
    (a3 a4 : Vec Ideal ⟨2, ![3, 512]⟩ .i32) (a5 : Vec Ideal ⟨2, ![1024, 4096]⟩ .fp8e4m3) (a6 : Vec Ideal ⟨1, ![4096]⟩ .f32)
    (a7 : Vec Ideal ⟨1, ![1]⟩ .f32) (a8 : Vec Ideal ⟨1, ![4096]⟩ .f32)

/-- Row `r` of the residual: the input plus the gate times the projection of the attention's codes. -/
def res (r : Fin 1536) (n : Fin 4096) : EReal :=
  (a1 (ix3 ⟨r.val / 512, by omega⟩ ⟨r.val % 512, by omega⟩ n) : EReal) + (Host.tanh (F := Ideal) (φ := .f32) a7 (ix1 0) : EReal)
    * ((∑ k : Fin 1024, code (att a0 r) k * (a5 (ix2 k n) : EReal)) * scale (att a0 r) * (a6 (ix1 n) : EReal))

/-- Row `r` of the second norm: zero if the row attends to no tile. -/
def y (r : Fin 1536) (n : Fin 4096) : EReal :=
  if empty a2 a3 a4 ⟨r.val / 512, by omega⟩ ⟨r.val % 512, by omega⟩ = 1#1 then 0
  else rms (res a0 a1 a5 a6 a7 r) (fun k : Fin 4096 => a8 (ix1 k)) n

/-- The codes of the attention. -/
def AC : Vec Ideal ⟨2, ![1536, 1024]⟩ .fp8e4m3 :=
  fun j => show EReal from code (att a0 (j 0)) (j 1)

/-- Their scales: position `(a, b)` is the scale of row `512 a + b`. -/
def AS : Vec Ideal ⟨2, ![3, 512]⟩ .f32 :=
  fun j => show EReal from scale (att a0 ⟨(j 0).val * 512 + (j 1).val, by
    have h0 := (j 0).isLt; have h1 := (j 1).isLt; simp at h0 h1; omega⟩)

/-- The residual. -/
def H : Vec Ideal ⟨2, ![1536, 4096]⟩ .f32 :=
  fun j => show EReal from res a0 a1 a5 a6 a7 (j 0) (j 1)

/-- The codes of the second norm. -/
def YC : Vec Ideal ⟨2, ![1536, 4096]⟩ .fp8e4m3 :=
  fun j => show EReal from code (y a0 a1 a2 a3 a4 a5 a6 a7 a8 (j 0)) (j 1)

/-- Their scales. -/
def YS : Vec Ideal ⟨2, ![3, 512]⟩ .f32 :=
  fun j => show EReal from scale (y a0 a1 a2 a3 a4 a5 a6 a7 a8 ⟨(j 0).val * 512 + (j 1).val, by
    have h0 := (j 0).isLt; have h1 := (j 1).isLt; simp at h0 h1; omega⟩)
end

end Cert.Proof.OProjSpec

end
-- ==== Proof.OProjRef.lean ====
/- Hand-written, untrusted: the RUN OF THE REFERENCE with its values. The reference is one kernel without a grid: its one
   block per array is the whole array, so each result is a payload of the whole arrays, read at an index as the formula of
   the specification (`acodes_eq`, `ascales_eq`, `res_eq`, `ycodes_eq`, `yscales_eq`). -/
module

public import proofs.«01_k».proof.Proof.Gen.OProjReferenceIdeal.Value
public import proofs.«01_k».proof.Proof.OProjSpec

@[expose] public section

noncomputable section

namespace Cert.Proof.OProjRef

open Cert.OProjReferenceIdeal Cert.OProjReferenceIdeal.Gen Cert.OProjReferenceIdeal.Value
open Idealize.ShloMosaic Idealize.ShloMosaic.TcCoe Idealize.SL.Sem

/-! ## The payloads, read at an index -/

/-- The scale from the largest absolute value. -/
def sel (M : FVec Ideal S3x512 .f32) : FVec Ideal S3x512 .f32 :=
  select (cmpf .oeq M (broadcast S3x512 (Scalar.ofBits .f32 0x00000000#32))) (broadcast S3x512 (Scalar.ofBits .f32 0x3F800000#32))
    (divf M (broadcast S3x512 (Scalar.ofBits .f32 0x43E00000#32)))
theorem sel_apply (M : FVec Ideal S3x512 .f32) (a : Fin 3) (b : Fin 512) :
    sel M (ix2 a b) = if M (ix2 a b) = (0 : EReal) then (1 : EReal) else Ideal.div (M (ix2 a b)) (Ideal.ofBits .f32 0x43E00000#32) := by
  pointwise [sel]

/-- The largest absolute value over the last axis. -/
theorem amax_apply (A : FVec Ideal S3x512x1024 .f32) (a : Fin 3) (b : Fin 512) :
    multiReduction .maximumf [2] S3x512 (absf A) 0xFF800000#32 reduces_S3x512x1024_S3x512 (.inl rfl) rfl (ix2 a b)
      = OProjSpec.rowMax (fun q => A (ix3 a b q)) := by
  unfold OProjSpec.rowMax
  pointwise
theorem ymax_apply (A : FVec Ideal S3x512x4096 .f32) (a : Fin 3) (b : Fin 512) :
    multiReduction .maximumf [2] S3x512 (absf A) 0xFF800000#32 reduces_S3x512x4096_S3x512 (.inl rfl) rfl (ix2 a b)
      = OProjSpec.rowMax (fun q => A (ix3 a b q)) := by
  unfold OProjSpec.rowMax
  pointwise

theorem pay2_eq (v0 : Vec Ideal S3x512x1024 .f32) :
    k0_pay2 v0 = sel (multiReduction .maximumf [2] S3x512 (absf v0) 0xFF800000#32 reduces_S3x512x1024_S3x512 (.inl rfl) rfl) := rfl
/-- The scales of the attention. -/
theorem pay2_apply (v0 : Vec Ideal S3x512x1024 .f32) (a : Fin 3) (b : Fin 512) :
    k0_pay2 v0 (ix2 a b) = OProjSpec.scale (fun q => v0 (ix3 a b q)) := by
  rw [pay2_eq, sel_apply, amax_apply]; rfl

/-- A value over its row's scale, cut to the range of the format. -/
def aclip (A : FVec Ideal S3x512x1024 .f32) (s : FVec Ideal S3x512 .f32) : FVec Ideal S1536x1024 .fp8e4m3 :=
  shapeCast S1536x1024 (truncf .fp8e4m3 (minimumf (broadcast S3x512x1024 (Scalar.ofBits .f32 0x43E00000#32))
    (maximumf (broadcast S3x512x1024 (Scalar.ofBits .f32 0xC3E00000#32))
      (divf A (broadcastTo S3x512x1024 (shapeCast S3x512x1 s shapeCasts_S3x512_S3x512x1) broadcasts_S3x512x1_S3x512x1024)))) bitsLt_fp8e4m3_f32)
    shapeCasts_S3x512x1024_S1536x1024
theorem pay3_eq (v0 : Vec Ideal S3x512x1024 .f32) : k0_pay3 v0 = aclip v0 (k0_pay2 v0) := rfl
theorem aclip_apply (A : FVec Ideal S3x512x1024 .f32) (s : FVec Ideal S3x512 .f32) (r : Fin 1536) (q : Fin 1024) :
    aclip A s (ix2 r q)
      = min (Ideal.ofBits .f32 0x43E00000#32) (max (Ideal.ofBits .f32 0xC3E00000#32)
          (Ideal.div (A (ix3 ⟨r.val / 512, by omega⟩ ⟨r.val % 512, by omega⟩ q)) (s (ix2 ⟨r.val / 512, by omega⟩ ⟨r.val % 512, by omega⟩)))) := by
  pointwise [aclip]
/-- The codes of the attention. -/
theorem pay3_apply (v0 : Vec Ideal S3x512x1024 .f32) (r : Fin 1536) (q : Fin 1024) :
    k0_pay3 v0 (ix2 r q) = OProjSpec.code (OProjSpec.att v0 r) q := by
  rw [pay3_eq, aclip_apply, pay2_apply]; rfl

/-- The same of the second norm. -/
theorem pay1_apply (A : FVec Ideal S3x512x4096 .f32) (r : Fin 1536) (q : Fin 4096) :
    k0_pay1 A (ix2 r q)
      = min (Ideal.ofBits .f32 0x43E00000#32) (max (Ideal.ofBits .f32 0xC3E00000#32)
          (A (ix3 ⟨r.val / 512, by omega⟩ ⟨r.val % 512, by omega⟩ q))) := by
  pointwise [k0_pay1]
/-- A value over its row's scale. -/
def quot (A : FVec Ideal S3x512x4096 .f32) (s : FVec Ideal S3x512 .f32) : FVec Ideal S3x512x4096 .f32 :=
  divf A (broadcastTo S3x512x4096 (shapeCast S3x512x1 s shapeCasts_S3x512_S3x512x1) broadcasts_S3x512x1_S3x512x4096)
theorem quot_apply (A : FVec Ideal S3x512x4096 .f32) (s : FVec Ideal S3x512 .f32) (a : Fin 3) (b : Fin 512) (q : Fin 4096) :
    quot A s (ix3 a b q) = Ideal.div (A (ix3 a b q)) (s (ix2 a b)) := by
  pointwise [quot]

/-- The projection, of codes `v17` and scales `v8`. -/
def prod (v8 : FVec Ideal S3x512 .f32) (v17 : FVec Ideal S1536x1024 .fp8e4m3) (v20 : FVec Ideal S1024x4096 .fp8e4m3) (v26 : Vec Ideal S1x1x4096 .f32) : FVec Ideal S3x512x4096 .f32 :=
  mulf (mulf (shapeCast S3x512x4096 (matmul dot_S1536x1024_S1024x4096_S1536x4096_1_0_0_1_n_n none v17 v20 (constant S1536x4096 .f32 0x00000000#32)) shapeCasts_S1536x4096_S3x512x4096)
    (broadcastTo S3x512x4096 (shapeCast S3x512x1 v8 shapeCasts_S3x512_S3x512x1) broadcasts_S3x512x1_S3x512x4096))
    (broadcastTo S3x512x4096 (shapeCast S1x1x4096 v26 shapeCasts_S1x1x4096_S1x1x4096) broadcasts_S1x1x4096_S3x512x4096)
theorem pay4_eq (v0 : Vec Ideal S3x512x1024 .f32) (v20 : Vec Ideal S1024x4096 .fp8e4m3) (v26 : Vec Ideal S1x1x4096 .f32) :
    k0_pay4 v0 v20 v26 = prod (k0_pay2 v0) (k0_pay3 v0) v20 v26 := rfl
theorem prod_apply (v8 : FVec Ideal S3x512 .f32) (v17 : FVec Ideal S1536x1024 .fp8e4m3) (v20 : Vec Ideal S1024x4096 .fp8e4m3) (v26 : Vec Ideal S1x1x4096 .f32)
    (a : Fin 3) (b : Fin 512) (n : Fin 4096) :
    prod v8 v17 v20 v26 (ix3 a b n)
      = (∑ x : Fin 1024, (v17 (ix2 ⟨a.val * 512 + b.val, by omega⟩ x) : EReal) * (v20 (ix2 x n) : EReal)) * (v8 (ix2 a b) : EReal) * (v26 (ix3 0 0 n) : EReal) := by
  pointwise [prod]

/-- The residual. -/
theorem pay6_apply (P : FVec Ideal S3x512x4096 .f32) (v30 : Vec Ideal S3x512x4096 .bf16) (v32 : Vec Ideal S1x1x1 .f32) (a : Fin 3) (b : Fin 512) (n : Fin 4096) :
    k0_pay6 P (k0_pay5 v30) v32 (ix3 a b n) = (v30 (ix3 a b n) : EReal) + (v32 (ix3 0 0 0) : EReal) * (P (ix3 a b n) : EReal) := by
  pointwise [k0_pay6, k0_pay5]
theorem pay7_apply (P X : FVec Ideal S3x512x4096 .f32) (v32 : Vec Ideal S1x1x1 .f32) (r : Fin 1536) (n : Fin 4096) :
    k0_pay7 P X v32 (ix2 r n) = k0_pay6 P X v32 (ix3 ⟨r.val / 512, by omega⟩ ⟨r.val % 512, by omega⟩ n) := by
  pointwise [k0_pay7]

/-- The second norm of a residual `A`. -/
def nrm (A : FVec Ideal S3x512x4096 .f32) (v44 : Vec Ideal S1x1x4096 .f32) : FVec Ideal S3x512x4096 .f32 :=
  mulf (divf A (broadcastTo S3x512x4096 (sqrt (addf (divf (shapeCast S3x512x1 (multiReduction .add [2] S3x512 (mulf A A) 0x00000000#32 reduces_S3x512x4096_S3x512 (.inl rfl) rfl) shapeCasts_S3x512_S3x512x1)
      (broadcast S3x512x1 (Scalar.ofBits .f32 0x45800000#32))) (broadcast S3x512x1 (Scalar.ofBits .f32 0x3727C5AC#32)))) broadcasts_S3x512x1_S3x512x4096))
    (broadcastTo S3x512x4096 (shapeCast S1x1x4096 v44 shapeCasts_S1x1x4096_S1x1x4096) broadcasts_S1x1x4096_S3x512x4096)
theorem nrm_apply (A : FVec Ideal S3x512x4096 .f32) (v44 : Vec Ideal S1x1x4096 .f32) (a : Fin 3) (b : Fin 512) (n : Fin 4096) :
    nrm A v44 (ix3 a b n) = OProjSpec.rms (fun k => A (ix3 a b k)) (fun k => v44 (ix3 0 0 k)) n := by
  unfold OProjSpec.rms
  pointwise [nrm]
/-- Zero where the row attends to no tile. -/
def cut (A : FVec Ideal S3x512x4096 .f32) (v39 v41 : Vec Ideal S3x512x1 .i32) : FVec Ideal S3x512x4096 .f32 :=
  select (broadcastTo S3x512x4096 (shapeCast S3x512x1 (cmpi .sle (shapeCast S3x512x1 v39 shapeCasts_S3x512x1_S3x512x1 : IVec S3x512x1 32) (shapeCast S3x512x1 v41 shapeCasts_S3x512x1_S3x512x1 : IVec S3x512x1 32)) shapeCasts_S3x512x1_S3x512x1) broadcasts_S3x512x1_S3x512x4096)
    (broadcast S3x512x4096 (Scalar.ofBits .f32 0x00000000#32)) A
theorem cut_apply (A : FVec Ideal S3x512x4096 .f32) (v39 v41 : Vec Ideal S3x512x1 .i32) (a : Fin 3) (b : Fin 512) (n : Fin 4096) :
    cut A v39 v41 (ix3 a b n) = if IntOp.cmpi .sle (v39 (ix3 a b 0)) (v41 (ix3 a b 0)) = 1#1 then (0 : EReal) else A (ix3 a b n) := by
  pointwise [cut]
  rfl
theorem pay8_eq (P X : FVec Ideal S3x512x4096 .f32) (v32 : Vec Ideal S1x1x1 .f32) (v39 v41 : Vec Ideal S3x512x1 .i32) (v44 : Vec Ideal S1x1x4096 .f32) :
    k0_pay8 P X v32 v39 v41 v44 = cut (nrm (k0_pay6 P X v32) v44) v39 v41 := rfl
theorem pay9_eq (P X : FVec Ideal S3x512x4096 .f32) (v32 : Vec Ideal S1x1x1 .f32) (v39 v41 : Vec Ideal S3x512x1 .i32) (v44 : Vec Ideal S1x1x4096 .f32) :
    k0_pay9 P X v32 v39 v41 v44 = sel (multiReduction .maximumf [2] S3x512 (absf (k0_pay8 P X v32 v39 v41 v44)) 0xFF800000#32 reduces_S3x512x4096_S3x512 (.inl rfl) rfl) := rfl
theorem pay10_eq (P X : FVec Ideal S3x512x4096 .f32) (v32 : Vec Ideal S1x1x1 .f32) (v39 v41 : Vec Ideal S3x512x1 .i32) (v44 : Vec Ideal S1x1x4096 .f32) :
    k0_pay10 P X v32 v39 v41 v44 = quot (k0_pay8 P X v32 v39 v41 v44) (k0_pay9 P X v32 v39 v41 v44) := rfl

section
variable (a0 : Vec Ideal S3x512x1024 .f32) (a1 : Vec Ideal S3x512x4096 .bf16) (a2 : Vec Ideal S3 .i32)
    (a3 a4 : Vec Ideal S3x512 .i32) (a5 : Vec Ideal S1024x4096 .fp8e4m3) (a6 : Vec Ideal S4096 .f32)
    (a7 : Vec Ideal S1 .f32) (a8 : Vec Ideal S4096 .f32)

/-- What the host makes of the arguments. -/
abbrev hi : Vec Ideal S3x512x1 .i32 :=
  broadcastInDim S3x512x1 ![0, 1] bcast_S3x512_S3x512x1_0_1 (minsi a4 (broadcastInDim S3x512 ![0, 1] bcast_S3x1_S3x512_0_1 (broadcastInDim S3x1 ![0] bcast_S3_S3x1_0 a2)))
abbrev lo : Vec Ideal S3x512x1 .i32 := broadcastInDim S3x512x1 ![0, 1] bcast_S3x512_S3x512x1_0_1 a3
abbrev so : Vec Ideal S1x1x4096 .f32 := broadcastInDim S1x1x4096 ![2] bcast_S4096_S1x1x4096_2 a6
abbrev gate : Vec Ideal S1x1x1 .f32 := broadcastInDim S1x1x1 ![2] bcast_S1_S1x1x1_2 (Host.tanh (F := Ideal) (φ := .f32) a7)
theorem so_apply (n : Fin 4096) : (so a6 (ix3 0 0 n) : EReal) = a6 (ix1 n) := by pointwise
theorem gate_apply : (gate a7 (ix3 0 0 0) : EReal) = Host.tanh (F := Ideal) (φ := .f32) a7 (ix1 0) := by
  have h : ∀ v : Vec Ideal S1 .f32, (broadcastInDim S1x1x1 ![2] bcast_S1_S1x1x1_2 v : Vec Ideal S1x1x1 .f32) (ix3 0 0 0) = v (ix1 0) := by
    intro v; pointwise
  exact h _
theorem empty_apply (a : Fin 3) (b : Fin 512) :
    IntOp.cmpi .sle (hi a2 a4 (ix3 a b 0)) (lo a3 (ix3 a b 0)) = OProjSpec.empty a2 a3 a4 a b := by
  pointwise [OProjSpec.empty]

/-- The residual at a row is the specification's. -/
theorem res_apply (a : Fin 3) (b : Fin 512) (n : Fin 4096) :
    k0_pay6 (k0_pay4 a0 a5 (so a6)) (k0_pay5 a1) (gate a7) (ix3 a b n) = OProjSpec.res a0 a1 a5 a6 a7 ⟨a.val * 512 + b.val, by omega⟩ n := by
  have e0 : (a.val * 512 + b.val) / 512 = a.val := by omega
  have e1 : (a.val * 512 + b.val) % 512 = b.val := by omega
  rw [pay6_apply, pay4_eq, prod_apply, pay2_apply, so_apply, gate_apply]
  simp only [pay3_apply]
  unfold OProjSpec.res OProjSpec.att
  simp only [e0, e1]
/-- The second norm at a row is the specification's. -/
theorem y_apply (a : Fin 3) (b : Fin 512) (n : Fin 4096) :
    k0_pay8 (k0_pay4 a0 a5 (so a6)) (k0_pay5 a1) (gate a7) (hi a2 a4) (lo a3) (so a8) (ix3 a b n)
      = OProjSpec.y a0 a1 a2 a3 a4 a5 a6 a7 a8 ⟨a.val * 512 + b.val, by omega⟩ n := by
  have e0 : (a.val * 512 + b.val) / 512 = a.val := by omega
  have e1 : (a.val * 512 + b.val) % 512 = b.val := by omega
  have h : (fun k => (k0_pay6 (k0_pay4 a0 a5 (so a6)) (k0_pay5 a1) (gate a7) (ix3 a b k) : EReal))
      = OProjSpec.res a0 a1 a5 a6 a7 ⟨a.val * 512 + b.val, by omega⟩ := funext fun k => res_apply a0 a1 a5 a6 a7 a b k
  have h' : (fun k => (so a8 (ix3 0 0 k) : EReal)) = fun k => a8 (ix1 k) := funext fun k => so_apply a8 k
  rw [pay8_eq, cut_apply, empty_apply, nrm_apply, h, h']
  unfold OProjSpec.y
  simp only [e0, e1]
theorem yscale_apply (a : Fin 3) (b : Fin 512) :
    k0_pay9 (k0_pay4 a0 a5 (so a6)) (k0_pay5 a1) (gate a7) (hi a2 a4) (lo a3) (so a8) (ix2 a b)
      = OProjSpec.scale (OProjSpec.y a0 a1 a2 a3 a4 a5 a6 a7 a8 ⟨a.val * 512 + b.val, by omega⟩) := by
  have h : (fun q => (k0_pay8 (k0_pay4 a0 a5 (so a6)) (k0_pay5 a1) (gate a7) (hi a2 a4) (lo a3) (so a8) (ix3 a b q) : EReal))
      = OProjSpec.y a0 a1 a2 a3 a4 a5 a6 a7 a8 ⟨a.val * 512 + b.val, by omega⟩ := funext fun q => y_apply a0 a1 a2 a3 a4 a5 a6 a7 a8 a b q
  rw [pay9_eq, sel_apply, ymax_apply, h]; rfl

/-- The five stored arrays are the specification's. -/
theorem acodes_eq : k0_pay3 a0 = OProjSpec.AC a0 := by
  funext j
  obtain ⟨r, q, rfl⟩ : ∃ (r : Fin 1536) (q : Fin 1024), j = ix2 r q := ⟨j 0, j 1, eq_ix2 j⟩
  exact pay3_apply a0 r q
theorem ascales_eq : k0_pay2 a0 = OProjSpec.AS a0 := by
  funext j
  obtain ⟨a, b, rfl⟩ : ∃ (a : Fin 3) (b : Fin 512), j = ix2 a b := ⟨j 0, j 1, eq_ix2 j⟩
  have e0 : (a.val * 512 + b.val) / 512 = a.val := by omega
  have e1 : (a.val * 512 + b.val) % 512 = b.val := by omega
  rw [pay2_apply]
  show _ = OProjSpec.scale (OProjSpec.att a0 ⟨a.val * 512 + b.val, _⟩)
  unfold OProjSpec.att
  simp only [e0, e1]
theorem res_eq : k0_pay7 (k0_pay4 a0 a5 (so a6)) (k0_pay5 a1) (gate a7) = OProjSpec.H a0 a1 a5 a6 a7 := by
  funext j
  obtain ⟨r, q, rfl⟩ : ∃ (r : Fin 1536) (q : Fin 4096), j = ix2 r q := ⟨j 0, j 1, eq_ix2 j⟩
  have e : (⟨(r.val / 512) * 512 + r.val % 512, by omega⟩ : Fin 1536) = r := Fin.ext (by show (r.val / 512) * 512 + r.val % 512 = r.val; omega)
  rw [pay7_apply, res_apply]
  simp only [e]
  rfl
theorem ycodes_eq : k0_pay1 (k0_pay10 (k0_pay4 a0 a5 (so a6)) (k0_pay5 a1) (gate a7) (hi a2 a4) (lo a3) (so a8)) = OProjSpec.YC a0 a1 a2 a3 a4 a5 a6 a7 a8 := by
  funext j
  obtain ⟨r, q, rfl⟩ : ∃ (r : Fin 1536) (q : Fin 4096), j = ix2 r q := ⟨j 0, j 1, eq_ix2 j⟩
  have e : (⟨(r.val / 512) * 512 + r.val % 512, by omega⟩ : Fin 1536) = r := Fin.ext (by show (r.val / 512) * 512 + r.val % 512 = r.val; omega)
  rw [pay1_apply, pay10_eq, quot_apply, y_apply, yscale_apply]
  simp only [e]
  rfl
theorem yscales_eq : k0_pay9 (k0_pay4 a0 a5 (so a6)) (k0_pay5 a1) (gate a7) (hi a2 a4) (lo a3) (so a8) = OProjSpec.YS a0 a1 a2 a3 a4 a5 a6 a7 a8 := by
  funext j
  obtain ⟨a, b, rfl⟩ : ∃ (a : Fin 3) (b : Fin 512), j = ix2 a b := ⟨j 0, j 1, eq_ix2 j⟩
  exact yscale_apply a0 a1 a2 a3 a4 a5 a6 a7 a8 a b
end

variable (m : (ℓ : Loc nD τ sig) → Buf (Elt Ideal) ℓ) (ρ : Dev nD → PrngReg)

/-! ## The arrays and the blocks -/

/-- What the host's lines before the kernel leave in the arrays they make. -/
theorem V_main_v4 (c : Dev nD) : V m c main_v4 = (hi (m ((c : Thread nD τ).loc main_arg2)) (m ((c : Thread nD τ).loc main_arg4)) : Vec Ideal S3x512x1 .i32) := by
  show StableHlo.after hostOps0 _ (Proc.devRef .tc main_v4) = _
  after_results
  try rfl
theorem V_main_v5 (c : Dev nD) : V m c main_v5 = (lo (m ((c : Thread nD τ).loc main_arg3)) : Vec Ideal S3x512x1 .i32) := by
  show StableHlo.after hostOps0 _ (Proc.devRef .tc main_v5) = _
  after_results
  try rfl
theorem V_main_v6 (c : Dev nD) : V m c main_v6 = (so (m ((c : Thread nD τ).loc main_arg6)) : Vec Ideal S1x1x4096 .f32) := by
  show StableHlo.after hostOps0 _ (Proc.devRef .tc main_v6) = _
  after_results
  try rfl
theorem V_main_v7 (c : Dev nD) : V m c main_v7 = (gate (m ((c : Thread nD τ).loc main_arg7)) : Vec Ideal S1x1x1 .f32) := by
  show StableHlo.after hostOps0 _ (Proc.devRef .tc main_v7) = _
  after_results
  try rfl
theorem V_main_v8 (c : Dev nD) : V m c main_v8 = (so (m ((c : Thread nD τ).loc main_arg8)) : Vec Ideal S1x1x4096 .f32) := by
  show StableHlo.after hostOps0 _ (Proc.devRef .tc main_v8) = _
  after_results
  try rfl

theorem hz : (![0, 0] : Fin 2 → Nat) = fun _ => 0 := funext fun a => by fin_cases a <;> rfl
theorem hz3 : (![0, 0, 0] : Fin 3 → Nat) = fun _ => 0 := funext fun a => by fin_cases a <;> rfl

/-- The loads read the whole buffers and each store writes a whole buffer. -/
theorem p11_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    k0_pay11 x0 x1 x2 x3 x4 x5 x6 x7 = k0_pay4 x0 x4 x5 := by
  unfold k0_pay11
  rw [View.ld_unit_zero hz3, View.ld_unit_zero hz, View.ld_unit_zero hz3]
theorem p12_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    k0_pay12 x0 x1 x2 x3 x4 x5 x6 x7 = k0_pay5 x1 := by
  unfold k0_pay12
  rw [View.ld_unit_zero hz3]
theorem out8_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    out0_8 x0 x1 x2 x3 x4 x5 x6 x7 = k0_pay3 x0 := by
  unfold out0_8
  rw [View.canon_unit_zero hz]
  rw [View.ld_unit_zero hz3]
theorem out9_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    out0_9 x0 x1 x2 x3 x4 x5 x6 x7 = k0_pay2 x0 := by
  unfold out0_9
  rw [View.canon_unit_zero hz]
  rw [View.ld_unit_zero hz3]
theorem out10_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    out0_10 x0 x1 x2 x3 x4 x5 x6 x7 = k0_pay7 (k0_pay4 x0 x4 x5) (k0_pay5 x1) x6 := by
  unfold out0_10
  rw [View.canon_unit_zero hz]
  rw [p11_eq, p12_eq, View.ld_unit_zero hz3]
theorem out11_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    out0_11 x0 x1 x2 x3 x4 x5 x6 x7 = k0_pay1 (k0_pay10 (k0_pay4 x0 x4 x5) (k0_pay5 x1) x6 x2 x3 x7) := by
  unfold out0_11
  rw [View.canon_unit_zero hz]
  rw [p11_eq, p12_eq, View.ld_unit_zero hz3, View.ld_unit_zero hz3, View.ld_unit_zero hz3, View.ld_unit_zero hz3]
theorem out12_eq (x0 : Vec Ideal S3x512x1024 .f32) (x1 : Vec Ideal S3x512x4096 .bf16) (x2 : Vec Ideal S3x512x1 .i32) (x3 : Vec Ideal S3x512x1 .i32) (x4 : Vec Ideal S1024x4096 .fp8e4m3) (x5 : Vec Ideal S1x1x4096 .f32) (x6 : Vec Ideal S1x1x1 .f32) (x7 : Vec Ideal S1x1x4096 .f32) :
    out0_12 x0 x1 x2 x3 x4 x5 x6 x7 = k0_pay9 (k0_pay4 x0 x4 x5) (k0_pay5 x1) x6 x2 x3 x7 := by
  unfold out0_12
  rw [View.canon_unit_zero hz]
  rw [p11_eq, p12_eq, View.ld_unit_zero hz3, View.ld_unit_zero hz3, View.ld_unit_zero hz3, View.ld_unit_zero hz3]

/-- At the one point every window's block is its whole array: an index of the block is the same index of the array. -/
theorem emb0 (t : Fin cfg0.N) (j : S3x512x1024.Idx) : ((cfg0.win 0).blk t).view.emb j = j := by
  funext a; apply Fin.ext
  match a with
  | ⟨0, _⟩ => show 0 * 3 + 1 * (j 0).val = (j 0).val; omega
  | ⟨1, _⟩ => show 0 * 512 + 1 * (j 1).val = (j 1).val; omega
  | ⟨2, _⟩ => show 0 * 1024 + 1 * (j 2).val = (j 2).val; omega
theorem emb1 (t : Fin cfg0.N) (j : S3x512x4096.Idx) : ((cfg0.win 1).blk t).view.emb j = j := by
  funext a; apply Fin.ext
  match a with
  | ⟨0, _⟩ => show 0 * 3 + 1 * (j 0).val = (j 0).val; omega
  | ⟨1, _⟩ => show 0 * 512 + 1 * (j 1).val = (j 1).val; omega
  | ⟨2, _⟩ => show 0 * 4096 + 1 * (j 2).val = (j 2).val; omega
theorem emb2 (t : Fin cfg0.N) (j : S3x512x1.Idx) : ((cfg0.win 2).blk t).view.emb j = j := by
  funext a; apply Fin.ext
  match a with
  | ⟨0, _⟩ => show 0 * 3 + 1 * (j 0).val = (j 0).val; omega
  | ⟨1, _⟩ => show 0 * 512 + 1 * (j 1).val = (j 1).val; omega
  | ⟨2, _⟩ => show 0 * 1 + 1 * (j 2).val = (j 2).val; omega
theorem emb3 (t : Fin cfg0.N) (j : S3x512x1.Idx) : ((cfg0.win 3).blk t).view.emb j = j := by
  funext a; apply Fin.ext
  match a with
  | ⟨0, _⟩ => show 0 * 3 + 1 * (j 0).val = (j 0).val; omega
  | ⟨1, _⟩ => show 0 * 512 + 1 * (j 1).val = (j 1).val; omega
  | ⟨2, _⟩ => show 0 * 1 + 1 * (j 2).val = (j 2).val; omega
theorem emb4 (t : Fin cfg0.N) (j : S1024x4096.Idx) : ((cfg0.win 4).blk t).view.emb j = j := by
  funext a; apply Fin.ext
  match a with
  | ⟨0, _⟩ => show 0 * 1024 + 1 * (j 0).val = (j 0).val; omega
  | ⟨1, _⟩ => show 0 * 4096 + 1 * (j 1).val = (j 1).val; omega
theorem emb5 (t : Fin cfg0.N) (j : S1x1x4096.Idx) : ((cfg0.win 5).blk t).view.emb j = j := by
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 4096 + 1 * (j 2).val = (j 2).val; omega
theorem emb6 (t : Fin cfg0.N) (j : S1x1x1.Idx) : ((cfg0.win 6).blk t).view.emb j = j := by
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 1 + 1 * (j 2).val = (j 2).val; omega
theorem emb7 (t : Fin cfg0.N) (j : S1x1x4096.Idx) : ((cfg0.win 7).blk t).view.emb j = j := by
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 4096 + 1 * (j 2).val = (j 2).val; omega
theorem emb8 (t : Fin cfg0.N) (j : S1536x1024.Idx) : ((cfg0.win 8).blk t).view.emb j = j := by
  funext a; apply Fin.ext
  match a with
  | ⟨0, _⟩ => show 0 * 1536 + 1 * (j 0).val = (j 0).val; omega
  | ⟨1, _⟩ => show 0 * 1024 + 1 * (j 1).val = (j 1).val; omega
theorem emb9 (t : Fin cfg0.N) (j : S3x512.Idx) : ((cfg0.win 9).blk t).view.emb j = j := by
  funext a; apply Fin.ext
  match a with
  | ⟨0, _⟩ => show 0 * 3 + 1 * (j 0).val = (j 0).val; omega
  | ⟨1, _⟩ => show 0 * 512 + 1 * (j 1).val = (j 1).val; omega
theorem emb10 (t : Fin cfg0.N) (j : S1536x4096.Idx) : ((cfg0.win 10).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb11 (t : Fin cfg0.N) (j : S1536x4096.Idx) : ((cfg0.win 11).blk t).view.emb j = j := by
  funext a; apply Fin.ext
  match a with
  | ⟨0, _⟩ => show 0 * 1536 + 1 * (j 0).val = (j 0).val; omega
  | ⟨1, _⟩ => show 0 * 4096 + 1 * (j 1).val = (j 1).val; omega
theorem emb12 (t : Fin cfg0.N) (j : S3x512.Idx) : ((cfg0.win 12).blk t).view.emb j = j := by
  funext a; apply Fin.ext
  match a with
  | ⟨0, _⟩ => show 0 * 3 + 1 * (j 0).val = (j 0).val; omega
  | ⟨1, _⟩ => show 0 * 512 + 1 * (j 1).val = (j 1).val; omega

/-- So an input window's block is its array as the kernel finds it. -/
theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_v4 := by
  funext j; show V m c main_v4 (((cfg0.win 2).blk t).view.emb j) = V m c main_v4 j; rw [emb2]
theorem iblk3_eq (c : Dev nD) (t : Fin cfg0.N) : iblk m c 3 t = V m c main_v5 := by
  funext j; show V m c main_v5 (((cfg0.win 3).blk t).view.emb j) = V m c main_v5 j; rw [emb3]
theorem iblk4_eq (c : Dev nD) (t : Fin cfg0.N) : iblk m c 4 t = V m c main_arg5 := by
  funext j; show V m c main_arg5 (((cfg0.win 4).blk t).view.emb j) = V m c main_arg5 j; rw [emb4]
theorem iblk5_eq (c : Dev nD) (t : Fin cfg0.N) : iblk m c 5 t = V m c main_v6 := by
  funext j; show V m c main_v6 (((cfg0.win 5).blk t).view.emb j) = V m c main_v6 j; rw [emb5]
theorem iblk6_eq (c : Dev nD) (t : Fin cfg0.N) : iblk m c 6 t = V m c main_v7 := by
  funext j; show V m c main_v7 (((cfg0.win 6).blk t).view.emb j) = V m c main_v7 j; rw [emb6]
theorem iblk7_eq (c : Dev nD) (t : Fin cfg0.N) : iblk m c 7 t = V m c main_v8 := by
  funext j; show V m c main_v8 (((cfg0.win 7).blk t).view.emb j) = V m c main_v8 j; rw [emb7]

/-- Cutting the block out of `X` and reading `X` through the block give the same. -/
theorem cut8_eq (t : Fin cfg0.N) (X : Vec Ideal S1536x1024 .fp8e4m3) :
    (cfg0.win 8).cut (grid0.coords t) X = ((cfg0.win 8).blk t).view.read (Elt Ideal) X := by
  funext j
  show X j = X (((cfg0.win 8).blk t).view.emb j)
  rw [emb8]
theorem cut9_eq (t : Fin cfg0.N) (X : Vec Ideal S3x512 .f32) :
    (cfg0.win 9).cut (grid0.coords t) X = ((cfg0.win 9).blk t).view.read (Elt Ideal) X := by
  funext j
  show X j = X (((cfg0.win 9).blk t).view.emb j)
  rw [emb9]
theorem cut10_eq (t : Fin cfg0.N) (X : Vec Ideal S1536x4096 .f32) :
    (cfg0.win 10).cut (grid0.coords t) X = ((cfg0.win 10).blk t).view.read (Elt Ideal) X := by
  funext j
  show X j = X (((cfg0.win 10).blk t).view.emb j)
  rw [emb10]
theorem cut11_eq (t : Fin cfg0.N) (X : Vec Ideal S1536x4096 .fp8e4m3) :
    (cfg0.win 11).cut (grid0.coords t) X = ((cfg0.win 11).blk t).view.read (Elt Ideal) X := by
  funext j
  show X j = X (((cfg0.win 11).blk t).view.emb j)
  rw [emb11]
theorem cut12_eq (t : Fin cfg0.N) (X : Vec Ideal S3x512 .f32) :
    (cfg0.win 12).cut (grid0.coords t) X = ((cfg0.win 12).blk t).view.read (Elt Ideal) X := by
  funext j
  show X j = X (((cfg0.win 12).blk t).view.emb j)
  rw [emb12]

/-- The five results of device `c`'s run as the formulas of its argument arrays. -/
abbrev RAC (c : Dev nD) : Vec Ideal S1536x1024 .fp8e4m3 := OProjSpec.AC (m ((c : Thread nD τ).loc main_arg0))
abbrev RAS (c : Dev nD) : Vec Ideal S3x512 .f32 := OProjSpec.AS (m ((c : Thread nD τ).loc main_arg0))
abbrev RH (c : Dev nD) : Vec Ideal S1536x4096 .f32 := OProjSpec.H (m ((c : Thread nD τ).loc main_arg0)) (m ((c : Thread nD τ).loc main_arg1)) (m ((c : Thread nD τ).loc main_arg5)) (m ((c : Thread nD τ).loc main_arg6)) (m ((c : Thread nD τ).loc main_arg7))
abbrev RYC (c : Dev nD) : Vec Ideal S1536x4096 .fp8e4m3 := OProjSpec.YC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev RYS (c : Dev nD) : Vec Ideal S3x512 .f32 := OProjSpec.YS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What the one point writes back is its block of the formula. -/
theorem flushed8_eq (c : Dev nD) (t : Fin cfg0.N) :
    (dats m 0 c).flushed 8 t = ((cfg0.win 8).blk t).view.read (Elt Ideal) (RAC m c) := by
  rw [flushed8, out8_eq, iblk0_eq, V_main_arg0, acodes_eq]
  exact cut8_eq t _
theorem flushed9_eq (c : Dev nD) (t : Fin cfg0.N) :
    (dats m 0 c).flushed 9 t = ((cfg0.win 9).blk t).view.read (Elt Ideal) (RAS m c) := by
  rw [flushed9, out9_eq, iblk0_eq, V_main_arg0, ascales_eq]
  exact cut9_eq t _
theorem flushed10_eq (c : Dev nD) (t : Fin cfg0.N) :
    (dats m 0 c).flushed 10 t = ((cfg0.win 10).blk t).view.read (Elt Ideal) (RH m c) := by
  rw [flushed10, out10_eq, iblk0_eq, iblk1_eq, iblk4_eq, iblk5_eq, iblk6_eq, V_main_arg0, V_main_arg1, V_main_arg5, V_main_v6, V_main_v7, res_eq]
  exact cut10_eq t _
theorem flushed11_eq (c : Dev nD) (t : Fin cfg0.N) :
    (dats m 0 c).flushed 11 t = ((cfg0.win 11).blk t).view.read (Elt Ideal) (RYC m c) := by
  rw [flushed11, out11_eq, iblk0_eq, iblk1_eq, iblk2_eq, iblk3_eq, iblk4_eq, iblk5_eq, iblk6_eq, iblk7_eq, V_main_arg0, V_main_arg1, V_main_v4, V_main_v5, V_main_arg5, V_main_v6, V_main_v7, V_main_v8, ycodes_eq]
  exact cut11_eq t _
theorem flushed12_eq (c : Dev nD) (t : Fin cfg0.N) :
    (dats m 0 c).flushed 12 t = ((cfg0.win 12).blk t).view.read (Elt Ideal) (RYS m c) := by
  rw [flushed12, out12_eq, iblk0_eq, iblk1_eq, iblk2_eq, iblk3_eq, iblk4_eq, iblk5_eq, iblk6_eq, iblk7_eq, V_main_arg0, V_main_arg1, V_main_v4, V_main_v5, V_main_arg5, V_main_v6, V_main_v7, V_main_v8, yscales_eq]
  exact cut12_eq t _

/-- Every index of a result array is in the one block. -/
theorem covered8 (i : S1536x1024.Idx) :
    ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩
theorem covered9 (i : S3x512.Idx) :
    ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩
theorem covered10 (i : S1536x4096.Idx) :
    ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩
theorem covered11 (i : S1536x4096.Idx) :
    ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩
theorem covered12 (i : S3x512.Idx) :
    ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

/-- The result arrays after the run are the formulas of the arguments as launched. -/
theorem final8 (c : Dev nD) : (dats m 0 c).arrAt 8 cfg0.N = RAC m c :=
  (dats m 0 c).arrAt_eq_of_cover 8 (RAC m c) (fun t _ => flushed8_eq m c t) covered8
theorem final9 (c : Dev nD) : (dats m 0 c).arrAt 9 cfg0.N = RAS m c :=
  (dats m 0 c).arrAt_eq_of_cover 9 (RAS m c) (fun t _ => flushed9_eq m c t) covered9
theorem final10 (c : Dev nD) : (dats m 0 c).arrAt 10 cfg0.N = RH m c :=
  (dats m 0 c).arrAt_eq_of_cover 10 (RH m c) (fun t _ => flushed10_eq m c t) covered10
theorem final11 (c : Dev nD) : (dats m 0 c).arrAt 11 cfg0.N = RYC m c :=
  (dats m 0 c).arrAt_eq_of_cover 11 (RYC m c) (fun t _ => flushed11_eq m c t) covered11
theorem final12 (c : Dev nD) : (dats m 0 c).arrAt 12 cfg0.N = RYS m c :=
  (dats m 0 c).arrAt_eq_of_cover 12 (RYS m c) (fun t _ => flushed12_eq m c t) covered12

end Cert.Proof.OProjRef

end
-- ==== Proof.OProjIdealRun.lean ====
/-
  The run of the output projection's kernel at any float instance: the body's triple, the proof data and the frame.

  Ten windows are exact: seven inputs stay at their blocks, and windows 7 (the codes of the attention), 9 (the residual)
  and 10 (the codes of the second norm) end at what the body stores. Windows 8 and 11 are the two arrays of scales. Each
  stays in its buffer over the whole grid while each point stores one row piece at an offset depending on the point; of
  each the proof says, at each point, that every piece stored so far is still in place. At the last point that names
  every element.
-/
module

public import proofs.«01_k».proof.Proof.Gen.OProjIdeal.Frame
public import proofs.«01_k».proof.Proof.Gen.OProjIdeal.Skeleton
public import Idealize.ShloMosaic.Lib.Pipeline.DatRel
public import Idealize.ShloMosaic.Lib.Pipeline.Cells

@[expose] public section

set_option maxRecDepth 16384

noncomputable section

namespace Cert.Proof.OProjIdealRun

open Cert.OProjIdeal Cert.OProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x1024 := Rect.unit (s := S256x1024) ![0, 0] S256x1024.size inb_S256x1024_S256x1024_0_0
abbrev r0_1 : Rect S256x4096 := Rect.unit (s := S256x4096) ![0, 0] S256x4096.size inb_S256x4096_S256x4096_0_0
abbrev r0_2 : Rect S1024x4096 := Rect.unit (s := S1024x4096) ![0, 0] S1024x4096.size inb_S1024x4096_S1024x4096_0_0
abbrev r0_3 : Rect S1x4096 := Rect.unit (s := S1x4096) ![0, 0] S1x4096.size inb_S1x4096_S1x4096_0_0
abbrev r0_4 : Rect S1x1 := Rect.unit (s := S1x1) ![0, 0] S1x1.size inb_S1x1_S1x1_0_0
/-- The two halves of a block's row of flags. -/
abbrev r0_6a : Rect S1x1x256 := Rect.unit (s := S1x1x256) ![0, 0, 0] S1x1x128.size inb_S1x1x256_S1x1x128_0_0_0
abbrev r0_6b : Rect S1x1x256 := Rect.unit (s := S1x1x256) ![0, 0, 128] S1x1x128.size inb_S1x1x256_S1x1x128_0_0_128
/-- Where the scales of a point go. -/
abbrev rs (i : grid0.Coords) : Rect S3x512 := Rect.unit (s := S3x512) (k0_off1 i) S1x256.size (k0_off1_inb i)

/-! ## What the body stores -/

/-- The scales of a block of the attention, as a column. -/
abbrev colB (x0 : Vec F S256x1024 .f32) : FVec F S256x1 .f32 := k0_pay2 (View.ld x0 r0_0)
/-- The codes of a block of the attention. -/
abbrev codesB (x0 : Vec F S256x1024 .f32) : FVec F S256x1024 .fp8e4m3 := k0_pay3 (View.ld x0 r0_0)
/-- The row piece of scales of a block of the attention. -/
def scalesB (x0 : Vec F S256x1024 .f32) : FVec F S1x256 .f32 := k0_pay6 (k0_pay4 (View.ld x0 r0_0)) (k0_pay5 (View.ld x0 r0_0))
/-- The residual of a block. -/
abbrev hB (x0 : Vec F S256x1024 .f32) (x1 : Vec F S256x4096 .bf16) (x2 : Vec F S1024x4096 .fp8e4m3) (x3 : Vec F S1x4096 .f32) (x4 : Vec F S1x1 .f32) : FVec F S256x4096 .f32 :=
  k0_pay7 (colB x0) (codesB x0) (View.ld x2 r0_2) (View.ld x3 r0_3) (View.ld x1 r0_1) (View.ld x4 r0_4)
/-- The codes of the second norm of a block. -/
abbrev ycodesB (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : FVec F S256x4096 .fp8e4m3 :=
  k0_pay11 (k0_pay10 (hB x0 x1 x2 x3 x4) (View.ld x6 r0_6a) (View.ld x6 r0_6b) (View.ld x5 r0_3)) (Scalar.ofBits .f32 0xC3E00000#32)
/-- The row piece of scales of the second norm of a block. -/
def yscalesB (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : FVec F S1x256 .f32 :=
  k0_pay12 (k0_pay9 (hB x0 x1 x2 x3 x4) (View.ld x6 r0_6a) (View.ld x6 r0_6b) (View.ld x5 r0_3))

/-- The exact output windows' staging buffers after the body, from the input windows' blocks. -/
def out0_7 (x0 : Vec F S256x1024 .f32) : Vec F S256x1024 .fp8e4m3 := View.canon [⟨r0_0, codesB x0⟩]
def out0_9 (x0 : Vec F S256x1024 .f32) (x1 : Vec F S256x4096 .bf16) (x2 : Vec F S1024x4096 .fp8e4m3) (x3 : Vec F S1x4096 .f32) (x4 : Vec F S1x1 .f32) : Vec F S256x4096 .f32 := View.canon [⟨r0_1, hB x0 x1 x2 x3 x4⟩]
def out0_10 (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : Vec F S256x4096 .fp8e4m3 := View.canon [⟨r0_1, ycodesB x0 x1 x2 x3 x4 x5 x6⟩]

/-- The stores cover the buffers. -/
theorem cover0_7 (p0 : Vec F S256x1024 .fp8e4m3) (y : S256x1024.Idx) :
    ∃ pc ∈ ([⟨r0_0, p0⟩] : List (View.Piece (Elt F) S256x1024 .fp8e4m3)), y ∈ pc.1.set :=
  View.cover_of_tiled [⟨r0_0, p0⟩] S256x1024.size (by rfl) y
theorem cover0_9 (p0 : Vec F S256x4096 .f32) (y : S256x4096.Idx) :
    ∃ pc ∈ ([⟨r0_1, p0⟩] : List (View.Piece (Elt F) S256x4096 .f32)), y ∈ pc.1.set :=
  View.cover_of_tiled [⟨r0_1, p0⟩] S256x4096.size (by rfl) y
theorem cover0_10 (p0 : Vec F S256x4096 .fp8e4m3) (y : S256x4096.Idx) :
    ∃ pc ∈ ([⟨r0_1, p0⟩] : List (View.Piece (Elt F) S256x4096 .fp8e4m3)), y ∈ pc.1.set :=
  View.cover_of_tiled [⟨r0_1, p0⟩] S256x4096.size (by rfl) y

/-- A scales' buffer found at `Y` and left at `X`: the piece at point `i` is `w`, the rest is as found. -/
def Put (i : grid0.Coords) (w : Vec F S1x256 .f32) (Y X : Vec F S3x512 .f32) : Prop :=
  (∀ x : (rs i).shape.Idx, X ((rs i).emb x) = w x) ∧ ∀ y, y ∉ (rs i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨rs i, w⟩])) := by
  constructor
  · intro x; rw [View.read_writes_cons_emb]
  · intro y hy
    have hy' : y ∉ Finset.univ.map (rs i).emb := by rwa [Rect.map_emb_univ]
    rw [View.writes_cons, View.read_slice_write_of_not_mem (rs i) _ _ _ hy']; rfl

/-! ## The body's triple -/

set_option maxHeartbeats 4000000 in
/-- The kernel body on whole staging buffers: inputs kept, three outputs stored whole, of the scales one piece each. -/
theorem sound_kernel (c : Dev nD) (E : Set ℕ) (i : grid0.Coords) (arg1 : Memref sig .tc .vmem S256x1024 .f32) (harg1 : arg1.IsWhole) (arg2 : Memref sig .tc .vmem S256x4096 .bf16) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1x256 .f32) (harg7 : arg7.IsWhole) (arg8 : Memref sig .tc .vmem S256x1024 .fp8e4m3) (harg8 : arg8.IsWhole) (arg9 : Memref sig .tc .vmem S3x512 .f32) (harg9 : arg9.IsWhole) (arg10 : Memref sig .tc .vmem S256x4096 .f32) (harg10 : arg10.IsWhole) (arg11 : Memref sig .tc .vmem S256x4096 .fp8e4m3) (harg11 : arg11.IsWhole) (arg12 : Memref sig .tc .vmem S3x512 .f32) (harg12 : arg12.IsWhole)
    (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) (Y8 Y11 : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare Y8 ∗ (∃ d, owns (c : Thread nD τ) arg10 fullShare d) ∗ (∃ d, owns (c : Thread nD τ) arg11 fullShare d) ∗ owns (c : Thread nD τ) arg12 fullShare Y11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0) ∗ (∃ X, ⌜Put i (scalesB x0) Y8 X⌝ ∗ owns (c : Thread nD τ) arg9 fullShare X) ∗ owns (c : Thread nD τ) arg10 fullShare (out0_9 x0 x1 x2 x3 x4) ∗ owns (c : Thread nD τ) arg11 fullShare (out0_10 x0 x1 x2 x3 x4 x5 x6) ∗ (∃ X, ⌜Put i (yscalesB x0 x1 x2 x3 x4 x5 x6) Y11 X⌝ ∗ owns (c : Thread nD τ) arg12 fullShare X)) -∗ K ⟨⟩))
      ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K := by
  simp only [cc0_o_proj_eq_skeleton]; unfold cc0_o_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, Hk⟩
  subst hf0 hf1 hf2 hf3 hf4 hf5 hf6 hf8 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _
    isplitr
    swap
    · iexists _; isplitr
      swap; · iexact H8
      ipureintro; rfl
    ipureintro
    exact put_write i _ _ _
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _
  isplitr
  swap
  · iexists _; isplitr
    swap; · iexact H11
    ipureintro; rfl
  ipureintro
  exact put_write i _ _ _

/-! ## The pipeline's proof data -/

/-- The proof data: the arrays as the region finds them, each input's buffer at its block, the exact outputs' buffers at
    what the body stores; of the scales' buffers the entries here are not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t)
    | ⟨8, _⟩ => fun _ => Scalar.ofBits .f32 0x00000000#32
    | ⟨9, _⟩ => out0_9 (iblk m c 0 t) (iblk m c 1 t) (iblk m c 2 t) (iblk m c 3 t) (iblk m c 4 t)
    | ⟨10, _⟩ => out0_10 (iblk m c 0 t) (iblk m c 1 t) (iblk m c 2 t) (iblk m c 3 t) (iblk m c 4 t) (iblk m c 5 t) (iblk m c 6 t)
    | ⟨11, _⟩ => fun _ => Scalar.ofBits .f32 0x00000000#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## What is known of the scales' buffers -/

/-- The row pieces of scales stored at point `s`. -/
def rowAt8 (c : Dev nD) (s : Fin cfg0.N) : Vec F S1x256 .f32 := scalesB (iblk m c 0 s)
def rowAt11 (c : Dev nD) (s : Fin cfg0.N) : Vec F S1x256 .f32 := yscalesB (iblk m c 0 s) (iblk m c 1 s) (iblk m c 2 s) (iblk m c 3 s) (iblk m c 4 s) (iblk m c 5 s) (iblk m c 6 s)

/-- After point `t` every piece of `row` stored so far is in place. -/
def Known (row : Fin cfg0.N → Vec F S1x256 .f32) (t : Fin cfg0.N) (X : Vec F S3x512 .f32) : Prop :=
  ∀ s : Fin cfg0.N, s.val ≤ t.val → ∀ x : (rs (grid0.coords s)).shape.Idx, X ((rs (grid0.coords s)).emb x) = row s x

/-- Only the scales' windows are held to a predicate. -/
def fgt (w : Fin cfg0.W) : Bool := match w with
  | ⟨8, _⟩ => true
  | ⟨11, _⟩ => true
  | _ => false

/-- The predicate, window by window. -/
def Rl (c : Dev nD) (w : Fin cfg0.W) (t : Fin cfg0.N) : ((cfg0.win w).block.Idx → Elt F (cfg0.win w).elt) → Prop := match w with
  | ⟨8, _⟩ => fun X => Known (rowAt8 m c) t X
  | ⟨11, _⟩ => fun X => Known (rowAt11 m c) t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (rs (grid0.coords s)).shape.Idx) : (rs (grid0.coords s)).emb x ∉ (rs (grid0.coords t)).set := by
  intro hm
  obtain ⟨a, ha⟩ := off_sep s t h
  have h1 := Rect.mem_set_unit.mp hm a
  have h2 := Rect.mem_set_unit.mp (show (rs (grid0.coords s)).emb x ∈ (rs (grid0.coords s)).set from (rs (grid0.coords s)).idx_mem x) a
  omega

theorem fetch8 : ∀ t : Fin cfg0.N, (cfg0.win 8).fetch t = false := by
  intro t; rfl

/-- The buffer found at point `t` has the earlier pieces in place; storing one more gives `Known` at `t`. -/
theorem known_step8 (c : Dev nD) (t : Fin cfg0.N) (Y X : Vec F S3x512 .f32)
    (hY : ((dats m 0 c).toRRel fgt (Rl m c)).Finds 8 t Y) (hX : Put (grid0.coords t) (rowAt8 m c t) Y X) : Known (rowAt8 m c) t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch8 t) ht Y).mp hY with hf | hl
    · exfalso
      have := (flush0_8 _).mp hf
      have htN : t.val < 6 := t.isLt
      simp only at this
      omega
    · have hk : Known (rowAt8 m c) _ Y := Dat.toRRel_leaves (dats m 0 c) (fgt := fgt) (Rl := Rl m c) (w := 8) rfl hl
      exact hk s (by show s.val ≤ t.val - 1; omega) x

theorem fetch11 : ∀ t : Fin cfg0.N, (cfg0.win 11).fetch t = false := by
  intro t; rfl

/-- The buffer found at point `t` has the earlier pieces in place; storing one more gives `Known` at `t`. -/
theorem known_step11 (c : Dev nD) (t : Fin cfg0.N) (Y X : Vec F S3x512 .f32)
    (hY : ((dats m 0 c).toRRel fgt (Rl m c)).Finds 11 t Y) (hX : Put (grid0.coords t) (rowAt11 m c t) Y X) : Known (rowAt11 m c) t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch11 t) ht Y).mp hY with hf | hl
    · exfalso
      have := (flush0_11 _).mp hf
      have htN : t.val < 6 := t.isLt
      simp only at this
      omega
    · have hk : Known (rowAt11 m c) _ Y := Dat.toRRel_leaves (dats m 0 c) (fgt := fgt) (Rl := Rl m c) (w := 11) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜((dats m 0 c).toRRel fgt (Rl m c)).Finds 8 t Y⌝ ∗ owns (c : Thread nD τ) (st0_8 t) fullShare Y)
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜((dats m 0 c).toRRel fgt (Rl m c)).Finds 11 t Y⌝ ∗ owns (c : Thread nD τ) (st0_11 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜Rl m c 8 t X⌝ ∗ owns (c : Thread nD τ) (st0_8 t) fullShare X)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩, ⟨%Y11, %hY11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y8 Y11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexact H11
  iintro ⟨H0, H1, H2, H3, H4, H5, H6, H7, ⟨%X8, %hX8, H8⟩, H9, H10, ⟨%X11, %hX11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists X8; isplitr
    · ipureintro; exact known_step8 m c t Y8 X8 hY8 hX8
    iexact H8
  isplitl [H9]; · iexact H9
  isplitl [H10]; · iexact H10
  iexists X11; isplitr
  · ipureintro; exact known_step11 m c t Y11 X11 hY11 hX11
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The arguments after the run. -/
theorem kept (c : Dev nD) (r) (h : Pipeline.RDat.FramePost cfg0 (rdats m) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((A_eq' m c 2).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hh => ⟨fun c => kept m c r hh.1, hh.2⟩) (run_main_quiescent m ρ)

end Cert.Proof.OProjIdealRun

end
-- ==== Proof.OProjKernel.lean ====
/- Hand-written, untrusted: the RUN OF THE KERNEL with its values. Grid point `t` works on rows `256 t` to `256 t + 255`: the
   blocks it reads are those rows of the attention and of the input, and those rows' flags; what it stores in the three
   row-blocked results and in its row pieces of the two arrays of scales is the specification at those rows. The blocks
   cover their arrays (`final7`, `final9`, `final10`); the row pieces cover the arrays of scales (`scales_final8`,
   `scales_final11`). -/
module

public import proofs.«01_k».proof.Proof.OProjIdealRun
public import proofs.«01_k».proof.Proof.OProjSpec

@[expose] public section

noncomputable section

namespace Cert.Proof.OProjKernel

open Cert.OProjIdeal Cert.OProjIdeal.Gen Cert.Proof.OProjIdealRun
open Idealize.ShloMosaic Idealize.ShloMosaic.TcCoe Idealize.SL.Sem
open Idealize.ShloMosaic.Pipeline (Dat RDat Cfg)

theorem hz : (![0, 0] : Fin 2 → Nat) = fun _ => 0 := funext fun a => by fin_cases a <;> rfl

/-! ## The payloads, read at an index -/

/-- The largest absolute value of a row. -/
theorem amax_apply (A : FVec Ideal S256x1024 .f32) (p : Fin 256) :
    (shapeCast S256x1 (multiReduction .maximumf [1] S256 (absf A) 0xFF800000#32 reduces_S256x1024_S256 (.inl rfl) rfl) shapeCasts_S256_S256x1
      : FVec Ideal S256x1 .f32) (ix2 p 0) = OProjSpec.rowMax (fun q => A (ix2 p q)) := by
  unfold OProjSpec.rowMax
  pointwise
theorem ymax_apply (A : FVec Ideal S256x4096 .f32) (p : Fin 256) :
    (shapeCast S256x1 (multiReduction .maximumf [1] S256 (absf A) 0xFF800000#32 reduces_S256x4096_S256 (.inl rfl) rfl) shapeCasts_S256_S256x1
      : FVec Ideal S256x1 .f32) (ix2 p 0) = OProjSpec.rowMax (fun q => A (ix2 p q)) := by
  unfold OProjSpec.rowMax
  pointwise
/-- The scale from the largest absolute value. -/
def sel (M : FVec Ideal S256x1 .f32) : FVec Ideal S256x1 .f32 :=
  select (cmpf .oeq M (broadcast S256x1 (Scalar.ofBits .f32 0x00000000#32))) (broadcast S256x1 (Scalar.ofBits .f32 0x3F800000#32))
    (divf M (broadcast S256x1 (Scalar.ofBits .f32 0x43E00000#32)))
theorem sel_apply (M : FVec Ideal S256x1 .f32) (p : Fin 256) :
    sel M (ix2 p 0) = if M (ix2 p 0) = (0 : EReal) then (1 : EReal) else Ideal.div (M (ix2 p 0)) (Ideal.ofBits .f32 0x43E00000#32) := by
  pointwise [sel]
theorem pay1_apply (v0 : Vec Ideal S256x1024 .f32) (p : Fin 256) (q : Fin 1024) : k0_pay1 v0 (ix2 p q) = v0 (ix2 p q) := by
  pointwise [k0_pay1]
theorem pay2_eq (v0 : Vec Ideal S256x1024 .f32) :
    k0_pay2 v0 = sel (shapeCast S256x1 (multiReduction .maximumf [1] S256 (absf (k0_pay1 v0)) 0xFF800000#32 reduces_S256x1024_S256 (.inl rfl) rfl) shapeCasts_S256_S256x1) := rfl
/-- The scales of a block of the attention. -/
theorem pay2_apply (v0 : Vec Ideal S256x1024 .f32) (p : Fin 256) : k0_pay2 v0 (ix2 p 0) = OProjSpec.scale (fun q => v0 (ix2 p q)) := by
  have h : (fun q => (k0_pay1 v0 (ix2 p q) : EReal)) = fun q => v0 (ix2 p q) := funext fun q => pay1_apply v0 p q
  rw [pay2_eq, sel_apply, amax_apply, h]; rfl
/-- A value over its row's scale, cut to the range of the format. -/
def aclip (A : FVec Ideal S256x1024 .f32) (s : FVec Ideal S256x1 .f32) : FVec Ideal S256x1024 .fp8e4m3 :=
  truncf .fp8e4m3 (minimumf (broadcast S256x1024 (Scalar.ofBits .f32 0x43E00000#32))
    (maximumf (broadcast S256x1024 (Scalar.ofBits .f32 0xC3E00000#32)) (divf A (broadcastTo S256x1024 s broadcasts_S256x1_S256x1024)))) bitsLt_fp8e4m3_f32
theorem aclip_apply (A : FVec Ideal S256x1024 .f32) (s : FVec Ideal S256x1 .f32) (p : Fin 256) (q : Fin 1024) :
    aclip A s (ix2 p q) = min (Ideal.ofBits .f32 0x43E00000#32) (max (Ideal.ofBits .f32 0xC3E00000#32) (Ideal.div (A (ix2 p q)) (s (ix2 p 0)))) := by
  pointwise [aclip]
theorem pay3_eq (v0 : Vec Ideal S256x1024 .f32) : k0_pay3 v0 = aclip (k0_pay1 v0) (k0_pay2 v0) := rfl
/-- The codes of a block of the attention. -/
theorem pay3_apply (v0 : Vec Ideal S256x1024 .f32) (p : Fin 256) (q : Fin 1024) :
    k0_pay3 v0 (ix2 p q) = OProjSpec.code (fun q => v0 (ix2 p q)) q := by
  rw [pay3_eq, aclip_apply, pay1_apply, pay2_apply]; rfl
/-- A column of scales laid out as a row. -/
theorem pay12_apply (M : FVec Ideal S256x1 .f32) (l : Fin 256) : k0_pay12 M (ix2 0 l) = M (ix2 l 0) := by
  pointwise [k0_pay12]
  split
  · rfl
  have e : (⟨128 + (l.val - 128), by omega⟩ : Fin 256) = l := Fin.ext (by show 128 + (l.val - 128) = l.val; omega)
  rw [e]
theorem pay6_eq (v0 : Vec Ideal S256x1024 .f32) : k0_pay6 (k0_pay4 v0) (k0_pay5 v0) = k0_pay12 (k0_pay2 v0) := rfl

/-- The residual of a block, of codes `v17` and scales `v10`. -/
theorem pay7_apply (v10 : FVec Ideal S256x1 .f32) (v17 : FVec Ideal S256x1024 .fp8e4m3) (v62 : Vec Ideal S1024x4096 .fp8e4m3) (v66 : Vec Ideal S1x4096 .f32)
    (v70 : Vec Ideal S256x4096 .bf16) (v73 : Vec Ideal S1x1 .f32) (p : Fin 256) (n : Fin 4096) :
    k0_pay7 v10 v17 v62 v66 v70 v73 (ix2 p n)
      = (v70 (ix2 p n) : EReal) + (v73 (ix2 0 0) : EReal)
        * ((∑ k : Fin 1024, (v17 (ix2 p k) : EReal) * (v62 (ix2 k n) : EReal)) * (v10 (ix2 p 0) : EReal) * (v66 (ix2 0 n) : EReal)) := by
  pointwise [k0_pay7]

/-- The second norm of a residual `A`. -/
def nrm (A : FVec Ideal S256x4096 .f32) (v94 : Vec Ideal S1x4096 .f32) : FVec Ideal S256x4096 .f32 :=
  mulf (divf A (broadcastTo S256x4096 (sqrt (addf (divf (shapeCast S256x1 (multiReduction .add [1] S256 (mulf A A) 0x00000000#32 reduces_S256x4096_S256 (.inl rfl) rfl) shapeCasts_S256_S256x1)
      (broadcast S256x1 (Scalar.ofBits .f32 0x45800000#32))) (broadcast S256x1 (Scalar.ofBits .f32 0x3727C5AC#32)))) broadcasts_S256x1_S256x4096))
    (broadcastTo S256x4096 (shapeCast S1x4096 v94 shapeCasts_S1x4096_S1x4096) broadcasts_S1x4096_S256x4096)
theorem nrm_apply (A : FVec Ideal S256x4096 .f32) (v94 : Vec Ideal S1x4096 .f32) (p : Fin 256) (n : Fin 4096) :
    nrm A v94 (ix2 p n) = OProjSpec.rms (fun k => A (ix2 p k)) (fun k => v94 (ix2 0 k)) n := by
  unfold OProjSpec.rms
  pointwise [nrm]
/-- The flags as a column, from the two halves of their row. -/
def col (v79 v85 : Vec Ideal S1x1x128 .f32) : FVec Ideal S256x1 .f32 :=
  concatenate S256x1 0
    [⟨S128x1, extractStridedSlice S128x1 ![0, 0] (transpose S128x128 [1, 0] (broadcastTo S128x128 (shapeCast S1x128 (shapeCast S1x128 v79 shapeCasts_S1x1x128_S1x128 : FVec Ideal S1x128 .f32) shapeCasts_S1x128_S1x128 : FVec Ideal S1x128 .f32) broadcasts_S1x128_S128x128) transposes_S128x128_p1_0_S128x128 : FVec Ideal S128x128 .f32) slices_S128x128_o0_0_S128x1⟩,
     ⟨S128x1, extractStridedSlice S128x1 ![0, 0] (transpose S128x128 [1, 0] (broadcastTo S128x128 (shapeCast S1x128 (shapeCast S1x128 v85 shapeCasts_S1x1x128_S1x128 : FVec Ideal S1x128 .f32) shapeCasts_S1x128_S1x128 : FVec Ideal S1x128 .f32) broadcasts_S1x128_S128x128) transposes_S128x128_p1_0_S128x128 : FVec Ideal S128x128 .f32) slices_S128x128_o0_0_S128x1⟩]
    concatenates_S128x1_S128x1_S256x1_d0
theorem col_apply (x6 : Vec Ideal S1x1x256 .f32) (p : Fin 256) : col (View.ld x6 r0_6a) (View.ld x6 r0_6b) (ix2 p 0) = x6 (ix3 0 0 p) := by
  pointwise [col]
  split
  · rfl
  have e : (⟨128 + (p.val - 128), by omega⟩ : Fin 256) = p := Fin.ext (by show 128 + (p.val - 128) = p.val; omega)
  rw [e]
/-- Zero where the flag is. -/
def cut (A : FVec Ideal S256x4096 .f32) (f : FVec Ideal S256x1 .f32) : FVec Ideal S256x4096 .f32 :=
  select (broadcastTo S256x4096 (shapeCast S256x1 (cmpf .ogt f (broadcast S256x1 (Scalar.ofBits .f32 0x00000000#32))) shapeCasts_S256x1_S256x1) broadcasts_S256x1_S256x4096)
    A (broadcast S256x4096 (Scalar.ofBits .f32 0x00000000#32))
theorem cut_apply (A : FVec Ideal S256x4096 .f32) (f : FVec Ideal S256x1 .f32) (p : Fin 256) (n : Fin 4096) :
    cut A f (ix2 p n) = if (0 : EReal) < f (ix2 p 0) then A (ix2 p n) else (0 : EReal) := by
  pointwise [cut]
theorem pay8_eq (A : FVec Ideal S256x4096 .f32) (v79 v85 : Vec Ideal S1x1x128 .f32) (v94 : Vec Ideal S1x4096 .f32) :
    k0_pay8 A v79 v85 v94 = cut (nrm A v94) (col v79 v85) := rfl
theorem pay9_eq (A : FVec Ideal S256x4096 .f32) (v79 v85 : Vec Ideal S1x1x128 .f32) (v94 : Vec Ideal S1x4096 .f32) :
    k0_pay9 A v79 v85 v94 = sel (shapeCast S256x1 (multiReduction .maximumf [1] S256 (absf (k0_pay8 A v79 v85 v94)) 0xFF800000#32 reduces_S256x4096_S256 (.inl rfl) rfl) shapeCasts_S256_S256x1) := rfl
def yclip (A : FVec Ideal S256x4096 .f32) (s : FVec Ideal S256x1 .f32) : FVec Ideal S256x4096 .fp8e4m3 :=
  truncf .fp8e4m3 (minimumf (broadcast S256x4096 (Scalar.ofBits .f32 0x43E00000#32))
    (maximumf (broadcast S256x4096 (Scalar.ofBits .f32 0xC3E00000#32)) (divf A (broadcastTo S256x4096 s broadcasts_S256x1_S256x4096)))) bitsLt_fp8e4m3_f32
theorem yclip_apply (A : FVec Ideal S256x4096 .f32) (s : FVec Ideal S256x1 .f32) (p : Fin 256) (q : Fin 4096) :
    yclip A s (ix2 p q) = min (Ideal.ofBits .f32 0x43E00000#32) (max (Ideal.ofBits .f32 0xC3E00000#32) (Ideal.div (A (ix2 p q)) (s (ix2 p 0)))) := by
  pointwise [yclip]
theorem pay11_eq (A : FVec Ideal S256x4096 .f32) (v79 v85 : Vec Ideal S1x1x128 .f32) (v94 : Vec Ideal S1x4096 .f32) :
    k0_pay11 (k0_pay10 A v79 v85 v94) (Scalar.ofBits .f32 0xC3E00000#32) = yclip (k0_pay8 A v79 v85 v94) (k0_pay9 A v79 v85 v94) := rfl

/-! ## What the host makes of the arguments -/

/-- The flags: zero for a row that attends to no tile, one for another. -/
def live (a2 : Vec Ideal S3 .i32) (a3 a4 : Vec Ideal S3x512 .i32) : FVec Ideal S3x512 .f32 :=
  select (cmpi .sle (minsi a4 (broadcastInDim S3x512 ![0, 1] bcast_S3x1_S3x512_0_1 (broadcastInDim S3x1 ![0] bcast_S3_S3x1_0 a2 : IVec S3x1 32) : IVec S3x512 32)) a3)
    (broadcastInDim S3x512 ![] bcast_S_S3x512 (constant S_ .f32 0x00000000#32 : FVec Ideal S_ .f32))
    (broadcastInDim S3x512 ![] bcast_S_S3x512 (constant S_ .f32 0x3F800000#32 : FVec Ideal S_ .f32))
theorem live_apply (a2 : Vec Ideal S3 .i32) (a3 a4 : Vec Ideal S3x512 .i32) (a : Fin 3) (b : Fin 512) :
    live a2 a3 a4 (ix2 a b) = if OProjSpec.empty a2 a3 a4 a b = 1#1 then (0 : EReal) else 1 := by
  pointwise [live, OProjSpec.empty]
  rfl
abbrev so (a6 : Vec Ideal S4096 .f32) : Vec Ideal S1x4096 .f32 := broadcastInDim S1x4096 ![1] bcast_S4096_S1x4096_1 a6
abbrev gate (a7 : Vec Ideal S1 .f32) : Vec Ideal S1x1 .f32 := broadcastInDim S1x1 ![1] bcast_S1_S1x1_1 (Host.tanh (F := Ideal) (φ := .f32) a7)
theorem so_apply (a6 : Vec Ideal S4096 .f32) (n : Fin 4096) : (so a6 (ix2 0 n) : EReal) = a6 (ix1 n) := by pointwise
theorem gate_apply (a7 : Vec Ideal S1 .f32) : (gate a7 (ix2 0 0) : EReal) = Host.tanh (F := Ideal) (φ := .f32) a7 (ix1 0) := by
  have h : ∀ v : Vec Ideal S1 .f32, (broadcastInDim S1x1 ![1] bcast_S1_S1x1_1 v : Vec Ideal S1x1 .f32) (ix2 0 0) = v (ix1 0) := by
    intro v; pointwise
  exact h _
/-- The flags re-laid by block: block `t`, lane `l` is the flag of row `256 t + l`. -/
theorem relay_apply (v : Vec Ideal S3x512 .f32) (t : Fin 6) (l : Fin 256) :
    (shapeCast S6x1x256 v shapeCasts_S3x512_S6x1x256 : Vec Ideal S6x1x256 .f32) (ix3 t 0 l)
      = v (ix2 ⟨(t.val * 256 + l.val) / 512, by omega⟩ ⟨(t.val * 256 + l.val) % 512, by omega⟩) := by
  have e0 : t.val / 2 = (t.val * 256 + l.val) / 512 := by omega
  have e1 : t.val % 2 * 256 + l.val = (t.val * 256 + l.val) % 512 := by omega
  pointwise
  simp only [e0, e1]
/-- The attention and the input with their rows in one axis. -/
theorem rowsA_apply (v : Vec Ideal S3x512x1024 .f32) (r : Fin 1536) (q : Fin 1024) :
    (shapeCast S1536x1024 v shapeCasts_S3x512x1024_S1536x1024 : Vec Ideal S1536x1024 .f32) (ix2 r q)
      = v (ix3 ⟨r.val / 512, by omega⟩ ⟨r.val % 512, by omega⟩ q) := by
  pointwise
theorem rowsX_apply (v : Vec Ideal S3x512x4096 .bf16) (r : Fin 1536) (q : Fin 4096) :
    (shapeCast S1536x4096 v shapeCasts_S3x512x4096_S1536x4096 : Vec Ideal S1536x4096 .bf16) (ix2 r q)
      = v (ix3 ⟨r.val / 512, by omega⟩ ⟨r.val % 512, by omega⟩ q) := by
  pointwise

section
variable (t : Nat) (ht : t < 6) (a0 : Vec Ideal S3x512x1024 .f32) (a1 : Vec Ideal S3x512x4096 .bf16) (a2 : Vec Ideal S3 .i32)
    (a3 a4 : Vec Ideal S3x512 .i32) (a5 : Vec Ideal S1024x4096 .fp8e4m3) (a6 : Vec Ideal S4096 .f32)
    (a7 : Vec Ideal S1 .f32) (a8 : Vec Ideal S4096 .f32)
    (x0 : Vec Ideal S256x1024 .f32) (x1 : Vec Ideal S256x4096 .bf16) (x6 : Vec Ideal S1x1x256 .f32)
    (h0 : ∀ (p : Fin 256) (k : Fin 1024), x0 (ix2 p k) = a0 (ix3 ⟨(t * 256 + p.val) / 512, by omega⟩ ⟨(t * 256 + p.val) % 512, by omega⟩ k))
    (h1 : ∀ (p : Fin 256) (k : Fin 4096), x1 (ix2 p k) = a1 (ix3 ⟨(t * 256 + p.val) / 512, by omega⟩ ⟨(t * 256 + p.val) % 512, by omega⟩ k))
    (h6 : ∀ l : Fin 256, x6 (ix3 0 0 l) = live a2 a3 a4 (ix2 ⟨(t * 256 + l.val) / 512, by omega⟩ ⟨(t * 256 + l.val) % 512, by omega⟩))

include h0 in
theorem att_eq (p : Fin 256) : (fun q => (x0 (ix2 p q) : EReal)) = OProjSpec.att a0 ⟨t * 256 + p.val, by omega⟩ := funext fun q => h0 p q

include h0 in
/-- The codes the point stores are the specification's. -/
theorem acodes_at (p : Fin 256) (q : Fin 1024) : out0_7 x0 (ix2 p q) = OProjSpec.AC a0 (ix2 ⟨t * 256 + p.val, by omega⟩ q) := by
  unfold out0_7 codesB
  rw [View.canon_unit_zero hz, View.ld_unit_zero hz, pay3_apply, att_eq t ht a0 x0 h0]
  rfl
include h0 in
/-- The row piece of scales the point stores is the specification's. -/
theorem ascales_at (l : Fin 256) : scalesB x0 (ix2 0 l) = OProjSpec.scale (OProjSpec.att a0 ⟨t * 256 + l.val, by omega⟩) := by
  unfold scalesB
  rw [View.ld_unit_zero hz, pay6_eq, pay12_apply, pay2_apply, att_eq t ht a0 x0 h0]

include h0 h1 in
/-- The residual of the block is the specification's. -/
theorem res_at (p : Fin 256) (n : Fin 4096) :
    k0_pay7 (k0_pay2 x0) (k0_pay3 x0) a5 (so a6) x1 (gate a7) (ix2 p n) = OProjSpec.res a0 a1 a5 a6 a7 ⟨t * 256 + p.val, by omega⟩ n := by
  rw [pay7_apply, pay2_apply, so_apply, gate_apply, h1]
  simp only [pay3_apply]
  rw [att_eq t ht a0 x0 h0]
  rfl
include h0 h1 in
theorem h_at (p : Fin 256) (n : Fin 4096) : out0_9 x0 x1 a5 (so a6) (gate a7) (ix2 p n) = OProjSpec.H a0 a1 a5 a6 a7 (ix2 ⟨t * 256 + p.val, by omega⟩ n) := by
  unfold out0_9 hB colB codesB
  rw [View.canon_unit_zero hz, View.ld_unit_zero hz, View.ld_unit_zero hz, View.ld_unit_zero hz, View.ld_unit_zero hz, View.ld_unit_zero hz,
    res_at t ht a0 a1 a5 a6 a7 x0 x1 h0 h1]
  rfl
include h0 h1 h6 in
/-- The second norm of the block is the specification's. -/
theorem y_at (p : Fin 256) (n : Fin 4096) :
    k0_pay8 (k0_pay7 (k0_pay2 x0) (k0_pay3 x0) a5 (so a6) x1 (gate a7)) (View.ld x6 r0_6a) (View.ld x6 r0_6b) (so a8) (ix2 p n)
      = OProjSpec.y a0 a1 a2 a3 a4 a5 a6 a7 a8 ⟨t * 256 + p.val, by omega⟩ n := by
  have h : (fun k => (k0_pay7 (k0_pay2 x0) (k0_pay3 x0) a5 (so a6) x1 (gate a7) (ix2 p k) : EReal))
      = OProjSpec.res a0 a1 a5 a6 a7 ⟨t * 256 + p.val, by omega⟩ := funext fun k => res_at t ht a0 a1 a5 a6 a7 x0 x1 h0 h1 p k
  have h' : (fun k => (so a8 (ix2 0 k) : EReal)) = fun k => a8 (ix1 k) := funext fun k => so_apply a8 k
  rw [pay8_eq, cut_apply, col_apply, h6, live_apply, nrm_apply, h, h']
  unfold OProjSpec.y
  by_cases he : OProjSpec.empty a2 a3 a4 ⟨(t * 256 + p.val) / 512, by omega⟩ ⟨(t * 256 + p.val) % 512, by omega⟩ = 1#1
  · rw [if_pos he, if_pos he, if_neg (lt_irrefl _)]
  · rw [if_neg he, if_neg he, if_pos zero_lt_one]
include h0 h1 h6 in
theorem yscale_at (p : Fin 256) :
    k0_pay9 (k0_pay7 (k0_pay2 x0) (k0_pay3 x0) a5 (so a6) x1 (gate a7)) (View.ld x6 r0_6a) (View.ld x6 r0_6b) (so a8) (ix2 p 0)
      = OProjSpec.scale (OProjSpec.y a0 a1 a2 a3 a4 a5 a6 a7 a8 ⟨t * 256 + p.val, by omega⟩) := by
  have h : (fun q => (k0_pay8 (k0_pay7 (k0_pay2 x0) (k0_pay3 x0) a5 (so a6) x1 (gate a7)) (View.ld x6 r0_6a) (View.ld x6 r0_6b) (so a8) (ix2 p q) : EReal))
      = OProjSpec.y a0 a1 a2 a3 a4 a5 a6 a7 a8 ⟨t * 256 + p.val, by omega⟩ := funext fun q => y_at t ht a0 a1 a2 a3 a4 a5 a6 a7 a8 x0 x1 x6 h0 h1 h6 p q
  rw [pay9_eq, sel_apply, ymax_apply, h]; rfl
include h0 h1 h6 in
theorem ycodes_at (p : Fin 256) (q : Fin 4096) :
    out0_10 x0 x1 a5 (so a6) (gate a7) (so a8) x6 (ix2 p q) = OProjSpec.YC a0 a1 a2 a3 a4 a5 a6 a7 a8 (ix2 ⟨t * 256 + p.val, by omega⟩ q) := by
  unfold out0_10 ycodesB hB colB codesB
  rw [View.canon_unit_zero hz, View.ld_unit_zero hz, View.ld_unit_zero hz, View.ld_unit_zero hz, View.ld_unit_zero hz, View.ld_unit_zero hz, View.ld_unit_zero hz,
    pay11_eq, yclip_apply, y_at t ht a0 a1 a2 a3 a4 a5 a6 a7 a8 x0 x1 x6 h0 h1 h6, yscale_at t ht a0 a1 a2 a3 a4 a5 a6 a7 a8 x0 x1 x6 h0 h1 h6]
  rfl
include h0 h1 h6 in
theorem yscales_at (l : Fin 256) :
    yscalesB x0 x1 a5 (so a6) (gate a7) (so a8) x6 (ix2 0 l) = OProjSpec.scale (OProjSpec.y a0 a1 a2 a3 a4 a5 a6 a7 a8 ⟨t * 256 + l.val, by omega⟩) := by
  unfold yscalesB hB colB codesB
  rw [View.ld_unit_zero hz, View.ld_unit_zero hz, View.ld_unit_zero hz, View.ld_unit_zero hz, View.ld_unit_zero hz, View.ld_unit_zero hz,
    pay12_apply, yscale_at t ht a0 a1 a2 a3 a4 a5 a6 a7 a8 x0 x1 x6 h0 h1 h6]
end

variable (m : (ℓ : Loc nD τ sig) → Buf (Elt Ideal) ℓ) (ρ : Dev nD → PrngReg)

/-! ## The arrays and the blocks -/

/-- What the host's lines before the kernel leave in the arrays they make. -/
theorem V_main_v0 (c : Dev nD) : V m c main_v0 = (shapeCast S1536x4096 (m ((c : Thread nD τ).loc main_arg1)) shapeCasts_S3x512x4096_S1536x4096 : Vec Ideal S1536x4096 .bf16) := by
  show StableHlo.after (List.flatten [hostOps0, hostOps0_1, hostOps0_2]) _ (Proc.devRef .tc main_v0) = _
  simp only [List.flatten_cons, List.flatten_nil, List.append_nil, List.cons_append, List.nil_append, hostOps0, hostOps0_1, hostOps0_2]
  after_results
  try rfl
theorem V_main_v6 (c : Dev nD) : V m c main_v6 = (shapeCast S6x1x256 (live (m ((c : Thread nD τ).loc main_arg2)) (m ((c : Thread nD τ).loc main_arg3)) (m ((c : Thread nD τ).loc main_arg4))) shapeCasts_S3x512_S6x1x256 : Vec Ideal S6x1x256 .f32) := by
  show StableHlo.after (List.flatten [hostOps0, hostOps0_1, hostOps0_2]) _ (Proc.devRef .tc main_v6) = _
  simp only [List.flatten_cons, List.flatten_nil, List.append_nil, List.cons_append, List.nil_append, hostOps0, hostOps0_1, hostOps0_2]
  after_results
  try rfl
theorem V_main_v7 (c : Dev nD) : V m c main_v7 = (shapeCast S1536x1024 (m ((c : Thread nD τ).loc main_arg0)) shapeCasts_S3x512x1024_S1536x1024 : Vec Ideal S1536x1024 .f32) := by
  show StableHlo.after (List.flatten [hostOps0, hostOps0_1, hostOps0_2]) _ (Proc.devRef .tc main_v7) = _
  simp only [List.flatten_cons, List.flatten_nil, List.append_nil, List.cons_append, List.nil_append, hostOps0, hostOps0_1, hostOps0_2]
  after_results
  try rfl
theorem V_main_v8 (c : Dev nD) : V m c main_v8 = (so (m ((c : Thread nD τ).loc main_arg6)) : Vec Ideal S1x4096 .f32) := by
  show StableHlo.after (List.flatten [hostOps0, hostOps0_1, hostOps0_2]) _ (Proc.devRef .tc main_v8) = _
  simp only [List.flatten_cons, List.flatten_nil, List.append_nil, List.cons_append, List.nil_append, hostOps0, hostOps0_1, hostOps0_2]
  after_results
  try rfl
theorem V_main_v10 (c : Dev nD) : V m c main_v10 = (gate (m ((c : Thread nD τ).loc main_arg7)) : Vec Ideal S1x1 .f32) := by
  show StableHlo.after (List.flatten [hostOps0, hostOps0_1, hostOps0_2]) _ (Proc.devRef .tc main_v10) = _
  simp only [List.flatten_cons, List.flatten_nil, List.append_nil, List.cons_append, List.nil_append, hostOps0, hostOps0_1, hostOps0_2]
  after_results
  try rfl
theorem V_main_v11 (c : Dev nD) : V m c main_v11 = (so (m ((c : Thread nD τ).loc main_arg8)) : Vec Ideal S1x4096 .f32) := by
  show StableHlo.after (List.flatten [hostOps0, hostOps0_1, hostOps0_2]) _ (Proc.devRef .tc main_v11) = _
  simp only [List.flatten_cons, List.flatten_nil, List.append_nil, List.cons_append, List.nil_append, hostOps0, hostOps0_1, hostOps0_2]
  after_results
  try rfl

/-- Each window's block index at each grid point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem lt6 (t : Fin cfg0.N) : t.val < 6 := t.isLt

/-- A row-blocked input's block, read at a row and a column, is the input at the point's row and that column. -/
theorem iblk0_apply (c : Dev nD) (t : Fin cfg0.N) (p : Fin 256) (k : Fin 1024) :
    iblk m c 0 t (ix2 p k) = m ((c : Thread nD τ).loc main_arg0)
      (ix3 ⟨(t.val * 256 + p.val) / 512, by have := lt6 t; omega⟩ ⟨(t.val * 256 + p.val) % 512, by omega⟩ k) := by
  obtain ⟨e0, e1⟩ := idx0 t
  have hb : iblk m c 0 t (ix2 p k) = V m c main_v7 (ix2 ⟨t.val * 256 + p.val, by have := lt6 t; omega⟩ k) := by
    show V m c main_v7 (((cfg0.win 0).blk t).view.emb (ix2 p k)) = _
    congr 1; funext a; apply Fin.ext
    match a with
    | ⟨0, _⟩ => show win0_0.index t (0 : Fin 2) * 256 + 1 * p.val = t.val * 256 + p.val; omega
    | ⟨1, _⟩ => show win0_0.index t (1 : Fin 2) * 1024 + 1 * k.val = k.val; omega
  rw [hb, V_main_v7, rowsA_apply]
theorem iblk1_apply (c : Dev nD) (t : Fin cfg0.N) (p : Fin 256) (k : Fin 4096) :
    iblk m c 1 t (ix2 p k) = m ((c : Thread nD τ).loc main_arg1)
      (ix3 ⟨(t.val * 256 + p.val) / 512, by have := lt6 t; omega⟩ ⟨(t.val * 256 + p.val) % 512, by omega⟩ k) := by
  obtain ⟨e0, e1⟩ := idx1 t
  have hb : iblk m c 1 t (ix2 p k) = V m c main_v0 (ix2 ⟨t.val * 256 + p.val, by have := lt6 t; omega⟩ k) := by
    show V m c main_v0 (((cfg0.win 1).blk t).view.emb (ix2 p k)) = _
    congr 1; funext a; apply Fin.ext
    match a with
    | ⟨0, _⟩ => show win0_1.index t (0 : Fin 2) * 256 + 1 * p.val = t.val * 256 + p.val; omega
    | ⟨1, _⟩ => show win0_1.index t (1 : Fin 2) * 4096 + 1 * k.val = k.val; omega
  rw [hb, V_main_v0, rowsX_apply]
/-- The block of the flags. -/
theorem iblk6_apply (c : Dev nD) (t : Fin cfg0.N) (l : Fin 256) :
    iblk m c 6 t (ix3 0 0 l) = live (m ((c : Thread nD τ).loc main_arg2)) (m ((c : Thread nD τ).loc main_arg3)) (m ((c : Thread nD τ).loc main_arg4))
      (ix2 ⟨(t.val * 256 + l.val) / 512, by have := lt6 t; omega⟩ ⟨(t.val * 256 + l.val) % 512, by omega⟩) := by
  obtain ⟨e0, e1, e2⟩ := idx6 t
  have hb : iblk m c 6 t (ix3 0 0 l) = V m c main_v6 (ix3 (⟨t.val, lt6 t⟩ : Fin 6) 0 l) := by
    show V m c main_v6 (((cfg0.win 6).blk t).view.emb (ix3 0 0 l)) = _
    congr 1; funext a; apply Fin.ext
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 256 + 1 * l.val = l.val; omega
  rw [hb, V_main_v6, relay_apply]

/-- A window whose block is its whole array. -/
theorem emb2 (t : Fin cfg0.N) (j : S1024x4096.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 4096 + 1 * (j 1).val = (j 1).val; omega
theorem iblk2_eq (c : Dev nD) (t : Fin cfg0.N) : iblk m c 2 t = V m c main_arg5 := by
  funext j; show V m c main_arg5 (((cfg0.win 2).blk t).view.emb j) = V m c main_arg5 j; rw [emb2]
theorem emb3 (t : Fin cfg0.N) (j : S1x4096.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 4096 + 1 * (j 1).val = (j 1).val; omega
theorem iblk3_eq (c : Dev nD) (t : Fin cfg0.N) : iblk m c 3 t = V m c main_v8 := by
  funext j; show V m c main_v8 (((cfg0.win 3).blk t).view.emb j) = V m c main_v8 j; rw [emb3]
theorem emb4 (t : Fin cfg0.N) (j : S1x1.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega
theorem iblk4_eq (c : Dev nD) (t : Fin cfg0.N) : iblk m c 4 t = V m c main_v10 := by
  funext j; show V m c main_v10 (((cfg0.win 4).blk t).view.emb j) = V m c main_v10 j; rw [emb4]
theorem emb5 (t : Fin cfg0.N) (j : S1x4096.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 4096 + 1 * (j 1).val = (j 1).val; omega
theorem iblk5_eq (c : Dev nD) (t : Fin cfg0.N) : iblk m c 5 t = V m c main_v11 := by
  funext j; show V m c main_v11 (((cfg0.win 5).blk t).view.emb j) = V m c main_v11 j; rw [emb5]
theorem emb8 (t : Fin cfg0.N) (j : S3x512.Idx) : ((cfg0.win 8).blk t).view.emb j = j := by
  obtain ⟨e0, e1⟩ := idx8 t
  funext a; apply Fin.ext
  match a with
  | ⟨0, _⟩ => show win0_8.index t (0 : Fin 2) * 3 + 1 * (j 0).val = (j 0).val; omega
  | ⟨1, _⟩ => show win0_8.index t (1 : Fin 2) * 512 + 1 * (j 1).val = (j 1).val; omega
theorem emb11 (t : Fin cfg0.N) (j : S3x512.Idx) : ((cfg0.win 11).blk t).view.emb j = j := by
  obtain ⟨e0, e1⟩ := idx11 t
  funext a; apply Fin.ext
  match a with
  | ⟨0, _⟩ => show win0_11.index t (0 : Fin 2) * 3 + 1 * (j 0).val = (j 0).val; omega
  | ⟨1, _⟩ => show win0_11.index t (1 : Fin 2) * 512 + 1 * (j 1).val = (j 1).val; omega

/-- Where an output's block at point `t` puts row `p` and column `q`. -/
theorem emb7 (t : Fin cfg0.N) (p : Fin 256) (q : Fin 1024) :
    ((cfg0.win 7).blk t).view.emb (ix2 p q) = (ix2 ⟨t.val * 256 + p.val, by have := lt6 t; omega⟩ q : S1536x1024.Idx) := by
  obtain ⟨e0, e1⟩ := idx7 t
  funext a; apply Fin.ext
  match a with
  | ⟨0, _⟩ => show win0_7.index t (0 : Fin 2) * 256 + 1 * p.val = t.val * 256 + p.val; omega
  | ⟨1, _⟩ => show win0_7.index t (1 : Fin 2) * 1024 + 1 * q.val = q.val; omega
theorem emb9 (t : Fin cfg0.N) (p : Fin 256) (q : Fin 4096) :
    ((cfg0.win 9).blk t).view.emb (ix2 p q) = (ix2 ⟨t.val * 256 + p.val, by have := lt6 t; omega⟩ q : S1536x4096.Idx) := by
  obtain ⟨e0, e1⟩ := idx9 t
  funext a; apply Fin.ext
  match a with
  | ⟨0, _⟩ => show win0_9.index t (0 : Fin 2) * 256 + 1 * p.val = t.val * 256 + p.val; omega
  | ⟨1, _⟩ => show win0_9.index t (1 : Fin 2) * 4096 + 1 * q.val = q.val; omega
theorem emb10 (t : Fin cfg0.N) (p : Fin 256) (q : Fin 4096) :
    ((cfg0.win 10).blk t).view.emb (ix2 p q) = (ix2 ⟨t.val * 256 + p.val, by have := lt6 t; omega⟩ q : S1536x4096.Idx) := by
  obtain ⟨e0, e1⟩ := idx10 t
  funext a; apply Fin.ext
  match a with
  | ⟨0, _⟩ => show win0_10.index t (0 : Fin 2) * 256 + 1 * p.val = t.val * 256 + p.val; omega
  | ⟨1, _⟩ => show win0_10.index t (1 : Fin 2) * 4096 + 1 * q.val = q.val; omega

/-- The five results of device `c`'s run as the formulas of its argument arrays. -/
abbrev RAC (c : Dev nD) : Vec Ideal S1536x1024 .fp8e4m3 := OProjSpec.AC (m ((c : Thread nD τ).loc main_arg0))
abbrev RAS (c : Dev nD) : Vec Ideal S3x512 .f32 := OProjSpec.AS (m ((c : Thread nD τ).loc main_arg0))
abbrev RH (c : Dev nD) : Vec Ideal S1536x4096 .f32 := OProjSpec.H (m ((c : Thread nD τ).loc main_arg0)) (m ((c : Thread nD τ).loc main_arg1)) (m ((c : Thread nD τ).loc main_arg5)) (m ((c : Thread nD τ).loc main_arg6)) (m ((c : Thread nD τ).loc main_arg7))
abbrev RYC (c : Dev nD) : Vec Ideal S1536x4096 .fp8e4m3 := OProjSpec.YC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev RYS (c : Dev nD) : Vec Ideal S3x512 .f32 := OProjSpec.YS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## The row-blocked results -/

theorem flushed7 (c : Dev nD) (t : Fin cfg0.N) :
    (dats m 0 c).flushed 7 t = (cfg0.win 7).cut (grid0.coords t) (out0_7 (iblk m c 0 t)) := by
  show (cfg0.win 7).cut (grid0.coords t) ((dats m 0 c).after 7 t) = _
  rw [after0_7]
/-- What point `t` writes back is its block of the formula. -/
theorem flushed7_eq (c : Dev nD) (t : Fin cfg0.N) :
    (dats m 0 c).flushed 7 t = ((cfg0.win 7).blk t).view.read (Elt Ideal) (RAC m c) := by
  rw [flushed7]
  funext j
  obtain ⟨p, q, rfl⟩ : ∃ (p : Fin 256) (q : Fin 1024), j = ix2 p q := ⟨j 0, j 1, eq_ix2 j⟩
  refine (acodes_at t.val (lt6 t) (m ((c : Thread nD τ).loc main_arg0)) (iblk m c 0 t) (iblk0_apply m c t) p q).trans ?_
  show _ = RAC m c (((cfg0.win 7).blk t).view.emb (ix2 p q))
  rw [emb7]
/-- Every index of such an array is in the block of the point of its row. -/
theorem covered7 (i : S1536x1024.Idx) :
    ∃ t : Fin cfg0.N, (cfg0.win 7).flush t = true ∧ i ∈ ((cfg0.win 7).blk t).view.set := by
  obtain ⟨r, q, rfl⟩ : ∃ (r : Fin 1536) (q : Fin 1024), i = ix2 r q := ⟨i 0, i 1, eq_ix2 i⟩
  have hr := r.isLt
  refine ⟨(⟨r.val / 256, by show r.val / 256 < 6; omega⟩ : Fin cfg0.N), flush0_7 _, ?_⟩
  have h := ((cfg0.win 7).blk (⟨r.val / 256, by show r.val / 256 < 6; omega⟩ : Fin cfg0.N)).view.emb_mem_set
    (ix2 (⟨r.val % 256, by omega⟩ : Fin 256) q)
  rw [emb7] at h
  have e : (⟨r.val / 256 * 256 + r.val % 256, by omega⟩ : Fin 1536) = r := Fin.ext (by show r.val / 256 * 256 + r.val % 256 = r.val; omega)
  simp only [e] at h
  exact h
theorem final7 (c : Dev nD) : (dats m 0 c).arrAt 7 cfg0.N = RAC m c :=
  (dats m 0 c).arrAt_eq_of_cover 7 (RAC m c) (fun t _ => flushed7_eq m c t) covered7

theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]
/-- What point `t` writes back is its block of the formula. -/
theorem flushed9_eq (c : Dev nD) (t : Fin cfg0.N) :
    (dats m 0 c).flushed 9 t = ((cfg0.win 9).blk t).view.read (Elt Ideal) (RH m c) := by
  rw [flushed9, iblk2_eq, iblk3_eq, iblk4_eq, V_main_v8, V_main_v10, V_main_arg5]
  funext j
  obtain ⟨p, q, rfl⟩ : ∃ (p : Fin 256) (q : Fin 4096), j = ix2 p q := ⟨j 0, j 1, eq_ix2 j⟩
  refine (h_at t.val (lt6 t) (m ((c : Thread nD τ).loc main_arg0)) (m ((c : Thread nD τ).loc main_arg1)) (m ((c : Thread nD τ).loc main_arg5)) (m ((c : Thread nD τ).loc main_arg6)) (m ((c : Thread nD τ).loc main_arg7)) (iblk m c 0 t) (iblk m c 1 t) (iblk0_apply m c t) (iblk1_apply m c t) p q).trans ?_
  show _ = RH m c (((cfg0.win 9).blk t).view.emb (ix2 p q))
  rw [emb9]
/-- Every index of such an array is in the block of the point of its row. -/
theorem covered9 (i : S1536x4096.Idx) :
    ∃ t : Fin cfg0.N, (cfg0.win 9).flush t = true ∧ i ∈ ((cfg0.win 9).blk t).view.set := by
  obtain ⟨r, q, rfl⟩ : ∃ (r : Fin 1536) (q : Fin 4096), i = ix2 r q := ⟨i 0, i 1, eq_ix2 i⟩
  have hr := r.isLt
  refine ⟨(⟨r.val / 256, by show r.val / 256 < 6; omega⟩ : Fin cfg0.N), flush0_9 _, ?_⟩
  have h := ((cfg0.win 9).blk (⟨r.val / 256, by show r.val / 256 < 6; omega⟩ : Fin cfg0.N)).view.emb_mem_set
    (ix2 (⟨r.val % 256, by omega⟩ : Fin 256) q)
  rw [emb9] at h
  have e : (⟨r.val / 256 * 256 + r.val % 256, by omega⟩ : Fin 1536) = r := Fin.ext (by show r.val / 256 * 256 + r.val % 256 = r.val; omega)
  simp only [e] at h
  exact h
theorem final9 (c : Dev nD) : (dats m 0 c).arrAt 9 cfg0.N = RH m c :=
  (dats m 0 c).arrAt_eq_of_cover 9 (RH m c) (fun t _ => flushed9_eq m c t) covered9

theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]
/-- What point `t` writes back is its block of the formula. -/
theorem flushed10_eq (c : Dev nD) (t : Fin cfg0.N) :
    (dats m 0 c).flushed 10 t = ((cfg0.win 10).blk t).view.read (Elt Ideal) (RYC m c) := by
  rw [flushed10, iblk2_eq, iblk3_eq, iblk4_eq, iblk5_eq, V_main_v8, V_main_v10, V_main_v11, V_main_arg5]
  funext j
  obtain ⟨p, q, rfl⟩ : ∃ (p : Fin 256) (q : Fin 4096), j = ix2 p q := ⟨j 0, j 1, eq_ix2 j⟩
  refine (ycodes_at t.val (lt6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 6 t) (iblk0_apply m c t) (iblk1_apply m c t) (iblk6_apply m c t) p q).trans ?_
  show _ = RYC m c (((cfg0.win 10).blk t).view.emb (ix2 p q))
  rw [emb10]
/-- Every index of such an array is in the block of the point of its row. -/
theorem covered10 (i : S1536x4096.Idx) :
    ∃ t : Fin cfg0.N, (cfg0.win 10).flush t = true ∧ i ∈ ((cfg0.win 10).blk t).view.set := by
  obtain ⟨r, q, rfl⟩ : ∃ (r : Fin 1536) (q : Fin 4096), i = ix2 r q := ⟨i 0, i 1, eq_ix2 i⟩
  have hr := r.isLt
  refine ⟨(⟨r.val / 256, by show r.val / 256 < 6; omega⟩ : Fin cfg0.N), flush0_10 _, ?_⟩
  have h := ((cfg0.win 10).blk (⟨r.val / 256, by show r.val / 256 < 6; omega⟩ : Fin cfg0.N)).view.emb_mem_set
    (ix2 (⟨r.val % 256, by omega⟩ : Fin 256) q)
  rw [emb10] at h
  have e : (⟨r.val / 256 * 256 + r.val % 256, by omega⟩ : Fin 1536) = r := Fin.ext (by show r.val / 256 * 256 + r.val % 256 = r.val; omega)
  simp only [e] at h
  exact h
theorem final10 (c : Dev nD) : (dats m 0 c).arrAt 10 cfg0.N = RYC m c :=
  (dats m 0 c).arrAt_eq_of_cover 10 (RYC m c) (fun t _ => flushed10_eq m c t) covered10

/-! ## The scales -/

/-- The row pieces stored at a point are the specification's. -/
theorem rowAt8_eq (c : Dev nD) (s : Fin cfg0.N) (l : Fin 256) :
    rowAt8 m c s (ix2 0 l) = OProjSpec.scale (OProjSpec.att (m ((c : Thread nD τ).loc main_arg0)) ⟨s.val * 256 + l.val, by have := lt6 s; omega⟩) :=
  ascales_at s.val (lt6 s) (m ((c : Thread nD τ).loc main_arg0)) (iblk m c 0 s) (iblk0_apply m c s) l
theorem rowAt11_eq (c : Dev nD) (s : Fin cfg0.N) (l : Fin 256) :
    rowAt11 m c s (ix2 0 l) = OProjSpec.scale (OProjSpec.y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ⟨s.val * 256 + l.val, by have := lt6 s; omega⟩) := by
  unfold rowAt11
  rw [iblk2_eq, iblk3_eq, iblk4_eq, iblk5_eq, V_main_v8, V_main_v10, V_main_v11, V_main_arg5]
  exact yscales_at s.val (lt6 s) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 s) (iblk m c 1 s) (iblk m c 6 s) (iblk0_apply m c s) (iblk1_apply m c s) (iblk6_apply m c s) l

/-- Where the row piece of a point starts. -/
theorem off_eq : ∀ s : Fin cfg0.N, k0_off1 (grid0.coords s) (0 : Fin 2) = s.val / 2 ∧ k0_off1 (grid0.coords s) (1 : Fin 2) = s.val % 2 * 256 :=
  (by decide +kernel : ∀ t : Fin grid0.N, _)

/-- A buffer with every piece in place holds, at every position, the value stored for its row. -/
theorem known_all (g : Fin 1536 → EReal) (row : Fin cfg0.N → Vec Ideal S1x256 .f32)
    (hrow : ∀ (s : Fin cfg0.N) (l : Fin 256), row s (ix2 0 l) = g ⟨s.val * 256 + l.val, by have := lt6 s; omega⟩)
    (t : Fin cfg0.N) (ht : t.val = 5) (X : Vec Ideal S3x512 .f32) (h : Known row t X) (a : Fin 3) (b : Fin 512) :
    X (ix2 a b) = g ⟨a.val * 512 + b.val, by omega⟩ := by
  have ha := a.isLt
  have hb := b.isLt
  let s : Fin cfg0.N := ⟨a.val * 2 + b.val / 256, by show a.val * 2 + b.val / 256 < 6; omega⟩
  have hs : s.val = a.val * 2 + b.val / 256 := rfl
  let l : Fin 256 := ⟨b.val % 256, by omega⟩
  have hl : l.val = b.val % 256 := rfl
  obtain ⟨e0, e1⟩ := off_eq s
  have hx := h s (by omega) (ix2 (0 : Fin 1) l)
  have he : (rs (grid0.coords s)).emb (ix2 (0 : Fin 1) l) = (ix2 a b : S3x512.Idx) := by
    funext k; apply Fin.ext
    match k with
    | ⟨0, _⟩ => show k0_off1 (grid0.coords s) (0 : Fin 2) + 1 * 0 = a.val; omega
    | ⟨1, _⟩ => show k0_off1 (grid0.coords s) (1 : Fin 2) + 1 * l.val = b.val; omega
  rw [he, hrow s l] at hx
  rw [hx]
  have hr : (⟨s.val * 256 + l.val, by have := lt6 s; omega⟩ : Fin 1536) = ⟨a.val * 512 + b.val, by omega⟩ :=
    Fin.ext (by show s.val * 256 + l.val = a.val * 512 + b.val; omega)
  rw [hr]

theorem known_last8 (c : Dev nD) (t : Fin cfg0.N) (ht : t.val = 5) (X : Vec Ideal S3x512 .f32) (h : Known (rowAt8 m c) t X) : X = RAS m c := by
  funext j
  obtain ⟨a, b, rfl⟩ : ∃ (a : Fin 3) (b : Fin 512), j = ix2 a b := ⟨j 0, j 1, eq_ix2 j⟩
  exact known_all (fun r => OProjSpec.scale (OProjSpec.att (m ((c : Thread nD τ).loc main_arg0)) r)) (rowAt8 m c) (rowAt8_eq m c) t ht X h a b
theorem known_last11 (c : Dev nD) (t : Fin cfg0.N) (ht : t.val = 5) (X : Vec Ideal S3x512 .f32) (h : Known (rowAt11 m c) t X) : X = RYS m c := by
  funext j
  obtain ⟨a, b, rfl⟩ : ∃ (a : Fin 3) (b : Fin 512), j = ix2 a b := ⟨j 0, j 1, eq_ix2 j⟩
  exact known_all (fun r => OProjSpec.scale (OProjSpec.y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r)) (rowAt11 m c) (rowAt11_eq m c) t ht X h a b

/-! ## The run -/

section
variable {nD' : Nat} {τ' : Topo} {sig' : RefSig} {Val : EltTy → Type} [∀ e, Nonempty (Val e)] {Λ' : Idealize.SL.Sem.Labels}
variable {U : Type} [Idealize.SL.RA.URA U] {cfg : Cfg sig' Λ'} {c : Dev nD'}

/-- Of a window held to no predicate the array after the run is the exact data's. -/
theorem arrAt_exact (dat : Dat τ' Val Unit ℕ U ℕ cfg c) (fgt : Fin cfg.W → Bool)
    (Rl : (w : Fin cfg.W) → Fin cfg.N → ((cfg.win w).block.Idx → Val (cfg.win w).elt) → Prop) (w : Fin cfg.W) (h : fgt w = false) (n : Nat)
    (F : Buf Val ((cfg.win w).arr.view.loc (c.tc : Thread nD' τ'))) (hF : (dat.toRRel fgt Rl).ArrAt w n F) : F = dat.arrAt w n :=
  (dat.toR_arrAt_iff w n F).mp ((dat.toR.override_arrAt (by simp only [h]) n F).mp hF)

/-- A window written back at the last point: the array is a write of what the body may leave there. -/
theorem arrAt_last (rd : RDat τ' Val Unit ℕ U ℕ cfg c) (w : Fin cfg.W) (u : Fin cfg.N) (hu : cfg.N = u.val + 1) (hf : (cfg.win w).flush u = true)
    (F : Buf Val ((cfg.win w).arr.view.loc (c.tc : Thread nD' τ'))) (hF : rd.ArrAt w cfg.N F) :
    ∃ G₀ X, rd.Leaves w u X ∧ F = ((cfg.win w).blk u).view.write Val G₀ ((cfg.win w).cut (cfg.grid.coords u) X) Finset.univ := by
  rw [show rd.ArrAt w cfg.N = rd.ArrAt w (u.val + 1) from congrArg (rd.ArrAt w) hu, rd.ArrAt_succ w u, if_pos hf] at hF
  obtain ⟨G₀, X, _, hL, e⟩ := hF
  exact ⟨G₀, X, hL, e⟩
end

/-- The last grid point. -/
abbrev tLast : Fin cfg0.N := ⟨5, by decide⟩

/-- The array of scales after the run is the formula of the arguments as launched. -/
theorem scales_final8 (c : Dev nD) (F : Vec Ideal S3x512 .f32) (hF : (rdats m c).ArrAt 8 cfg0.N F) : F = RAS m c := by
  obtain ⟨G₀, X, hL, e⟩ := arrAt_last (rdats m c) 8 tLast (by decide) ((flush0_8 _).mpr (by decide)) F hF
  have hK : Known (rowAt8 m c) tLast X := Dat.toRRel_leaves (dats m 0 c) (fgt := fgt) (Rl := Rl m c) (w := 8) rfl hL
  have hX : (X : Vec Ideal S3x512 .f32) = RAS m c := known_last8 m c tLast rfl X hK
  funext j
  have h1 : F (((cfg0.win 8).blk tLast).view.emb j) = (cfg0.win 8).cut (grid0.coords tLast) X j := by
    rw [e]; exact View.write_emb_of_mem _ _ (Finset.mem_univ _)
  rw [emb8] at h1
  rw [h1, ← hX]; rfl
/-- The array of scales after the run is the formula of the arguments as launched. -/
theorem scales_final11 (c : Dev nD) (F : Vec Ideal S3x512 .f32) (hF : (rdats m c).ArrAt 11 cfg0.N F) : F = RYS m c := by
  obtain ⟨G₀, X, hL, e⟩ := arrAt_last (rdats m c) 11 tLast (by decide) ((flush0_11 _).mpr (by decide)) F hF
  have hK : Known (rowAt11 m c) tLast X := Dat.toRRel_leaves (dats m 0 c) (fgt := fgt) (Rl := Rl m c) (w := 11) rfl hL
  have hX : (X : Vec Ideal S3x512 .f32) = RYS m c := known_last11 m c tLast rfl X hK
  funext j
  have h1 : F (((cfg0.win 11).blk tLast).view.emb j) = (cfg0.win 11).cut (grid0.coords tLast) X j := by
    rw [e]; exact View.write_emb_of_mem _ _ (Finset.mem_univ _)
  rw [emb11] at h1
  rw [h1, ← hX]; rfl

/-- The run: the five results at their formulas, the arguments unchanged. -/
theorem run_values : θ_run defs (onTc (τ := τ) (main (F := Ideal))) ⟨m, fun _ => 0, ρ⟩ (fun r => ∀ c : Dev nD,
      r.2.mem ((c.tc : Thread nD τ).loc main_v12_0) = RAC m c
      ∧ r.2.mem ((c.tc : Thread nD τ).loc main_v12_1) = RAS m c
      ∧ r.2.mem ((c.tc : Thread nD τ).loc main_v12_2) = RH m c
      ∧ r.2.mem ((c.tc : Thread nD τ).loc main_v12_3) = RYC m c
      ∧ r.2.mem ((c.tc : Thread nD τ).loc main_v12_4) = RYS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hh c => ⟨(arrAt_exact (dats m 0 c) fgt (Rl m c) 7 rfl _ _ ((hh.1 c).1 7)).trans (final7 m c),
      scales_final8 m c _ ((hh.1 c).1 8),
      (arrAt_exact (dats m 0 c) fgt (Rl m c) 9 rfl _ _ ((hh.1 c).1 9)).trans (final9 m c),
      (arrAt_exact (dats m 0 c) fgt (Rl m c) 10 rfl _ _ ((hh.1 c).1 10)).trans (final10 m c),
      scales_final11 m c _ ((hh.1 c).1 11), kept m c r hh.1⟩) (run_main_quiescent m ρ)

end Cert.Proof.OProjKernel

end
-- ==== Proof.OProjRun.lean ====
/-
  The run of the output projection's kernel at any float instance: the body's triple, the proof data and the frame.

  Ten windows are exact: seven inputs stay at their blocks, and windows 7 (the codes of the attention), 9 (the residual)
  and 10 (the codes of the second norm) end at what the body stores. Windows 8 and 11 are the two arrays of scales. Each
  stays in its buffer over the whole grid while each point stores one row piece at an offset depending on the point; of
  each the proof says, at each point, that every piece stored so far is still in place. At the last point that names
  every element.
-/
module

public import proofs.«01_k».proof.Proof.Gen.OProj.Frame
public import proofs.«01_k».proof.Proof.Gen.OProj.Skeleton
public import Idealize.ShloMosaic.Lib.Pipeline.DatRel
public import Idealize.ShloMosaic.Lib.Pipeline.Cells

@[expose] public section

set_option maxRecDepth 16384

noncomputable section

namespace Cert.Proof.OProjRun

open Cert.OProj Cert.OProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S256x1024 := Rect.unit (s := S256x1024) ![0, 0] S256x1024.size inb_S256x1024_S256x1024_0_0
abbrev r0_1 : Rect S256x4096 := Rect.unit (s := S256x4096) ![0, 0] S256x4096.size inb_S256x4096_S256x4096_0_0
abbrev r0_2 : Rect S1024x4096 := Rect.unit (s := S1024x4096) ![0, 0] S1024x4096.size inb_S1024x4096_S1024x4096_0_0
abbrev r0_3 : Rect S1x4096 := Rect.unit (s := S1x4096) ![0, 0] S1x4096.size inb_S1x4096_S1x4096_0_0
abbrev r0_4 : Rect S1x1 := Rect.unit (s := S1x1) ![0, 0] S1x1.size inb_S1x1_S1x1_0_0
/-- The two halves of a block's row of flags. -/
abbrev r0_6a : Rect S1x1x256 := Rect.unit (s := S1x1x256) ![0, 0, 0] S1x1x128.size inb_S1x1x256_S1x1x128_0_0_0
abbrev r0_6b : Rect S1x1x256 := Rect.unit (s := S1x1x256) ![0, 0, 128] S1x1x128.size inb_S1x1x256_S1x1x128_0_0_128
/-- Where the scales of a point go. -/
abbrev rs (i : grid0.Coords) : Rect S3x512 := Rect.unit (s := S3x512) (k0_off1 i) S1x256.size (k0_off1_inb i)

/-! ## What the body stores -/

/-- The scales of a block of the attention, as a column. -/
abbrev colB (x0 : Vec F S256x1024 .f32) : FVec F S256x1 .f32 := k0_pay2 (View.ld x0 r0_0)
/-- The codes of a block of the attention. -/
abbrev codesB (x0 : Vec F S256x1024 .f32) : FVec F S256x1024 .fp8e4m3 := k0_pay3 (View.ld x0 r0_0)
/-- The row piece of scales of a block of the attention. -/
def scalesB (x0 : Vec F S256x1024 .f32) : FVec F S1x256 .f32 := k0_pay6 (k0_pay4 (View.ld x0 r0_0)) (k0_pay5 (View.ld x0 r0_0))
/-- The residual of a block. -/
abbrev hB (x0 : Vec F S256x1024 .f32) (x1 : Vec F S256x4096 .bf16) (x2 : Vec F S1024x4096 .fp8e4m3) (x3 : Vec F S1x4096 .f32) (x4 : Vec F S1x1 .f32) : FVec F S256x4096 .f32 :=
  k0_pay7 (colB x0) (codesB x0) (View.ld x2 r0_2) (View.ld x3 r0_3) (View.ld x1 r0_1) (View.ld x4 r0_4)
/-- The codes of the second norm of a block. -/
abbrev ycodesB (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : FVec F S256x4096 .fp8e4m3 :=
  k0_pay11 (k0_pay10 (hB x0 x1 x2 x3 x4) (View.ld x6 r0_6a) (View.ld x6 r0_6b) (View.ld x5 r0_3)) (Scalar.ofBits .f32 0xC3E00000#32)
/-- The row piece of scales of the second norm of a block. -/
def yscalesB (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : FVec F S1x256 .f32 :=
  k0_pay12 (k0_pay9 (hB x0 x1 x2 x3 x4) (View.ld x6 r0_6a) (View.ld x6 r0_6b) (View.ld x5 r0_3))

/-- The exact output windows' staging buffers after the body, from the input windows' blocks. -/
def out0_7 (x0 : Vec F S256x1024 .f32) : Vec F S256x1024 .fp8e4m3 := View.canon [⟨r0_0, codesB x0⟩]
def out0_9 (x0 : Vec F S256x1024 .f32) (x1 : Vec F S256x4096 .bf16) (x2 : Vec F S1024x4096 .fp8e4m3) (x3 : Vec F S1x4096 .f32) (x4 : Vec F S1x1 .f32) : Vec F S256x4096 .f32 := View.canon [⟨r0_1, hB x0 x1 x2 x3 x4⟩]
def out0_10 (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) : Vec F S256x4096 .fp8e4m3 := View.canon [⟨r0_1, ycodesB x0 x1 x2 x3 x4 x5 x6⟩]

/-- The stores cover the buffers. -/
theorem cover0_7 (p0 : Vec F S256x1024 .fp8e4m3) (y : S256x1024.Idx) :
    ∃ pc ∈ ([⟨r0_0, p0⟩] : List (View.Piece (Elt F) S256x1024 .fp8e4m3)), y ∈ pc.1.set :=
  View.cover_of_tiled [⟨r0_0, p0⟩] S256x1024.size (by rfl) y
theorem cover0_9 (p0 : Vec F S256x4096 .f32) (y : S256x4096.Idx) :
    ∃ pc ∈ ([⟨r0_1, p0⟩] : List (View.Piece (Elt F) S256x4096 .f32)), y ∈ pc.1.set :=
  View.cover_of_tiled [⟨r0_1, p0⟩] S256x4096.size (by rfl) y
theorem cover0_10 (p0 : Vec F S256x4096 .fp8e4m3) (y : S256x4096.Idx) :
    ∃ pc ∈ ([⟨r0_1, p0⟩] : List (View.Piece (Elt F) S256x4096 .fp8e4m3)), y ∈ pc.1.set :=
  View.cover_of_tiled [⟨r0_1, p0⟩] S256x4096.size (by rfl) y

/-- A scales' buffer found at `Y` and left at `X`: the piece at point `i` is `w`, the rest is as found. -/
def Put (i : grid0.Coords) (w : Vec F S1x256 .f32) (Y X : Vec F S3x512 .f32) : Prop :=
  (∀ x : (rs i).shape.Idx, X ((rs i).emb x) = w x) ∧ ∀ y, y ∉ (rs i).set → X y = Y y

/-- One store over any contents is such a change. -/
theorem put_write (i : grid0.Coords) (w : Vec F S1x256 .f32) (v : View sig .tc .vmem S3x512 .f32) (f : v.ty.Contents (Elt F)) :
    Put i w (v.read (Elt F) f) (v.read (Elt F) (v.writes (Elt F) f [⟨rs i, w⟩])) := by
  constructor
  · intro x; rw [View.read_writes_cons_emb]
  · intro y hy
    have hy' : y ∉ Finset.univ.map (rs i).emb := by rwa [Rect.map_emb_univ]
    rw [View.writes_cons, View.read_slice_write_of_not_mem (rs i) _ _ _ hy']; rfl

/-! ## The body's triple -/

set_option maxHeartbeats 4000000 in
/-- The kernel body on whole staging buffers: inputs kept, three outputs stored whole, of the scales one piece each. -/
theorem sound_kernel (c : Dev nD) (E : Set ℕ) (i : grid0.Coords) (arg1 : Memref sig .tc .vmem S256x1024 .f32) (harg1 : arg1.IsWhole) (arg2 : Memref sig .tc .vmem S256x4096 .bf16) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x4096 .f32) (harg6 : arg6.IsWhole) (arg7 : Memref sig .tc .vmem S1x1x256 .f32) (harg7 : arg7.IsWhole) (arg8 : Memref sig .tc .vmem S256x1024 .fp8e4m3) (harg8 : arg8.IsWhole) (arg9 : Memref sig .tc .vmem S3x512 .f32) (harg9 : arg9.IsWhole) (arg10 : Memref sig .tc .vmem S256x4096 .f32) (harg10 : arg10.IsWhole) (arg11 : Memref sig .tc .vmem S256x4096 .fp8e4m3) (harg11 : arg11.IsWhole) (arg12 : Memref sig .tc .vmem S3x512 .f32) (harg12 : arg12.IsWhole)
    (x0 : Vec F S256x1024 .f32) (x1 : Vec F S256x4096 .bf16) (x2 : Vec F S1024x4096 .fp8e4m3) (x3 : Vec F S1x4096 .f32) (x4 : Vec F S1x1 .f32) (x5 : Vec F S1x4096 .f32) (x6 : Vec F S1x1x256 .f32) (Y8 Y11 : Vec F S3x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare Y8 ∗ (∃ d, owns (c : Thread nD τ) arg10 fullShare d) ∗ (∃ d, owns (c : Thread nD τ) arg11 fullShare d) ∗ owns (c : Thread nD τ) arg12 fullShare Y11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0) ∗ (∃ X, ⌜Put i (scalesB x0) Y8 X⌝ ∗ owns (c : Thread nD τ) arg9 fullShare X) ∗ owns (c : Thread nD τ) arg10 fullShare (out0_9 x0 x1 x2 x3 x4) ∗ owns (c : Thread nD τ) arg11 fullShare (out0_10 x0 x1 x2 x3 x4 x5 x6) ∗ (∃ X, ⌜Put i (yscalesB x0 x1 x2 x3 x4 x5 x6) Y11 X⌝ ∗ owns (c : Thread nD τ) arg12 fullShare X)) -∗ K ⟨⟩))
      ⊢ wp frame (wpE (defs₀ (F := F)) Variants.none c none) E (cc0_o_proj i arg1 harg1 arg2 harg2 arg3 harg3 arg4 harg4 arg5 harg5 arg6 harg6 arg7 harg7 arg8 harg8 arg9 harg9 arg10 harg10 arg11 harg11 arg12 harg12) K := by
  simp only [cc0_o_proj_eq_skeleton]; unfold cc0_o_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, Hk⟩
  subst hf0 hf1 hf2 hf3 hf4 hf5 hf6 hf8 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _
    isplitr
    swap
    · iexists _; isplitr
      swap; · iexact H8
      ipureintro; rfl
    ipureintro
    exact put_write i _ _ _
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _
  isplitr
  swap
  · iexists _; isplitr
    swap; · iexact H11
    ipureintro; rfl
  ipureintro
  exact put_write i _ _ _

/-! ## The pipeline's proof data -/

/-- The proof data: the arrays as the region finds them, each input's buffer at its block, the exact outputs' buffers at
    what the body stores; of the scales' buffers the entries here are not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t)
    | ⟨8, _⟩ => fun _ => Scalar.ofBits .f32 0x00000000#32
    | ⟨9, _⟩ => out0_9 (iblk m c 0 t) (iblk m c 1 t) (iblk m c 2 t) (iblk m c 3 t) (iblk m c 4 t)
    | ⟨10, _⟩ => out0_10 (iblk m c 0 t) (iblk m c 1 t) (iblk m c 2 t) (iblk m c 3 t) (iblk m c 4 t) (iblk m c 5 t) (iblk m c 6 t)
    | ⟨11, _⟩ => fun _ => Scalar.ofBits .f32 0x00000000#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## What is known of the scales' buffers -/

/-- The row pieces of scales stored at point `s`. -/
def rowAt8 (c : Dev nD) (s : Fin cfg0.N) : Vec F S1x256 .f32 := scalesB (iblk m c 0 s)
def rowAt11 (c : Dev nD) (s : Fin cfg0.N) : Vec F S1x256 .f32 := yscalesB (iblk m c 0 s) (iblk m c 1 s) (iblk m c 2 s) (iblk m c 3 s) (iblk m c 4 s) (iblk m c 5 s) (iblk m c 6 s)

/-- After point `t` every piece of `row` stored so far is in place. -/
def Known (row : Fin cfg0.N → Vec F S1x256 .f32) (t : Fin cfg0.N) (X : Vec F S3x512 .f32) : Prop :=
  ∀ s : Fin cfg0.N, s.val ≤ t.val → ∀ x : (rs (grid0.coords s)).shape.Idx, X ((rs (grid0.coords s)).emb x) = row s x

/-- Only the scales' windows are held to a predicate. -/
def fgt (w : Fin cfg0.W) : Bool := match w with
  | ⟨8, _⟩ => true
  | ⟨11, _⟩ => true
  | _ => false

/-- The predicate, window by window. -/
def Rl (c : Dev nD) (w : Fin cfg0.W) (t : Fin cfg0.N) : ((cfg0.win w).block.Idx → Elt F (cfg0.win w).elt) → Prop := match w with
  | ⟨8, _⟩ => fun X => Known (rowAt8 m c) t X
  | ⟨11, _⟩ => fun X => Known (rowAt11 m c) t X
  | _ => fun _ => True

theorem off_sep : ∀ s t : Fin grid0.N, s ≠ t → ∃ a, k0_off1 (grid0.coords s) a + S1x256.size a ≤ k0_off1 (grid0.coords t) a ∨ k0_off1 (grid0.coords t) a + S1x256.size a ≤ k0_off1 (grid0.coords s) a := by
  decide +kernel

/-- The pieces of two points do not meet. -/
theorem piece_not_mem (s t : Fin grid0.N) (h : s ≠ t) (x : (rs (grid0.coords s)).shape.Idx) : (rs (grid0.coords s)).emb x ∉ (rs (grid0.coords t)).set := by
  intro hm
  obtain ⟨a, ha⟩ := off_sep s t h
  have h1 := Rect.mem_set_unit.mp hm a
  have h2 := Rect.mem_set_unit.mp (show (rs (grid0.coords s)).emb x ∈ (rs (grid0.coords s)).set from (rs (grid0.coords s)).idx_mem x) a
  omega

theorem fetch8 : ∀ t : Fin cfg0.N, (cfg0.win 8).fetch t = false := by
  intro t; rfl

/-- The buffer found at point `t` has the earlier pieces in place; storing one more gives `Known` at `t`. -/
theorem known_step8 (c : Dev nD) (t : Fin cfg0.N) (Y X : Vec F S3x512 .f32)
    (hY : ((dats m 0 c).toRRel fgt (Rl m c)).Finds 8 t Y) (hX : Put (grid0.coords t) (rowAt8 m c t) Y X) : Known (rowAt8 m c) t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch8 t) ht Y).mp hY with hf | hl
    · exfalso
      have := (flush0_8 _).mp hf
      have htN : t.val < 6 := t.isLt
      simp only at this
      omega
    · have hk : Known (rowAt8 m c) _ Y := Dat.toRRel_leaves (dats m 0 c) (fgt := fgt) (Rl := Rl m c) (w := 8) rfl hl
      exact hk s (by show s.val ≤ t.val - 1; omega) x

theorem fetch11 : ∀ t : Fin cfg0.N, (cfg0.win 11).fetch t = false := by
  intro t; rfl

/-- The buffer found at point `t` has the earlier pieces in place; storing one more gives `Known` at `t`. -/
theorem known_step11 (c : Dev nD) (t : Fin cfg0.N) (Y X : Vec F S3x512 .f32)
    (hY : ((dats m 0 c).toRRel fgt (Rl m c)).Finds 11 t Y) (hX : Put (grid0.coords t) (rowAt11 m c t) Y X) : Known (rowAt11 m c) t X := by
  intro s hs x
  by_cases hst : s = t
  · subst hst; exact hX.1 x
  · rw [hX.2 _ (piece_not_mem s t hst x)]
    have hne : s.val ≠ t.val := fun h => hst (Fin.ext h)
    have ht : t.val ≠ 0 := by omega
    rcases (RDat.finds_of_pos _ (fetch11 t) ht Y).mp hY with hf | hl
    · exfalso
      have := (flush0_11 _).mp hf
      have htN : t.val < 6 := t.isLt
      simp only at this
      omega
    · have hk : Known (rowAt11 m c) _ Y := Dat.toRRel_leaves (dats m 0 c) (fgt := fgt) (Rl := Rl m c) (w := 11) rfl hl
      exact hk s (by show s.val ≤ t.val - 1; omega) x

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜((dats m 0 c).toRRel fgt (Rl m c)).Finds 8 t Y⌝ ∗ owns (c : Thread nD τ) (st0_8 t) fullShare Y)
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜((dats m 0 c).toRRel fgt (Rl m c)).Finds 11 t Y⌝ ∗ owns (c : Thread nD τ) (st0_11 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜Rl m c 8 t X⌝ ∗ owns (c : Thread nD τ) (st0_8 t) fullShare X)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%d10, H10⟩, ⟨%Y11, %hY11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y8 Y11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexact H11
  iintro ⟨H0, H1, H2, H3, H4, H5, H6, H7, ⟨%X8, %hX8, H8⟩, H9, H10, ⟨%X11, %hX11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists X8; isplitr
    · ipureintro; exact known_step8 m c t Y8 X8 hY8 hX8
    iexact H8
  isplitl [H9]; · iexact H9
  isplitl [H10]; · iexact H10
  iexists X11; isplitr
  · ipureintro; exact known_step11 m c t Y11 X11 hY11 hX11
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- The relational proof data. -/
abbrev rdats (c : Dev nD) : RDat τ (Elt F) Unit ℕ (UR sig nD τ) ℕ cfg0 c := (dats m 0 c).toRRel fgt (Rl m c)

set_option backward.isDefEq.respectTransparency.types false in
set_option maxHeartbeats 800000 in
theorem run_main_quiescent : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem A_eq' (c : Dev nD) (w : Fin cfg0.W) : (rdats m c).A w = V m c (Pipeline.arrRef spec0 w) := A_eq m c w

/-- The arguments after the run. -/
theorem kept (c : Dev nD) (r) (h : Pipeline.RDat.FramePost cfg0 (rdats m) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((A_eq' m c 2).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The frame: every execution ends, the argument arrays are unchanged and the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hh => ⟨fun c => kept m c r hh.1, hh.2⟩) (run_main_quiescent m ρ)

end Cert.Proof.OProjRun

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownIdeal.Value
public import proofs.«01_k».proof.Proof.Gen.DownReferenceIdeal.Value
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.GateUpReferenceIdeal.Value
public import proofs.«01_k».proof.Proof.Gen.TextQ
public import proofs.«01_k».proof.Proof.Gen.TextQ.Skeleton
public import proofs.«01_k».proof.Proof.Gen.TextQ.Launch
public import proofs.«01_k».proof.Proof.Gen.TextQ.Points
public import proofs.«01_k».proof.Proof.Gen.TextQ.Frame
public import proofs.«01_k».proof.Proof.Gen.TextQIdeal
public import proofs.«01_k».proof.Proof.Gen.TextQIdeal.Skeleton
public import proofs.«01_k».proof.Proof.Gen.TextQIdeal.Launch
public import proofs.«01_k».proof.Proof.Gen.TextQIdeal.Points
public import proofs.«01_k».proof.Proof.Gen.TextQIdeal.Frame
public import proofs.«01_k».proof.Proof.Gen.TextQReferenceIdeal
public import proofs.«01_k».proof.Proof.Gen.TextQReferenceIdeal.Skeleton
public import proofs.«01_k».proof.Proof.Gen.TextQReferenceIdeal.Launch
public import proofs.«01_k».proof.Proof.Gen.TextQReferenceIdeal.Points
public import proofs.«01_k».proof.Proof.Gen.TextQReferenceIdeal.Frame
public import proofs.«01_k».proof.Proof.Gen.TextQReferenceIdeal.Value
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjReferenceIdeal
public import proofs.«01_k».proof.Proof.Gen.OProjReferenceIdeal.Skeleton
public import proofs.«01_k».proof.Proof.Gen.OProjReferenceIdeal.Launch
public import proofs.«01_k».proof.Proof.Gen.OProjReferenceIdeal.Points
public import proofs.«01_k».proof.Proof.Gen.OProjReferenceIdeal.Frame
public import proofs.«01_k».proof.Proof.Gen.OProjReferenceIdeal.Value
public import proofs.«01_k».proof.Proof.DownRef
public import proofs.«01_k».proof.Proof.DownKernel
public import proofs.«01_k».proof.Proof.GateUpRef
public import proofs.«01_k».proof.Proof.GateUpKernel
public import proofs.«01_k».proof.Proof.GateUpRun
public import proofs.«01_k».proof.Proof.GateUpIdealRun
public import proofs.«01_k».proof.Proof.TextQRef
public import proofs.«01_k».proof.Proof.TextQKernel
public import proofs.«01_k».proof.Proof.TextQRun
public import proofs.«01_k».proof.Proof.TextQIdealRun
public import proofs.«01_k».proof.Proof.OProjRef
public import proofs.«01_k».proof.Proof.OProjKernel
public import proofs.«01_k».proof.Proof.OProjRun
public import proofs.«01_k».proof.Proof.OProjIdealRun
public import Idealize.ShloMosaic.Adequacy
public import Idealize.ShloMosaic.Init

@[expose] public section

noncomputable section

namespace Cert.Proof

open Idealize.ShloMosaic Idealize.SL.Sem Cert.Down

/-- The kernel and the reference, from equal arguments, leave the same extended reals in their results. -/
theorem algebraic_down : algebraic_DownIdeal_DownReferenceIdeal (hDownIdeal := Cert.DownIdeal.Gen.facts)
    (hDownReferenceIdeal := Cert.DownReferenceIdeal.Gen.facts) := by
  intro m g m' g' _ hm
  refine ⟨fun c => DownKernel.R m c, ?_, ?_⟩
  · exact (θ_run _ _ _).mono (fun r h c => ⟨(h c).1.trans (DownKernel.final6 m c), (h c).2⟩)
      (Cert.DownIdeal.Value.run_blocks m g)
  · refine (θ_run _ _ _).mono (fun r h c => ⟨((h c).1.trans (DownRef.final6 m' c)).trans ?_, (h c).2⟩)
      (Cert.DownReferenceIdeal.Value.run_blocks m' g')
    obtain ⟨e0, e1, e2, e3, e4, e5⟩ := hm c
    show DownSpec.G _ _ _ _ _ _ = DownSpec.G _ _ _ _ _ _
    rw [e0, e1, e2, e3, e4, e5]

/-- The same of the gate and up projection: both results, the codes and their scales. -/
theorem algebraic_gate_up : algebraic_GateUpIdeal_GateUpReferenceIdeal (hGateUpIdeal := Cert.GateUpIdeal.Gen.facts)
    (hGateUpReferenceIdeal := Cert.GateUpReferenceIdeal.Gen.facts) := by
  intro m g m' g' _ hm
  refine ⟨fun c => GateUpKernel.RC m c, fun c => GateUpKernel.RS m c, GateUpKernel.run_values m g, ?_⟩
  refine (θ_run _ _ _).mono (fun r h c => ⟨((h c).1.trans (GateUpRef.final6 m' c)).trans ?_,
      ((h c).2.1.trans (GateUpRef.final7 m' c)).trans ?_, (h c).2.2⟩)
    (Cert.GateUpReferenceIdeal.Value.run_blocks m' g')
  · obtain ⟨e0, e1, e2, e3, e4, e5⟩ := hm c
    show GateUpSpec.C _ _ _ _ _ _ = GateUpSpec.C _ _ _ _ _ _
    rw [e0, e1, e2, e3, e4, e5]
  · obtain ⟨e0, e1, e2, e3, e4, e5⟩ := hm c
    show GateUpSpec.S _ _ _ _ _ _ = GateUpSpec.S _ _ _ _ _ _
    rw [e0, e1, e2, e3, e4, e5]

/-- The same of the query projection: the codes of the normed input, their scales and the queries. -/
theorem algebraic_text_q : algebraic_TextQIdeal_TextQReferenceIdeal (hTextQIdeal := Cert.TextQIdeal.Gen.facts)
    (hTextQReferenceIdeal := Cert.TextQReferenceIdeal.Gen.facts) := by
  intro m g m' g' _ hm
  refine ⟨fun c => TextQKernel.RC m c, fun c => TextQKernel.RS m c, fun c => TextQKernel.RQ m c, TextQKernel.run_values m g, ?_⟩
  refine (θ_run _ _ _).mono (fun r h c => ⟨((h c).1.trans (TextQRef.final5 m' c)).trans ?_,
      ((h c).2.1.trans (TextQRef.final6 m' c)).trans ?_, ((h c).2.2.1.trans (TextQRef.final7 m' c)).trans ?_, (h c).2.2.2⟩)
    (Cert.TextQReferenceIdeal.Value.run_blocks m' g')
  · obtain ⟨e0, e1, e2, e3, e4⟩ := hm c
    show TextQSpec.C _ _ = TextQSpec.C _ _
    rw [e0, e1]
  · obtain ⟨e0, e1, e2, e3, e4⟩ := hm c
    show TextQSpec.S _ _ = TextQSpec.S _ _
    rw [e0, e1]
  · obtain ⟨e0, e1, e2, e3, e4⟩ := hm c
    show TextQSpec.Q _ _ _ _ _ = TextQSpec.Q _ _ _ _ _
    rw [e0, e1, e2, e3, e4]

/-- The same of the attention's output projection: the codes of the attention and their scales, the residual stream, and the codes
    of its second norm and their scales. -/
theorem algebraic_o_proj : algebraic_OProjIdeal_OProjReferenceIdeal (hOProjIdeal := Cert.OProjIdeal.Gen.facts)
    (hOProjReferenceIdeal := Cert.OProjReferenceIdeal.Gen.facts) := by
  intro m g m' g' _ hm
  refine ⟨fun c => OProjKernel.RAC m c, fun c => OProjKernel.RAS m c, fun c => OProjKernel.RH m c, fun c => OProjKernel.RYC m c,
    fun c => OProjKernel.RYS m c, OProjKernel.run_values m g, ?_⟩
  refine (θ_run _ _ _).mono (fun r h c => ⟨((h c).1.trans (OProjRef.final8 m' c)).trans ?_,
      ((h c).2.1.trans (OProjRef.final9 m' c)).trans ?_, ((h c).2.2.1.trans (OProjRef.final10 m' c)).trans ?_,
      ((h c).2.2.2.1.trans (OProjRef.final11 m' c)).trans ?_, ((h c).2.2.2.2.1.trans (OProjRef.final12 m' c)).trans ?_,
      (h c).2.2.2.2.2⟩)
    (Cert.OProjReferenceIdeal.Value.run_blocks m' g')
  · obtain ⟨e0, e1, e2, e3, e4, e5, e6, e7, e8⟩ := hm c
    show OProjSpec.AC _ = OProjSpec.AC _
    rw [e0]
  · obtain ⟨e0, e1, e2, e3, e4, e5, e6, e7, e8⟩ := hm c
    show OProjSpec.AS _ = OProjSpec.AS _
    rw [e0]
  · obtain ⟨e0, e1, e2, e3, e4, e5, e6, e7, e8⟩ := hm c
    show OProjSpec.H _ _ _ _ _ = OProjSpec.H _ _ _ _ _
    rw [e0, e1, e5, e6, e7]
  · obtain ⟨e0, e1, e2, e3, e4, e5, e6, e7, e8⟩ := hm c
    show OProjSpec.YC _ _ _ _ _ _ _ _ _ = OProjSpec.YC _ _ _ _ _ _ _ _ _
    rw [e0, e1, e2, e3, e4, e5, e6, e7, e8]
  · obtain ⟨e0, e1, e2, e3, e4, e5, e6, e7, e8⟩ := hm c
    show OProjSpec.YS _ _ _ _ _ _ _ _ _ = OProjSpec.YS _ _ _ _ _ _ _ _ _
    rw [e0, e1, e2, e3, e4, e5, e6, e7, e8]

theorem claim : Cert.Claim := ⟨Cert.GateUp.Gen.facts, Cert.GateUpIdeal.Gen.facts, Cert.GateUpReferenceIdeal.Gen.facts,
  Cert.Down.Gen.facts, Cert.DownIdeal.Gen.facts, Cert.DownReferenceIdeal.Gen.facts,
  Cert.TextQ.Gen.facts, Cert.TextQIdeal.Gen.facts, Cert.TextQReferenceIdeal.Gen.facts,
  Cert.OProj.Gen.facts, Cert.OProjIdeal.Gen.facts, Cert.OProjReferenceIdeal.Gen.facts,
  fun m g _ => GateUpRun.frame m g, fun m g _ => GateUpIdealRun.frame m g,
  fun m g _ => Cert.GateUpReferenceIdeal.Gen.frame m g,
  fun m g _ => Cert.Down.Gen.frame m g, fun m g _ => Cert.DownIdeal.Gen.frame m g,
  fun m g _ => Cert.DownReferenceIdeal.Gen.frame m g,
  fun m g _ => TextQRun.frame m g, fun m g _ => TextQIdealRun.frame m g,
  fun m g _ => Cert.TextQReferenceIdeal.Gen.frame m g,
  fun m g _ => OProjRun.frame m g, fun m g _ => OProjIdealRun.frame m g,
  fun m g _ => Cert.OProjReferenceIdeal.Gen.frame m g,
  trivial, algebraic_gate_up, trivial, algebraic_down, trivial, algebraic_text_q, trivial, algebraic_o_proj⟩

end Cert.Proof

end
